-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v2) = v1 c
          ∧ r.2.mem ((c.tc : Thread Cert.Reference2Ideal.nD Cert.Reference2Ideal.τ).loc Cert.Reference2Ideal.main_v3) = v2 c
          ∧ r.2.mem ((c.tc : Thread Cert.Reference2Ideal.nD Cert.Reference2Ideal.τ).loc Cert.Reference2Ideal.main_v4) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v39_0)) (v1 : (c : Dev Cert.Kernel4Ideal.nD) → Buf (Elt Ideal) ((c.tc : Thread Cert.Kernel4Ideal.nD Cert.Kernel4Ideal.τ).loc Cert.Kernel4Ideal.main_v39_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_0) = v0 c
          ∧ r.2.mem ((c.tc : Thread Cert.Kernel4Ideal.nD Cert.Kernel4Ideal.τ).loc Cert.Kernel4Ideal.main_v39_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v40_0)) (v1 : (c : Dev Cert.Kernel5Ideal.nD) → Buf (Elt Ideal) ((c.tc : Thread Cert.Kernel5Ideal.nD Cert.Kernel5Ideal.τ).loc Cert.Kernel5Ideal.main_v40_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v40_0) = v0 c
          ∧ r.2.mem ((c.tc : Thread Cert.Kernel5Ideal.nD Cert.Kernel5Ideal.τ).loc Cert.Kernel5Ideal.main_v40_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v2) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_logits : Cert.Pre_finite_logits.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite4.lean ====
abbrev S16384x1024 : Shape := ⟨2, ![16384, 1024]⟩
abbrev S1024x512 : Shape := ⟨2, ![1024, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16384x1024 .f32) (main_arg1 : FVec F S1024x512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Pre_finite5.lean ====
abbrev S16384x1024 : Shape := ⟨2, ![16384, 1024]⟩
abbrev S1024x2048 : Shape := ⟨2, ![1024, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S16384x1024 .f32) (main_arg1 : FVec F S1024x2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Pre_finite_logits.lean ====
abbrev S2x16x8192x128 : Shape := ⟨4, ![2, 16, 8192, 128]⟩
abbrev S16384x256 : Shape := ⟨2, ![16384, 256]⟩
abbrev S_ : Shape := ⟨0, ![]⟩

class Facts : Prop where
  bitsLt_bf16_f32 : FTy.bits .bf16 < FTy.bits .f32
  bcast_S_S2x16x8192x128 : S_.BroadcastsInDim S2x16x8192x128 (![] : Fin 0 → Fin S2x16x8192x128.rank)
  reducesTo_S2x16x8192x128_S_d0_1_2_3 : S2x16x8192x128.ReducesTo [0, 1, 2, 3] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S2x16x8192x128 .bf16) (main_arg1 : FVec F S16384x256 .f32) (main_arg2 : FVec F S16384x256 .f32) : IVec S_ 1 :=
  let main_v0 : FVec F S2x16x8192x128 .f32 := (extf .f32 · bitsLt_bf16_f32) main_arg0
  let main_v1 : FVec F S2x16x8192x128 .f32 := Host.absf main_v0
  let main_cst : FVec F S_ .f32 := constant S_ .f32 0x7F800000#32
  let main_v2 : FVec F S2x16x8192x128 .f32 := broadcastInDim S2x16x8192x128 ![] bcast_S_S2x16x8192x128 main_cst
  let main_v3 : IVec S2x16x8192x128 1 := cmpf .olt main_v1 main_v2
  let main_c : IVec S_ 1 := constantI S_ 1 1#1
  let main_v4 : IVec S_ 1 := (fun x v => Host.reduce IntOp.andi x v reducesTo_S2x16x8192x128_S_d0_1_2_3 h_S_) main_v3 main_c
  let main_v5 : FVec F S16384x256 .f32 := Host.absf main_arg1
  let main_cst_0 : FVec F S_ .f32 := constant S_ .f32 0x7F800000#32
  let main_v6 : FVec F S16384x256 .f32 := broadcastInDim S16384x256 ![] bcast_S_S16384x256 main_cst_0
  let main_v7 : IVec S16384x256 1 := cmpf .olt main_v5 main_v6
  let main_c_1 : IVec S_ 1 := constantI S_ 1 1#1
  let main_v8 : IVec S_ 1 := (fun x v => Host.reduce IntOp.andi x v reducesTo_S16384x256_S_d0_1 h_S_) main_v7 main_c_1
  let main_v9 : IVec S_ 1 := andi main_v4 main_v8
  main_v9
-- ==== Kernel.lean ====
abbrev S2x16x8192x128 : Shape := ⟨4, ![2, 16, 8192, 128]⟩
abbrev S16384x256 : Shape := ⟨2, ![16384, 256]⟩
abbrev S2x32x8x32x4x64 : Shape := ⟨6, ![2, 32, 8, 32, 4, 64]⟩
abbrev S2x4x32x32x8x64 : Shape := ⟨6, ![2, 4, 32, 32, 8, 64]⟩
abbrev S2x4x8192x64 : Shape := ⟨4, ![2, 4, 8192, 64]⟩
abbrev S_ : Shape := ⟨0, ![]⟩
abbrev S3 : Shape := ⟨1, ![3]⟩
abbrev S64 : Shape := ⟨1, ![64]⟩
abbrev S2x4x8192x128 : Shape := ⟨4, ![2, 4, 8192, 128]⟩
abbrev S2x4x64x32x32x8 : Shape := ⟨6, ![2, 4, 64, 32, 32, 8]⟩
abbrev S2x4x64x8192 : Shape := ⟨4, ![2, 4, 64, 8192]⟩
abbrev S256 : Shape := ⟨1, ![256]⟩
abbrev S8x32 : Shape := ⟨2, ![8, 32]⟩
abbrev S32x8 : Shape := ⟨2, ![32, 8]⟩
abbrev S256x1 : Shape := ⟨2, ![256, 1]⟩
abbrev S1x256 : Shape := ⟨2, ![1, 256]⟩
abbrev S256x256 : Shape := ⟨2, ![256, 256]⟩
abbrev S2x8192x1024 : Shape := ⟨3, ![2, 8192, 1024]⟩
abbrev S1x4x256x128 : Shape := ⟨4, ![1, 4, 256, 128]⟩
abbrev S1x1x8192x128 : Shape := ⟨4, ![1, 1, 8192, 128]⟩
abbrev S1x1x64x8192 : Shape := ⟨4, ![1, 1, 64, 8192]⟩
abbrev S1x256x256 : Shape := ⟨3, ![1, 256, 256]⟩
abbrev S4x64x256 : Shape := ⟨3, ![4, 64, 256]⟩
abbrev S8x1024 : Shape := ⟨2, ![8, 1024]⟩
abbrev S256x1024 : Shape := ⟨2, ![256, 1024]⟩
abbrev S4x256x128 : Shape := ⟨3, ![4, 256, 128]⟩
abbrev S1024x128 : Shape := ⟨2, ![1024, 128]⟩
abbrev S1x1x256x128 : Shape := ⟨4, ![1, 1, 256, 128]⟩
abbrev S256x128 : Shape := ⟨2, ![256, 128]⟩
abbrev S1x1x64x256 : Shape := ⟨4, ![1, 1, 64, 256]⟩
abbrev S64x256 : Shape := ⟨2, ![64, 256]⟩
abbrev S8x256 : Shape := ⟨2, ![8, 256]⟩
abbrev S1x1024 : Shape := ⟨2, ![1, 1024]⟩
abbrev S1x64x256 : Shape := ⟨3, ![1, 64, 256]⟩

abbrev nBuf : Space → Nat
  | .hbm => 34
  | .vmem => 13
  | .smem => 0
  | _ => 0

abbrev bufTy : (tb : Table) → Fin (tcTables nBuf tb) → BufTy
  | .hbm, ⟨0, _⟩ => ⟨S2x16x8192x128, .bf16⟩
  | .hbm, ⟨1, _⟩ => ⟨S16384x256, .f32⟩
  | .hbm, ⟨2, _⟩ => ⟨S16384x256, .f32⟩
  | .hbm, ⟨3, _⟩ => ⟨S16384x256, .bf16⟩
  | .hbm, ⟨4, _⟩ => ⟨S2x32x8x32x4x64, .bf16⟩
  | .hbm, ⟨5, _⟩ => ⟨S2x4x32x32x8x64, .bf16⟩
  | .hbm, ⟨6, _⟩ => ⟨S2x4x8192x64, .bf16⟩
  | .hbm, ⟨7, _⟩ => ⟨S_, .bf16⟩
  | .hbm, ⟨8, _⟩ => ⟨S3, .bf16⟩
  | .hbm, ⟨9, _⟩ => ⟨S_, .i32⟩
  | .hbm, ⟨10, _⟩ => ⟨S_, .bf16⟩
  | .hbm, ⟨11, _⟩ => ⟨S64, .bf16⟩
  | .hbm, ⟨12, _⟩ => ⟨S2x4x8192x64, .bf16⟩
  | .hbm, ⟨13, _⟩ => ⟨S2x4x8192x128, .bf16⟩
  | .hbm, ⟨14, _⟩ => ⟨S16384x256, .bf16⟩
  | .hbm, ⟨15, _⟩ => ⟨S2x32x8x32x4x64, .bf16⟩
  | .hbm, ⟨16, _⟩ => ⟨S2x4x64x32x32x8, .bf16⟩
  | .hbm, ⟨17, _⟩ => ⟨S2x4x64x8192, .bf16⟩
  | .hbm, ⟨18, _⟩ => ⟨S256, .i32⟩
  | .hbm, ⟨19, _⟩ => ⟨S8x32, .i32⟩
  | .hbm, ⟨20, _⟩ => ⟨S32x8, .i32⟩
  | .hbm, ⟨21, _⟩ => ⟨S256, .i32⟩
  | .hbm, ⟨22, _⟩ => ⟨S256x1, .i32⟩
  | .hbm, ⟨23, _⟩ => ⟨S256, .i32⟩
  | .hbm, ⟨24, _⟩ => ⟨S1x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S_, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S2x8192x1024, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x64x8192, .bf16⟩
  | .local _ .vmem, ⟨5, _⟩ => ⟨S1x1x64x8192, .bf16⟩
  | .local _ .vmem, ⟨6, _⟩ => ⟨S256x256, .f32⟩
  | .local _ .vmem, ⟨7, _⟩ => ⟨S1x256x256, .f32⟩
  | .local _ .vmem, ⟨8, _⟩ => ⟨S1x256x256, .f32⟩
  | .local _ .vmem, ⟨9, _⟩ => ⟨S4x64x256, .f32⟩
  | .local _ .vmem, ⟨10, _⟩ => ⟨S8x1024, .f32⟩
  | .local _ .vmem, ⟨11, _⟩ => ⟨S256x1024, .f32⟩
  | .local _ .vmem, ⟨12, _⟩ => ⟨S256x1024, .f32⟩
  | _, _ => ⟨S2x16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v12 : BitVec 32 := Scalar.muli arg2 c256_i32
  v12
def k0_off1 (i : grid0.Coords) : Fin 4 → Nat :=
  let c0_9 : Index := 0#32
  let c0_10 : Index := 0#32
  let arg2 : BitVec 32 := BitVec.ofNat 32 (i 2).val
  let c256_i32 : BitVec 32 := 256#32
  let v12 : BitVec 32 := Scalar.muli arg2 c256_i32
  let v13 : BitVec 32 := v12
  let v14 : Index := Scalar.indexCast v13
  let c0_11 : Index := 0#32
  ![0, 0, v14.toNat, 0]
def k0_mult2 (i : grid0.Coords) : BitVec 32 :=
  let arg2 : BitVec 32 := BitVec.ofNat 32 (i 2).val
  let c256_i32_15 : BitVec 32 := 256#32
  let v21 : BitVec 32 := Scalar.muli arg2 c256_i32_15
  v21
def k0_off2 (i : grid0.Coords) : Fin 4 → Nat :=
  let c0_16 : Index := 0#32
  let c0_17 : Index := 0#32
  let c0_18 : Index := 0#32
  let arg2 : BitVec 32 := BitVec.ofNat 32 (i 2).val
  let c256_i32_15 : BitVec 32 := 256#32
  let v21 : BitVec 32 := Scalar.muli arg2 c256_i32_15
  let v22 : BitVec 32 := v21
  let v23 : Index := Scalar.indexCast v22
  ![0, 0, 0, v23.toNat]
def k0_mult3 (i : grid0.Coords) : BitVec 32 :=
  let arg2 : BitVec 32 := BitVec.ofNat 32 (i 2).val
  let c1_i32 : BitVec 32 := 1#32
  let v667 : BitVec 32 := Scalar.subi arg2 c1_i32
  let c0_i32 : BitVec 32 := 0#32
  let v668 : BitVec 32 := Scalar.maxsi v667 c0_i32
  let c256_i32_277 : BitVec 32 := 256#32
  let v669 : BitVec 32 := Scalar.muli v668 c256_i32_277
  v669
def k0_off3 (i : grid0.Coords) : Fin 4 → Nat :=
  let c0_278 : Index := 0#32
  let c0_279 : Index := 0#32
  let arg2 : BitVec 32 := BitVec.ofNat 32 (i 2).val
  let c1_i32 : BitVec 32 := 1#32
  let v667 : BitVec 32 := Scalar.subi arg2 c1_i32
  let c0_i32 : BitVec 32 := 0#32
  let v668 : BitVec 32 := Scalar.maxsi v667 c0_i32
  let c256_i32_277 : BitVec 32 := 256#32
  let v669 : BitVec 32 := Scalar.muli v668 c256_i32_277
  let v670 : BitVec 32 := v669
  let v671 : Index := Scalar.indexCast v670
  let c0_280 : Index := 0#32
  ![0, 0, v671.toNat, 0]
@[reducible] def k0_t1_loop (i : grid0.Coords) : Scf.Loop 32 :=
  let c0_i32_711 : BitVec 32 := 0#32
  let arg2 : BitVec 32 := BitVec.ofNat 32 (i 2).val
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_713 : BitVec 32 := 1#32
  ⟨c0_i32_711, v1409, c1_i32_713⟩
def k0_mult4 (i : grid0.Coords) (k0_t1 : Fin (k0_t1_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let c0_i32_736 : BitVec 32 := 0#32
  let v1434 : BitVec 32 := Scalar.subi v1433 c0_i32_736
  let c256_i32_737 : BitVec 32 := 256#32
  let v1435 : BitVec 32 := Scalar.muli v1434 c256_i32_737
  v1435
def k0_off4 (i : grid0.Coords) (k0_t1 : Fin (k0_t1_loop i).trips) (c0_i32_736 : BitVec 32) : Fin 4 → Nat :=
  let c0_738 : Index := 0#32
  let c0_739 : Index := 0#32
  let c0_740 : Index := 0#32
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let v1434 : BitVec 32 := Scalar.subi v1433 c0_i32_736
  let c256_i32_737 : BitVec 32 := 256#32
  let v1435 : BitVec 32 := Scalar.muli v1434 c256_i32_737
  let v1436 : BitVec 32 := v1435
  let v1437 : Index := Scalar.indexCast v1436
  ![0, 0, 0, v1437.toNat]
def k0_mult5 (i : grid0.Coords) (k0_t1 : Fin (k0_t1_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let c0_i32_736 : BitVec 32 := 0#32
  let v1434 : BitVec 32 := Scalar.subi v1433 c0_i32_736
  let c1_i32_934 : BitVec 32 := 1#32
  let v1953 : BitVec 32 := Scalar.subi v1434 c1_i32_934
  let c0_i32_935 : BitVec 32 := 0#32
  let v1954 : BitVec 32 := Scalar.maxsi v1953 c0_i32_935
  let c256_i32_936 : BitVec 32 := 256#32
  let v1955 : BitVec 32 := Scalar.muli v1954 c256_i32_936
  v1955
def k0_off5 (i : grid0.Coords) (k0_t1 : Fin (k0_t1_loop i).trips) (c0_i32_736 : BitVec 32) : Fin 4 → Nat :=
  let c0_937 : Index := 0#32
  let c0_938 : Index := 0#32
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let v1434 : BitVec 32 := Scalar.subi v1433 c0_i32_736
  let c1_i32_934 : BitVec 32 := 1#32
  let v1953 : BitVec 32 := Scalar.subi v1434 c1_i32_934
  let c0_i32_935 : BitVec 32 := 0#32
  let v1954 : BitVec 32 := Scalar.maxsi v1953 c0_i32_935
  let c256_i32_936 : BitVec 32 := 256#32
  let v1955 : BitVec 32 := Scalar.muli v1954 c256_i32_936
  let v1956 : BitVec 32 := v1955
  let v1957 : Index := Scalar.indexCast v1956
  let c0_939 : Index := 0#32
  ![0, 0, v1957.toNat, 0]
def k0_mult6 (i : grid0.Coords) (k0_t1 : Fin (k0_t1_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let c1_i32_1240 : BitVec 32 := 1#32
  let v2674 : BitVec 32 := Scalar.subi v1433 c1_i32_1240
  let c256_i32_1241 : BitVec 32 := 256#32
  let v2675 : BitVec 32 := Scalar.muli v2674 c256_i32_1241
  v2675
def k0_mult7 (i : grid0.Coords) (k0_t1 : Fin (k0_t1_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let c1_i32_1240 : BitVec 32 := 1#32
  let v2674 : BitVec 32 := Scalar.subi v1433 c1_i32_1240
  let c1_i32_1438 : BitVec 32 := 1#32
  let v3193 : BitVec 32 := Scalar.subi v2674 c1_i32_1438
  let c0_i32_1439 : BitVec 32 := 0#32
  let v3194 : BitVec 32 := Scalar.maxsi v3193 c0_i32_1439
  let c256_i32_1440 : BitVec 32 := 256#32
  let v3195 : BitVec 32 := Scalar.muli v3194 c256_i32_1440
  v3195
def k0_mult8 (i : grid0.Coords) (k0_t1 : Fin (k0_t1_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let c2_i32 : BitVec 32 := 2#32
  let v3914 : BitVec 32 := Scalar.subi v1433 c2_i32
  let c256_i32_1744 : BitVec 32 := 256#32
  let v3915 : BitVec 32 := Scalar.muli v3914 c256_i32_1744
  v3915
def k0_mult9 (i : grid0.Coords) (k0_t1 : Fin (k0_t1_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let c2_i32 : BitVec 32 := 2#32
  let v3914 : BitVec 32 := Scalar.subi v1433 c2_i32
  let c1_i32_1941 : BitVec 32 := 1#32
  let v4433 : BitVec 32 := Scalar.subi v3914 c1_i32_1941
  let c0_i32_1942 : BitVec 32 := 0#32
  let v4434 : BitVec 32 := Scalar.maxsi v4433 c0_i32_1942
  let c256_i32_1943 : BitVec 32 := 256#32
  let v4435 : BitVec 32 := Scalar.muli v4434 c256_i32_1943
  v4435
def k0_mult10 (i : grid0.Coords) (k0_t1 : Fin (k0_t1_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let c3_i32 : BitVec 32 := 3#32
  let v5154 : BitVec 32 := Scalar.subi v1433 c3_i32
  let c256_i32_2247 : BitVec 32 := 256#32
  let v5155 : BitVec 32 := Scalar.muli v5154 c256_i32_2247
  v5155
def k0_mult11 (i : grid0.Coords) (k0_t1 : Fin (k0_t1_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c1_i32_713 : BitVec 32 := 1#32
  let arg12 : BitVec 32 := Scf.iv c0_i32_711 c1_i32_713 k0_t1
  let v1432 : BitVec 32 := Scalar.muli c4_i32_735 arg12
  let v1433 : BitVec 32 := Scalar.subi v1431 v1432
  let c3_i32 : BitVec 32 := 3#32
  let v5154 : BitVec 32 := Scalar.subi v1433 c3_i32
  let c1_i32_2444 : BitVec 32 := 1#32
  let v5673 : BitVec 32 := Scalar.subi v5154 c1_i32_2444
  let c0_i32_2445 : BitVec 32 := 0#32
  let v5674 : BitVec 32 := Scalar.maxsi v5673 c0_i32_2445
  let c256_i32_2446 : BitVec 32 := 256#32
  let v5675 : BitVec 32 := Scalar.muli v5674 c256_i32_2446
  v5675
@[reducible] def k0_t2_loop (i : grid0.Coords) : Scf.Loop 32 :=
  let c0_i32_711 : BitVec 32 := 0#32
  let arg2 : BitVec 32 := BitVec.ofNat 32 (i 2).val
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let v1406 : BitVec 32 := Scalar.addi c0_i32_711 v1405
  let c1_i32_714 : BitVec 32 := 1#32
  ⟨v1409, v1406, c1_i32_714⟩
def k0_mult12 (i : grid0.Coords) (k0_t2 : Fin (k0_t2_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let c0_i32_736 : BitVec 32 := 0#32
  let v1434 : BitVec 32 := Scalar.subi v1433 c0_i32_736
  let c256_i32_737 : BitVec 32 := 256#32
  let v1435 : BitVec 32 := Scalar.muli v1434 c256_i32_737
  v1435
def k0_off6 (i : grid0.Coords) (k0_t2 : Fin (k0_t2_loop i).trips) (c0_i32_736 : BitVec 32) : Fin 4 → Nat :=
  let c0_738 : Index := 0#32
  let c0_739 : Index := 0#32
  let c0_740 : Index := 0#32
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let v1434 : BitVec 32 := Scalar.subi v1433 c0_i32_736
  let c256_i32_737 : BitVec 32 := 256#32
  let v1435 : BitVec 32 := Scalar.muli v1434 c256_i32_737
  let v1436 : BitVec 32 := v1435
  let v1437 : Index := Scalar.indexCast v1436
  ![0, 0, 0, v1437.toNat]
def k0_mult13 (i : grid0.Coords) (k0_t2 : Fin (k0_t2_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let c0_i32_736 : BitVec 32 := 0#32
  let v1434 : BitVec 32 := Scalar.subi v1433 c0_i32_736
  let c1_i32_934 : BitVec 32 := 1#32
  let v1953 : BitVec 32 := Scalar.subi v1434 c1_i32_934
  let c0_i32_935 : BitVec 32 := 0#32
  let v1954 : BitVec 32 := Scalar.maxsi v1953 c0_i32_935
  let c256_i32_936 : BitVec 32 := 256#32
  let v1955 : BitVec 32 := Scalar.muli v1954 c256_i32_936
  v1955
def k0_off7 (i : grid0.Coords) (k0_t2 : Fin (k0_t2_loop i).trips) (c0_i32_736 : BitVec 32) : Fin 4 → Nat :=
  let c0_937 : Index := 0#32
  let c0_938 : Index := 0#32
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let v1434 : BitVec 32 := Scalar.subi v1433 c0_i32_736
  let c1_i32_934 : BitVec 32 := 1#32
  let v1953 : BitVec 32 := Scalar.subi v1434 c1_i32_934
  let c0_i32_935 : BitVec 32 := 0#32
  let v1954 : BitVec 32 := Scalar.maxsi v1953 c0_i32_935
  let c256_i32_936 : BitVec 32 := 256#32
  let v1955 : BitVec 32 := Scalar.muli v1954 c256_i32_936
  let v1956 : BitVec 32 := v1955
  let v1957 : Index := Scalar.indexCast v1956
  let c0_939 : Index := 0#32
  ![0, 0, v1957.toNat, 0]
def k0_mult14 (i : grid0.Coords) (k0_t2 : Fin (k0_t2_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let c1_i32_1240 : BitVec 32 := 1#32
  let v2674 : BitVec 32 := Scalar.subi v1433 c1_i32_1240
  let c256_i32_1241 : BitVec 32 := 256#32
  let v2675 : BitVec 32 := Scalar.muli v2674 c256_i32_1241
  v2675
def k0_mult15 (i : grid0.Coords) (k0_t2 : Fin (k0_t2_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let c1_i32_1240 : BitVec 32 := 1#32
  let v2674 : BitVec 32 := Scalar.subi v1433 c1_i32_1240
  let c1_i32_1438 : BitVec 32 := 1#32
  let v3193 : BitVec 32 := Scalar.subi v2674 c1_i32_1438
  let c0_i32_1439 : BitVec 32 := 0#32
  let v3194 : BitVec 32 := Scalar.maxsi v3193 c0_i32_1439
  let c256_i32_1440 : BitVec 32 := 256#32
  let v3195 : BitVec 32 := Scalar.muli v3194 c256_i32_1440
  v3195
def k0_mult16 (i : grid0.Coords) (k0_t2 : Fin (k0_t2_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let c2_i32 : BitVec 32 := 2#32
  let v3914 : BitVec 32 := Scalar.subi v1433 c2_i32
  let c256_i32_1744 : BitVec 32 := 256#32
  let v3915 : BitVec 32 := Scalar.muli v3914 c256_i32_1744
  v3915
def k0_mult17 (i : grid0.Coords) (k0_t2 : Fin (k0_t2_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let c2_i32 : BitVec 32 := 2#32
  let v3914 : BitVec 32 := Scalar.subi v1433 c2_i32
  let c1_i32_1941 : BitVec 32 := 1#32
  let v4433 : BitVec 32 := Scalar.subi v3914 c1_i32_1941
  let c0_i32_1942 : BitVec 32 := 0#32
  let v4434 : BitVec 32 := Scalar.maxsi v4433 c0_i32_1942
  let c256_i32_1943 : BitVec 32 := 256#32
  let v4435 : BitVec 32 := Scalar.muli v4434 c256_i32_1943
  v4435
def k0_mult18 (i : grid0.Coords) (k0_t2 : Fin (k0_t2_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let c3_i32 : BitVec 32 := 3#32
  let v5154 : BitVec 32 := Scalar.subi v1433 c3_i32
  let c256_i32_2247 : BitVec 32 := 256#32
  let v5155 : BitVec 32 := Scalar.muli v5154 c256_i32_2247
  v5155
def k0_mult19 (i : grid0.Coords) (k0_t2 : Fin (k0_t2_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_711 : BitVec 32 := 0#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1405 : BitVec 32 := Scalar.subi v1404 c0_i32_711
  let c1_i32_712 : BitVec 32 := 1#32
  let v1407 : BitVec 32 := Scalar.divsi v1405 c1_i32_712
  let v1408 : BitVec 32 := Scalar.muli v1407 c1_i32_712
  let v1409 : BitVec 32 := Scalar.addi c0_i32_711 v1408
  let c1_i32_714 : BitVec 32 := 1#32
  let arg12 : BitVec 32 := Scf.iv v1409 c1_i32_714 k0_t2
  let v1432 : BitVec 32 := Scalar.muli c4_i32_735 arg12
  let v1433 : BitVec 32 := Scalar.subi v1431 v1432
  let c3_i32 : BitVec 32 := 3#32
  let v5154 : BitVec 32 := Scalar.subi v1433 c3_i32
  let c1_i32_2444 : BitVec 32 := 1#32
  let v5673 : BitVec 32 := Scalar.subi v5154 c1_i32_2444
  let c0_i32_2445 : BitVec 32 := 0#32
  let v5674 : BitVec 32 := Scalar.maxsi v5673 c0_i32_2445
  let c256_i32_2446 : BitVec 32 := 256#32
  let v5675 : BitVec 32 := Scalar.muli v5674 c256_i32_2446
  v5675
@[reducible] def k0_t3_loop (i : grid0.Coords) : Scf.Loop 32 :=
  let c0_i32_724 : BitVec 32 := 0#32
  let arg2 : BitVec 32 := BitVec.ofNat 32 (i 2).val
  let c4_i32_715 : BitVec 32 := 4#32
  let c0_i32_716 : BitVec 32 := 0#32
  let v1410 : BitVec 1 := Scalar.cmpi .eq c4_i32_715 c0_i32_716
  let c1_i32_717 : BitVec 32 := 1#32
  let v1411 : BitVec 32 := Scalar.select v1410 c1_i32_717 c4_i32_715
  let v1412 : BitVec 32 := Scalar.remsi arg2 v1411
  let c0_i32_719 : BitVec 32 := 0#32
  let v1414 : BitVec 1 := Scalar.cmpi .slt v1412 c0_i32_719
  let c0_i32_720 : BitVec 32 := 0#32
  let v1415 : BitVec 1 := Scalar.cmpi .slt v1411 c0_i32_720
  let v1416 : BitVec 1 := Scalar.xori v1414 v1415
  let c0_i32_718 : BitVec 32 := 0#32
  let v1413 : BitVec 1 := Scalar.cmpi .ne v1412 c0_i32_718
  let v1417 : BitVec 1 := Scalar.andi v1416 v1413
  let v1418 : BitVec 32 := Scalar.addi v1412 v1411
  let v1419 : BitVec 32 := Scalar.select v1417 v1418 v1412
  let v1420 : BitVec 32 := Scalar.subi v1419 c0_i32_724
  let c1_i32_725 : BitVec 32 := 1#32
  let v1422 : BitVec 32 := Scalar.divsi v1420 c1_i32_725
  let v1423 : BitVec 32 := Scalar.muli v1422 c1_i32_725
  let v1424 : BitVec 32 := Scalar.addi c0_i32_724 v1423
  let c1_i32_726 : BitVec 32 := 1#32
  ⟨c0_i32_724, v1424, c1_i32_726⟩
def k0_mult20 (i : grid0.Coords) (k0_t3 : Fin (k0_t3_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1432 : BitVec 32 := Scalar.muli c4_i32_735 v1404
  let v1433 : BitVec 32 := Scalar.subi v1431 v1432
  let c0_i32_724 : BitVec 32 := 0#32
  let c1_i32_726 : BitVec 32 := 1#32
  let arg12 : BitVec 32 := Scf.iv c0_i32_724 c1_i32_726 k0_t3
  let v1434 : BitVec 32 := Scalar.subi v1433 arg12
  let c256_i32_736 : BitVec 32 := 256#32
  let v1435 : BitVec 32 := Scalar.muli v1434 c256_i32_736
  v1435
def k0_off8 (i : grid0.Coords) (k0_t3 : Fin (k0_t3_loop i).trips) : Fin 4 → Nat :=
  let c0_737 : Index := 0#32
  let c0_738 : Index := 0#32
  let c0_739 : Index := 0#32
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1432 : BitVec 32 := Scalar.muli c4_i32_735 v1404
  let v1433 : BitVec 32 := Scalar.subi v1431 v1432
  let c0_i32_724 : BitVec 32 := 0#32
  let c1_i32_726 : BitVec 32 := 1#32
  let arg12 : BitVec 32 := Scf.iv c0_i32_724 c1_i32_726 k0_t3
  let v1434 : BitVec 32 := Scalar.subi v1433 arg12
  let c256_i32_736 : BitVec 32 := 256#32
  let v1435 : BitVec 32 := Scalar.muli v1434 c256_i32_736
  let v1436 : BitVec 32 := v1435
  let v1437 : Index := Scalar.indexCast v1436
  ![0, 0, 0, v1437.toNat]
def k0_mult21 (i : grid0.Coords) (k0_t3 : Fin (k0_t3_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1432 : BitVec 32 := Scalar.muli c4_i32_735 v1404
  let v1433 : BitVec 32 := Scalar.subi v1431 v1432
  let c0_i32_724 : BitVec 32 := 0#32
  let c1_i32_726 : BitVec 32 := 1#32
  let arg12 : BitVec 32 := Scf.iv c0_i32_724 c1_i32_726 k0_t3
  let v1434 : BitVec 32 := Scalar.subi v1433 arg12
  let c1_i32_933 : BitVec 32 := 1#32
  let v1953 : BitVec 32 := Scalar.subi v1434 c1_i32_933
  let c0_i32_934 : BitVec 32 := 0#32
  let v1954 : BitVec 32 := Scalar.maxsi v1953 c0_i32_934
  let c256_i32_935 : BitVec 32 := 256#32
  let v1955 : BitVec 32 := Scalar.muli v1954 c256_i32_935
  v1955
def k0_off9 (i : grid0.Coords) (k0_t3 : Fin (k0_t3_loop i).trips) : Fin 4 → Nat :=
  let c0_936 : Index := 0#32
  let c0_937 : Index := 0#32
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1432 : BitVec 32 := Scalar.muli c4_i32_735 v1404
  let v1433 : BitVec 32 := Scalar.subi v1431 v1432
  let c0_i32_724 : BitVec 32 := 0#32
  let c1_i32_726 : BitVec 32 := 1#32
  let arg12 : BitVec 32 := Scf.iv c0_i32_724 c1_i32_726 k0_t3
  let v1434 : BitVec 32 := Scalar.subi v1433 arg12
  let c1_i32_933 : BitVec 32 := 1#32
  let v1953 : BitVec 32 := Scalar.subi v1434 c1_i32_933
  let c0_i32_934 : BitVec 32 := 0#32
  let v1954 : BitVec 32 := Scalar.maxsi v1953 c0_i32_934
  let c256_i32_935 : BitVec 32 := 256#32
  let v1955 : BitVec 32 := Scalar.muli v1954 c256_i32_935
  let v1956 : BitVec 32 := v1955
  let v1957 : Index := Scalar.indexCast v1956
  let c0_938 : Index := 0#32
  ![0, 0, v1957.toNat, 0]
@[reducible] def k0_t4_loop (i : grid0.Coords) : Scf.Loop 32 :=
  let c0_i32_724 : BitVec 32 := 0#32
  let arg2 : BitVec 32 := BitVec.ofNat 32 (i 2).val
  let c4_i32_715 : BitVec 32 := 4#32
  let c0_i32_716 : BitVec 32 := 0#32
  let v1410 : BitVec 1 := Scalar.cmpi .eq c4_i32_715 c0_i32_716
  let c1_i32_717 : BitVec 32 := 1#32
  let v1411 : BitVec 32 := Scalar.select v1410 c1_i32_717 c4_i32_715
  let v1412 : BitVec 32 := Scalar.remsi arg2 v1411
  let c0_i32_719 : BitVec 32 := 0#32
  let v1414 : BitVec 1 := Scalar.cmpi .slt v1412 c0_i32_719
  let c0_i32_720 : BitVec 32 := 0#32
  let v1415 : BitVec 1 := Scalar.cmpi .slt v1411 c0_i32_720
  let v1416 : BitVec 1 := Scalar.xori v1414 v1415
  let c0_i32_718 : BitVec 32 := 0#32
  let v1413 : BitVec 1 := Scalar.cmpi .ne v1412 c0_i32_718
  let v1417 : BitVec 1 := Scalar.andi v1416 v1413
  let v1418 : BitVec 32 := Scalar.addi v1412 v1411
  let v1419 : BitVec 32 := Scalar.select v1417 v1418 v1412
  let v1420 : BitVec 32 := Scalar.subi v1419 c0_i32_724
  let c1_i32_725 : BitVec 32 := 1#32
  let v1422 : BitVec 32 := Scalar.divsi v1420 c1_i32_725
  let v1423 : BitVec 32 := Scalar.muli v1422 c1_i32_725
  let v1424 : BitVec 32 := Scalar.addi c0_i32_724 v1423
  let v1421 : BitVec 32 := Scalar.addi c0_i32_724 v1420
  let c1_i32_727 : BitVec 32 := 1#32
  ⟨v1424, v1421, c1_i32_727⟩
def k0_mult22 (i : grid0.Coords) (k0_t4 : Fin (k0_t4_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1432 : BitVec 32 := Scalar.muli c4_i32_735 v1404
  let v1433 : BitVec 32 := Scalar.subi v1431 v1432
  let c0_i32_724 : BitVec 32 := 0#32
  let c4_i32_715 : BitVec 32 := 4#32
  let c0_i32_716 : BitVec 32 := 0#32
  let v1410 : BitVec 1 := Scalar.cmpi .eq c4_i32_715 c0_i32_716
  let c1_i32_717 : BitVec 32 := 1#32
  let v1411 : BitVec 32 := Scalar.select v1410 c1_i32_717 c4_i32_715
  let v1412 : BitVec 32 := Scalar.remsi arg2 v1411
  let c0_i32_719 : BitVec 32 := 0#32
  let v1414 : BitVec 1 := Scalar.cmpi .slt v1412 c0_i32_719
  let c0_i32_720 : BitVec 32 := 0#32
  let v1415 : BitVec 1 := Scalar.cmpi .slt v1411 c0_i32_720
  let v1416 : BitVec 1 := Scalar.xori v1414 v1415
  let c0_i32_718 : BitVec 32 := 0#32
  let v1413 : BitVec 1 := Scalar.cmpi .ne v1412 c0_i32_718
  let v1417 : BitVec 1 := Scalar.andi v1416 v1413
  let v1418 : BitVec 32 := Scalar.addi v1412 v1411
  let v1419 : BitVec 32 := Scalar.select v1417 v1418 v1412
  let v1420 : BitVec 32 := Scalar.subi v1419 c0_i32_724
  let c1_i32_725 : BitVec 32 := 1#32
  let v1422 : BitVec 32 := Scalar.divsi v1420 c1_i32_725
  let v1423 : BitVec 32 := Scalar.muli v1422 c1_i32_725
  let v1424 : BitVec 32 := Scalar.addi c0_i32_724 v1423
  let c1_i32_727 : BitVec 32 := 1#32
  let arg12 : BitVec 32 := Scf.iv v1424 c1_i32_727 k0_t4
  let v1434 : BitVec 32 := Scalar.subi v1433 arg12
  let c256_i32_736 : BitVec 32 := 256#32
  let v1435 : BitVec 32 := Scalar.muli v1434 c256_i32_736
  v1435
def k0_off10 (i : grid0.Coords) (k0_t4 : Fin (k0_t4_loop i).trips) : Fin 4 → Nat :=
  let c0_737 : Index := 0#32
  let c0_738 : Index := 0#32
  let c0_739 : Index := 0#32
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1432 : BitVec 32 := Scalar.muli c4_i32_735 v1404
  let v1433 : BitVec 32 := Scalar.subi v1431 v1432
  let c0_i32_724 : BitVec 32 := 0#32
  let c4_i32_715 : BitVec 32 := 4#32
  let c0_i32_716 : BitVec 32 := 0#32
  let v1410 : BitVec 1 := Scalar.cmpi .eq c4_i32_715 c0_i32_716
  let c1_i32_717 : BitVec 32 := 1#32
  let v1411 : BitVec 32 := Scalar.select v1410 c1_i32_717 c4_i32_715
  let v1412 : BitVec 32 := Scalar.remsi arg2 v1411
  let c0_i32_719 : BitVec 32 := 0#32
  let v1414 : BitVec 1 := Scalar.cmpi .slt v1412 c0_i32_719
  let c0_i32_720 : BitVec 32 := 0#32
  let v1415 : BitVec 1 := Scalar.cmpi .slt v1411 c0_i32_720
  let v1416 : BitVec 1 := Scalar.xori v1414 v1415
  let c0_i32_718 : BitVec 32 := 0#32
  let v1413 : BitVec 1 := Scalar.cmpi .ne v1412 c0_i32_718
  let v1417 : BitVec 1 := Scalar.andi v1416 v1413
  let v1418 : BitVec 32 := Scalar.addi v1412 v1411
  let v1419 : BitVec 32 := Scalar.select v1417 v1418 v1412
  let v1420 : BitVec 32 := Scalar.subi v1419 c0_i32_724
  let c1_i32_725 : BitVec 32 := 1#32
  let v1422 : BitVec 32 := Scalar.divsi v1420 c1_i32_725
  let v1423 : BitVec 32 := Scalar.muli v1422 c1_i32_725
  let v1424 : BitVec 32 := Scalar.addi c0_i32_724 v1423
  let c1_i32_727 : BitVec 32 := 1#32
  let arg12 : BitVec 32 := Scf.iv v1424 c1_i32_727 k0_t4
  let v1434 : BitVec 32 := Scalar.subi v1433 arg12
  let c256_i32_736 : BitVec 32 := 256#32
  let v1435 : BitVec 32 := Scalar.muli v1434 c256_i32_736
  let v1436 : BitVec 32 := v1435
  let v1437 : Index := Scalar.indexCast v1436
  ![0, 0, 0, v1437.toNat]
def k0_mult23 (i : grid0.Coords) (k0_t4 : Fin (k0_t4_loop i).trips) : BitVec 32 :=
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1432 : BitVec 32 := Scalar.muli c4_i32_735 v1404
  let v1433 : BitVec 32 := Scalar.subi v1431 v1432
  let c0_i32_724 : BitVec 32 := 0#32
  let c4_i32_715 : BitVec 32 := 4#32
  let c0_i32_716 : BitVec 32 := 0#32
  let v1410 : BitVec 1 := Scalar.cmpi .eq c4_i32_715 c0_i32_716
  let c1_i32_717 : BitVec 32 := 1#32
  let v1411 : BitVec 32 := Scalar.select v1410 c1_i32_717 c4_i32_715
  let v1412 : BitVec 32 := Scalar.remsi arg2 v1411
  let c0_i32_719 : BitVec 32 := 0#32
  let v1414 : BitVec 1 := Scalar.cmpi .slt v1412 c0_i32_719
  let c0_i32_720 : BitVec 32 := 0#32
  let v1415 : BitVec 1 := Scalar.cmpi .slt v1411 c0_i32_720
  let v1416 : BitVec 1 := Scalar.xori v1414 v1415
  let c0_i32_718 : BitVec 32 := 0#32
  let v1413 : BitVec 1 := Scalar.cmpi .ne v1412 c0_i32_718
  let v1417 : BitVec 1 := Scalar.andi v1416 v1413
  let v1418 : BitVec 32 := Scalar.addi v1412 v1411
  let v1419 : BitVec 32 := Scalar.select v1417 v1418 v1412
  let v1420 : BitVec 32 := Scalar.subi v1419 c0_i32_724
  let c1_i32_725 : BitVec 32 := 1#32
  let v1422 : BitVec 32 := Scalar.divsi v1420 c1_i32_725
  let v1423 : BitVec 32 := Scalar.muli v1422 c1_i32_725
  let v1424 : BitVec 32 := Scalar.addi c0_i32_724 v1423
  let c1_i32_727 : BitVec 32 := 1#32
  let arg12 : BitVec 32 := Scf.iv v1424 c1_i32_727 k0_t4
  let v1434 : BitVec 32 := Scalar.subi v1433 arg12
  let c1_i32_933 : BitVec 32 := 1#32
  let v1953 : BitVec 32 := Scalar.subi v1434 c1_i32_933
  let c0_i32_934 : BitVec 32 := 0#32
  let v1954 : BitVec 32 := Scalar.maxsi v1953 c0_i32_934
  let c256_i32_935 : BitVec 32 := 256#32
  let v1955 : BitVec 32 := Scalar.muli v1954 c256_i32_935
  v1955
def k0_off11 (i : grid0.Coords) (k0_t4 : Fin (k0_t4_loop i).trips) : Fin 4 → Nat :=
  let c0_936 : Index := 0#32
  let c0_937 : Index := 0#32
  let arg2 : BitVec 32 := BitVec.ofNat 32 (i 2).val
  let c1_i32_734 : BitVec 32 := 1#32
  let v1431 : BitVec 32 := Scalar.subi arg2 c1_i32_734
  let c4_i32_735 : BitVec 32 := 4#32
  let c0_i32_702 : BitVec 32 := 0#32
  let v1389 : BitVec 1 := Scalar.cmpi .sgt arg2 c0_i32_702
  let v1390 : BitVec 32 := Scalar.extui v1389
  let c0_i32_703 : BitVec 32 := 0#32
  let v1391 : BitVec 1 := Scalar.cmpi .slt arg2 c0_i32_703
  let v1392 : BitVec 32 := Scalar.extui v1391
  let v1393 : BitVec 32 := Scalar.subi v1390 v1392
  let c4_i32_701 : BitVec 32 := 4#32
  let c0_i32_704 : BitVec 32 := 0#32
  let v1394 : BitVec 1 := Scalar.cmpi .sgt c4_i32_701 c0_i32_704
  let v1395 : BitVec 32 := Scalar.extui v1394
  let c0_i32_705 : BitVec 32 := 0#32
  let v1396 : BitVec 1 := Scalar.cmpi .slt c4_i32_701 c0_i32_705
  let v1397 : BitVec 32 := Scalar.extui v1396
  let v1398 : BitVec 32 := Scalar.subi v1395 v1397
  let v1399 : BitVec 1 := Scalar.cmpi .ne v1393 v1398
  let v1400 : BitVec 32 := Scalar.remsi arg2 c4_i32_701
  let c0_i32_706 : BitVec 32 := 0#32
  let v1401 : BitVec 1 := Scalar.cmpi .ne v1400 c0_i32_706
  let v1402 : BitVec 1 := Scalar.andi v1399 v1401
  let v1388 : BitVec 32 := Scalar.divsi arg2 c4_i32_701
  let c1_i32_707 : BitVec 32 := 1#32
  let v1403 : BitVec 32 := Scalar.subi v1388 c1_i32_707
  let v1404 : BitVec 32 := Scalar.select v1402 v1403 v1388
  let v1432 : BitVec 32 := Scalar.muli c4_i32_735 v1404
  let v1433 : BitVec 32 := Scalar.subi v1431 v1432
  let c0_i32_724 : BitVec 32 := 0#32
  let c4_i32_715 : BitVec 32 := 4#32
  let c0_i32_716 : BitVec 32 := 0#32
  let v1410 : BitVec 1 := Scalar.cmpi .eq c4_i32_715 c0_i32_716
  let c1_i32_717 : BitVec 32 := 1#32
  let v1411 : BitVec 32 := Scalar.select v1410 c1_i32_717 c4_i32_715
  let v1412 : BitVec 32 := Scalar.remsi arg2 v1411
  let c0_i32_719 : BitVec 32 := 0#32
  let v1414 : BitVec 1 := Scalar.cmpi .slt v1412 c0_i32_719
  let c0_i32_720 : BitVec 32 := 0#32
  let v1415 : BitVec 1 := Scalar.cmpi .slt v1411 c0_i32_720
  let v1416 : BitVec 1 := Scalar.xori v1414 v1415
  let c0_i32_718 : BitVec 32 := 0#32
  let v1413 : BitVec 1 := Scalar.cmpi .ne v1412 c0_i32_718
  let v1417 : BitVec 1 := Scalar.andi v1416 v1413
  let v1418 : BitVec 32 := Scalar.addi v1412 v1411
  let v1419 : BitVec 32 := Scalar.select v1417 v1418 v1412
  let v1420 : BitVec 32 := Scalar.subi v1419 c0_i32_724
  let c1_i32_725 : BitVec 32 := 1#32
  let v1422 : BitVec 32 := Scalar.divsi v1420 c1_i32_725
  let v1423 : BitVec 32 := Scalar.muli v1422 c1_i32_725
  let v1424 : BitVec 32 := Scalar.addi c0_i32_724 v1423
  let c1_i32_727 : BitVec 32 := 1#32
  let arg12 : BitVec 32 := Scf.iv v1424 c1_i32_727 k0_t4
  let v1434 : BitVec 32 := Scalar.subi v1433 arg12
  let c1_i32_933 : BitVec 32 := 1#32
  let v1953 : BitVec 32 := Scalar.subi v1434 c1_i32_933
  let c0_i32_934 : BitVec 32 := 0#32
  let v1954 : BitVec 32 := Scalar.maxsi v1953 c0_i32_934
  let c256_i32_935 : BitVec 32 := 256#32
  let v1955 : BitVec 32 := Scalar.muli v1954 c256_i32_935
  let v1956 : BitVec 32 := v1955
  let v1957 : Index := Scalar.indexCast v1956
  let c0_938 : Index := 0#32
  ![0, 0, v1957.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ReferenceIdeal.lean ====
abbrev S2x16x8192x128 : Shape := ⟨4, ![2, 16, 8192, 128]⟩
abbrev S16384x256 : Shape := ⟨2, ![16384, 256]⟩
abbrev S2x4x4x8192x128 : Shape := ⟨5, ![2, 4, 4, 8192, 128]⟩
abbrev S2x4x4x8192x64 : Shape := ⟨5, ![2, 4, 4, 8192, 64]⟩
abbrev S2x4x4x8192x1 : Shape := ⟨5, ![2, 4, 4, 8192, 1]⟩
abbrev S2x4x4x8192 : Shape := ⟨4, ![2, 4, 4, 8192]⟩
abbrev S2x8192x4x64 : Shape := ⟨4, ![2, 8192, 4, 64]⟩
abbrev S2x4x4x8192x8192 : Shape := ⟨5, ![2, 4, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x4x64x4x8192 : Shape := ⟨5, ![2, 4, 64, 4, 8192]⟩
abbrev S2x8192x4x4x64 : Shape := ⟨5, ![2, 8192, 4, 4, 64]⟩
abbrev S2x8192x1024 : Shape := ⟨3, ![2, 8192, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x16x8192x128, .bf16⟩
  | .hbm, ⟨1, _⟩ => ⟨S16384x256, .f32⟩
  | .hbm, ⟨2, _⟩ => ⟨S16384x256, .f32⟩
  | .hbm, ⟨3, _⟩ => ⟨S2x16x8192x128, .f32⟩
  | .hbm, ⟨4, _⟩ => ⟨S2x4x4x8192x128, .f32⟩
  | .hbm, ⟨5, _⟩ => ⟨S2x4x4x8192x64, .f32⟩
  | .hbm, ⟨6, _⟩ => ⟨S2x4x4x8192x1, .f32⟩
  | .hbm, ⟨7, _⟩ => ⟨S2x4x4x8192, .f32⟩
  | .hbm, ⟨8, _⟩ => ⟨S2x4x4x8192x1, .f32⟩
  | .hbm, ⟨9, _⟩ => ⟨S2x4x4x8192, .f32⟩
  | .hbm, ⟨10, _⟩ => ⟨S2x4x4x8192, .f32⟩
  | .hbm, ⟨11, _⟩ => ⟨S2x4x4x8192x1, .f32⟩
  | .hbm, ⟨12, _⟩ => ⟨S2x4x4x8192, .f32⟩
  | .hbm, ⟨13, _⟩ => ⟨S2x4x4x8192, .f32⟩
  | .hbm, ⟨14, _⟩ => ⟨S2x8192x4x64, .f32⟩
  | .hbm, ⟨15, _⟩ => ⟨S2x8192x4x64, .f32⟩
  | .hbm, ⟨16, _⟩ => ⟨S2x4x4x8192x8192, .f32⟩
  | .hbm, ⟨17, _⟩ => ⟨S2x4x4x8192x1, .f32⟩
  | .hbm, ⟨18, _⟩ => ⟨S2x4x4x8192x8192, .f32⟩
  | .hbm, ⟨19, _⟩ => ⟨S2x4x4x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S2x4x4x8192x8192, .f32⟩
  | .hbm, ⟨27, _⟩ => ⟨S2x4x4x8192x8192, .f32⟩
  | .hbm, ⟨28, _⟩ => ⟨S_, .f32⟩
  | .hbm, ⟨29, _⟩ => ⟨S2x4x4x8192x8192, .f32⟩
  | .hbm, ⟨30, _⟩ => ⟨S2x4x4x8192x8192, .f32⟩
  | .hbm, ⟨31, _⟩ => ⟨S2x4x4x8192x8192, .f32⟩
  | .hbm, ⟨32, _⟩ => ⟨S2x4x4x8192x8192, .f32⟩
  | .hbm, ⟨33, _⟩ => ⟨S2x4x4x8192x8192, .i1⟩
  | .hbm, ⟨34, _⟩ => ⟨S2x4x4x8192x8192, .f32⟩
  | .hbm, ⟨35, _⟩ => ⟨S2x4x4x8192x8192, .f32⟩
  | .hbm, ⟨36, _⟩ => ⟨S2x4x4x8192x8192, .f32⟩
  | .hbm, ⟨37, _⟩ => ⟨S2x4x4x8192x8192, .f32⟩
  | .hbm, ⟨38, _⟩ => ⟨S2x4x4x8192x8192, .f32⟩
  | .hbm, ⟨39, _⟩ => ⟨S2x4x4x8192x8192, .f32⟩
  | .hbm, ⟨40, _⟩ => ⟨S2x4x4x8192x8192, .f32⟩
  | .hbm, ⟨41, _⟩ => ⟨S2x4x4x8192x8192, .f32⟩
  | .hbm, ⟨42, _⟩ => ⟨S2x4x4x8192x8192, .f32⟩
  | .hbm, ⟨43, _⟩ => ⟨S_, .f32⟩
  | .hbm, ⟨44, _⟩ => ⟨S_, .f32⟩
  | .hbm, ⟨45, _⟩ => ⟨S2x4x4x8192x8192, .i1⟩
  | .hbm, ⟨46, _⟩ => ⟨S2x4x4x8192x8192, .f32⟩
  | .hbm, ⟨47, _⟩ => ⟨S2x4x4x8192x8192, .f32⟩
  | .hbm, ⟨48, _⟩ => ⟨S_, .f32⟩
  | .hbm, ⟨49, _⟩ => ⟨S_, .f32⟩
  | .hbm, ⟨50, _⟩ => ⟨S2x4x4x8192x8192, .f32⟩
  | .hbm, ⟨51, _⟩ => ⟨S2x4x4x8192x8192, .f32⟩
  | .hbm, ⟨52, _⟩ => ⟨S2x4x4x8192x8192, .f32⟩
  | .hbm, ⟨53, _⟩ => ⟨S_, .f32⟩
  | .hbm, ⟨54, _⟩ => ⟨S2x4x4x8192x8192, .f32⟩
  | .hbm, ⟨55, _⟩ => ⟨S2x4x4x8192x8192, .f32⟩
  | .hbm, ⟨56, _⟩ => ⟨S2x4x4x8192x8192, .f32⟩
  | .hbm, ⟨57, _⟩ => ⟨S2x4x4x8192x8192, .f32⟩
  | .hbm, ⟨58, _⟩ => ⟨S2x4x4x8192x8192, .i1⟩
  | .hbm, ⟨59, _⟩ => ⟨S2x4x4x8192x8192, .f32⟩
  | .hbm, ⟨60, _⟩ => ⟨S2x4x4x8192x8192, .f32⟩
  | .hbm, ⟨61, _⟩ => ⟨S2x4x4x8192x8192, .f32⟩
  | .hbm, ⟨62, _⟩ => ⟨S2x4x4x8192x8192, .f32⟩
  | .hbm, ⟨63, _⟩ => ⟨S2x4x4x8192x8192, .f32⟩
  | .hbm, ⟨64, _⟩ => ⟨S2x4x4x8192x8192, .f32⟩
  | .hbm, ⟨65, _⟩ => ⟨S2x4x4x8192x8192, .f32⟩
  | .hbm, ⟨66, _⟩ => ⟨S2x4x4x8192x8192, .f32⟩
  | .hbm, ⟨67, _⟩ => ⟨S2x4x4x8192x8192, .f32⟩
  | .hbm, ⟨68, _⟩ => ⟨S2x4x4x8192x8192, .f32⟩
  | .hbm, ⟨69, _⟩ => ⟨S2x4x4x8192x8192, .f32⟩
  | .hbm, ⟨70, _⟩ => ⟨S_, .f32⟩
  | .hbm, ⟨71, _⟩ => ⟨S_, .f32⟩
  | .hbm, ⟨72, _⟩ => ⟨S2x4x4x8192x8192, .i1⟩
  | .hbm, ⟨73, _⟩ => ⟨S2x4x4x8192x8192, .f32⟩
  | .hbm, ⟨74, _⟩ => ⟨S2x4x4x8192x8192, .f32⟩
  | .hbm, ⟨75, _⟩ => ⟨S2x4x64x4x8192, .f32⟩
  | .hbm, ⟨76, _⟩ => ⟨S2x8192x4x4x64, .f32⟩
  | .hbm, ⟨77, _⟩ => ⟨S2x8192x1024, .f32⟩
  | _, _ => ⟨S2x16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v24 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v25 : Ref sig .tc := ⟨.hbm, 47, rfl⟩
abbrev main_call2_cst : Ref sig .tc := ⟨.hbm, 48, rfl⟩
abbrev main_call2_v0 : Ref sig .tc := ⟨.hbm, 49, rfl⟩
abbrev main_v26 : Ref sig .tc := ⟨.hbm, 50, rfl⟩
abbrev main_v27 : Ref sig .tc := ⟨.hbm, 51, rfl⟩
abbrev main_call3_v0 : Ref sig .tc := ⟨.hbm, 52, rfl⟩
abbrev main_call3_call0_cst : Ref sig .tc := ⟨.hbm, 53, rfl⟩
abbrev main_call3_call0_v0 : Ref sig .tc := ⟨.hbm, 54, rfl⟩
abbrev main_call3_call0_v1 : Ref sig .tc := ⟨.hbm, 55, rfl⟩
abbrev main_call3_call0_v2 : Ref sig .tc := ⟨.hbm, 56, rfl⟩
abbrev main_call3_call0_v3 : Ref sig .tc := ⟨.hbm, 57, rfl⟩
abbrev main_call3_call0_v4 : Ref sig .tc := ⟨.hbm, 58, rfl⟩
abbrev main_call3_call0_v5 : Ref sig .tc := ⟨.hbm, 59, rfl⟩
abbrev main_call3_call0_v6 : Ref sig .tc := ⟨.hbm, 60, rfl⟩
abbrev main_call3_call0_v7 : Ref sig .tc := ⟨.hbm, 61, rfl⟩
abbrev main_call3_call0_v8 : Ref sig .tc := ⟨.hbm, 62, rfl⟩
abbrev main_call3_call0_v9 : Ref sig .tc := ⟨.hbm, 63, rfl⟩
abbrev main_call3_call0_v10 : Ref sig .tc := ⟨.hbm, 64, rfl⟩
abbrev main_call3_call0_v11 : Ref sig .tc := ⟨.hbm, 65, rfl⟩
abbrev main_call3_v1 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_0 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩

abbrev nD : Nat := 1
abbrev τ : Topo := Topo.v7x

variable {F : FTy → Type} [FloatOps F]
-- ==== Kernel2.lean ====
abbrev S16384x1024 : Shape := ⟨2, ![16384, 1024]⟩
abbrev S1024x2560 : Shape := ⟨2, ![1024, 2560]⟩
abbrev S16x128 : Shape := ⟨2, ![16, 128]⟩
abbrev S2x16x8192x128 : Shape := ⟨4, ![2, 16, 8192, 128]⟩
abbrev S16384x256 : Shape := ⟨2, ![16384, 256]⟩
abbrev S512x1024 : Shape := ⟨2, ![512, 1024]⟩
abbrev S1x16x512x128 : Shape := ⟨4, ![1, 16, 512, 128]⟩
abbrev S512x256 : Shape := ⟨2, ![512, 256]⟩
abbrev S1024x1024 : Shape := ⟨2, ![1024, 1024]⟩
abbrev S512x128 : Shape := ⟨2, ![512, 128]⟩
abbrev S1x128 : Shape := ⟨2, ![1, 128]⟩
abbrev S1x1x512x128 : Shape := ⟨4, ![1, 1, 512, 128]⟩
abbrev S1024x256 : Shape := ⟨2, ![1024, 256]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x2560, .f32⟩
  | .hbm, ⟨2, _⟩ => ⟨S16x128, .f32⟩
  | .hbm, ⟨3, _⟩ => ⟨S1024x2560, .bf16⟩
  | .hbm, ⟨4, _⟩ => ⟨S2x16x8192x128, .bf16⟩
  | .hbm, ⟨5, _⟩ => ⟨S16384x256, .f32⟩
  | .hbm, ⟨6, _⟩ => ⟨S16384x256, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S16x128, .f32⟩
  | .local _ .vmem, ⟨4, _⟩ => ⟨S1x16x512x128, .bf16⟩
  | .local _ .vmem, ⟨5, _⟩ => ⟨S1x16x512x128, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024x2560 : Shape := ⟨2, ![1024, 2560]⟩
abbrev S16x128 : Shape := ⟨2, ![16, 128]⟩
abbrev S16384x2560 : Shape := ⟨2, ![16384, 2560]⟩
abbrev S16384x256 : Shape := ⟨2, ![16384, 256]⟩
abbrev S2x8192x16x64 : Shape := ⟨4, ![2, 8192, 16, 64]⟩
abbrev S2x16x8192x64 : Shape := ⟨4, ![2, 16, 8192, 64]⟩
abbrev S_ : Shape := ⟨0, ![]⟩
abbrev S16x64 : Shape := ⟨2, ![16, 64]⟩
abbrev S1x16x1x64 : Shape := ⟨4, ![1, 16, 1, 64]⟩
abbrev S2x16x8192x128 : Shape := ⟨4, ![2, 16, 8192, 128]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2560, .f32⟩
  | .hbm, ⟨2, _⟩ => ⟨S16x128, .f32⟩
  | .hbm, ⟨3, _⟩ => ⟨S16384x2560, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x1024, .f32⟩
  | .hbm, ⟨8, _⟩ => ⟨S2x8192x16x64, .f32⟩
  | .hbm, ⟨9, _⟩ => ⟨S2x16x8192x64, .f32⟩
  | .hbm, ⟨10, _⟩ => ⟨S_, .f32⟩
  | .hbm, ⟨11, _⟩ => ⟨S2x16x8192x64, .f32⟩
  | .hbm, ⟨12, _⟩ => ⟨S2x16x8192x64, .f32⟩
  | .hbm, ⟨13, _⟩ => ⟨S16x64, .f32⟩
  | .hbm, ⟨14, _⟩ => ⟨S1x16x1x64, .f32⟩
  | .hbm, ⟨15, _⟩ => ⟨S2x16x8192x64, .f32⟩
  | .hbm, ⟨16, _⟩ => ⟨S2x16x8192x128, .f32⟩
  | .hbm, ⟨17, _⟩ => ⟨S2x16x8192x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel4.lean ====
abbrev S16384x1024 : Shape := ⟨2, ![16384, 1024]⟩
abbrev S1024x512 : Shape := ⟨2, ![1024, 512]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x8192x1x128 : Shape := ⟨4, ![1, 8192, 1, 128]⟩
abbrev S2x8192x1x128 : Shape := ⟨4, ![2, 8192, 1, 128]⟩
abbrev S16384x128 : Shape := ⟨2, ![16384, 128]⟩
abbrev S1024x256 : Shape := ⟨2, ![1024, 256]⟩
abbrev S1024x4x2x32 : Shape := ⟨4, ![1024, 4, 2, 32]⟩
abbrev S1024x4x1x32 : Shape := ⟨4, ![1024, 4, 1, 32]⟩
abbrev S1024x768 : Shape := ⟨2, ![1024, 768]⟩
abbrev S16384x256 : Shape := ⟨2, ![16384, 256]⟩
abbrev S512x1024 : Shape := ⟨2, ![512, 1024]⟩
abbrev S512x128 : Shape := ⟨2, ![512, 128]⟩
abbrev S512x256 : Shape := ⟨2, ![512, 256]⟩

abbrev nBuf : Space → Nat
  | .hbm => 46
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S8192, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x8192x1x32, .f32⟩
  | .hbm, ⟨22, _⟩ => ⟨S1x8192x4x32, .f32⟩
  | .hbm, ⟨23, _⟩ => ⟨S8192x128, .f32⟩
  | .hbm, ⟨24, _⟩ => ⟨S8192x32, .f32⟩
  | .hbm, ⟨25, _⟩ => ⟨S1x8192x1x32, .f32⟩
  | .hbm, ⟨26, _⟩ => ⟨S1x8192x4x32, .f32⟩
  | .hbm, ⟨27, _⟩ => ⟨S8192x128, .f32⟩
  | .hbm, ⟨28, _⟩ => ⟨S1x8192x1x128, .f32⟩
  | .hbm, ⟨29, _⟩ => ⟨S2x8192x1x128, .f32⟩
  | .hbm, ⟨30, _⟩ => ⟨S16384x128, .f32⟩
  | .hbm, ⟨31, _⟩ => ⟨S1x8192x1x128, .f32⟩
  | .hbm, ⟨32, _⟩ => ⟨S2x8192x1x128, .f32⟩
  | .hbm, ⟨33, _⟩ => ⟨S16384x128, .f32⟩
  | .hbm, ⟨34, _⟩ => ⟨S1024x256, .f32⟩
  | .hbm, ⟨35, _⟩ => ⟨S1024x256, .f32⟩
  | .hbm, ⟨36, _⟩ => ⟨S1024x4x2x32, .f32⟩
  | .hbm, ⟨37, _⟩ => ⟨S1024x4x1x32, .f32⟩
  | .hbm, ⟨38, _⟩ => ⟨S1024x4x1x32, .f32⟩
  | .hbm, ⟨39, _⟩ => ⟨S1024x4x1x32, .f32⟩
  | .hbm, ⟨40, _⟩ => ⟨S1024x4x2x32, .f32⟩
  | .hbm, ⟨41, _⟩ => ⟨S1024x256, .f32⟩
  | .hbm, ⟨42, _⟩ => ⟨S1024x768, .f32⟩
  | .hbm, ⟨43, _⟩ => ⟨S1024x768, .bf16⟩
  | .hbm, ⟨44, _⟩ => ⟨S16384x256, .f32⟩
  | .hbm, ⟨45, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1024x768, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39_0 : Ref sig .tc := ⟨.hbm, 44, rfl⟩
abbrev main_v39_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S1024x512 : Shape := ⟨2, ![1024, 512]⟩
abbrev S16384x512 : Shape := ⟨2, ![16384, 512]⟩
abbrev S16384x256 : Shape := ⟨2, ![16384, 256]⟩
abbrev S2x8192x4x64 : Shape := ⟨4, ![2, 8192, 4, 64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x4x32 : Shape := ⟨4, ![2, 8192, 4, 32]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | .hbm, ⟨3, _⟩ => ⟨S16384x256, .f32⟩
  | .hbm, ⟨4, _⟩ => ⟨S16384x256, .f32⟩
  | .hbm, ⟨5, _⟩ => ⟨S2x8192x4x64, .f32⟩
  | .hbm, ⟨6, _⟩ => ⟨S8192, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S1x8192x1x32, .f32⟩
  | .hbm, ⟨26, _⟩ => ⟨S8192x32, .f32⟩
  | .hbm, ⟨27, _⟩ => ⟨S1x8192x1x32, .f32⟩
  | .hbm, ⟨28, _⟩ => ⟨S2x8192x4x32, .f32⟩
  | .hbm, ⟨29, _⟩ => ⟨S2x8192x4x32, .f32⟩
  | .hbm, ⟨30, _⟩ => ⟨S2x8192x4x32, .f32⟩
  | .hbm, ⟨31, _⟩ => ⟨S2x8192x4x32, .f32⟩
  | .hbm, ⟨32, _⟩ => ⟨S2x8192x4x32, .f32⟩
  | .hbm, ⟨33, _⟩ => ⟨S2x8192x4x32, .f32⟩
  | .hbm, ⟨34, _⟩ => ⟨S2x8192x4x32, .f32⟩
  | .hbm, ⟨35, _⟩ => ⟨S2x8192x4x32, .f32⟩
  | .hbm, ⟨36, _⟩ => ⟨S2x8192x4x32, .f32⟩
  | .hbm, ⟨37, _⟩ => ⟨S2x8192x4x32, .f32⟩
  | .hbm, ⟨38, _⟩ => ⟨S2x8192x4x32, .f32⟩
  | .hbm, ⟨39, _⟩ => ⟨S2x8192x4x32, .f32⟩
  | .hbm, ⟨40, _⟩ => ⟨S2x8192x4x64, .f32⟩
  | .hbm, ⟨41, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Kernel5.lean ====
abbrev S16384x1024 : Shape := ⟨2, ![16384, 1024]⟩
abbrev S1024x2048 : Shape := ⟨2, ![1024, 2048]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x8192x1x128 : Shape := ⟨4, ![1, 8192, 1, 128]⟩
abbrev S2x8192x1x128 : Shape := ⟨4, ![2, 8192, 1, 128]⟩
abbrev S16384x128 : Shape := ⟨2, ![16384, 128]⟩
abbrev S1024x1024 : Shape := ⟨2, ![1024, 1024]⟩
abbrev S1024x16x2x32 : Shape := ⟨4, ![1024, 16, 2, 32]⟩
abbrev S1024x16x1x32 : Shape := ⟨4, ![1024, 16, 1, 32]⟩
abbrev S1024x3072 : Shape := ⟨2, ![1024, 3072]⟩
abbrev S16x128 : Shape := ⟨2, ![16, 128]⟩
abbrev S2x16x8192x128 : Shape := ⟨4, ![2, 16, 8192, 128]⟩
abbrev S512x1024 : Shape := ⟨2, ![512, 1024]⟩
abbrev S512x128 : Shape := ⟨2, ![512, 128]⟩
abbrev S1x16x512x128 : Shape := ⟨4, ![1, 16, 512, 128]⟩
abbrev S1x128 : Shape := ⟨2, ![1, 128]⟩
abbrev S1x1x512x128 : Shape := ⟨4, ![1, 1, 512, 128]⟩

abbrev nBuf : Space → Nat
  | .hbm => 48
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S8192, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x8192x1x32, .f32⟩
  | .hbm, ⟨22, _⟩ => ⟨S1x8192x4x32, .f32⟩
  | .hbm, ⟨23, _⟩ => ⟨S8192x128, .f32⟩
  | .hbm, ⟨24, _⟩ => ⟨S8192x32, .f32⟩
  | .hbm, ⟨25, _⟩ => ⟨S1x8192x1x32, .f32⟩
  | .hbm, ⟨26, _⟩ => ⟨S1x8192x4x32, .f32⟩
  | .hbm, ⟨27, _⟩ => ⟨S8192x128, .f32⟩
  | .hbm, ⟨28, _⟩ => ⟨S1x8192x1x128, .f32⟩
  | .hbm, ⟨29, _⟩ => ⟨S2x8192x1x128, .f32⟩
  | .hbm, ⟨30, _⟩ => ⟨S16384x128, .f32⟩
  | .hbm, ⟨31, _⟩ => ⟨S1x8192x1x128, .f32⟩
  | .hbm, ⟨32, _⟩ => ⟨S2x8192x1x128, .f32⟩
  | .hbm, ⟨33, _⟩ => ⟨S16384x128, .f32⟩
  | .hbm, ⟨34, _⟩ => ⟨S1024x1024, .f32⟩
  | .hbm, ⟨35, _⟩ => ⟨S1024x1024, .f32⟩
  | .hbm, ⟨36, _⟩ => ⟨S1024x16x2x32, .f32⟩
  | .hbm, ⟨37, _⟩ => ⟨S1024x16x1x32, .f32⟩
  | .hbm, ⟨38, _⟩ => ⟨S1024x16x1x32, .f32⟩
  | .hbm, ⟨39, _⟩ => ⟨S1024x16x1x32, .f32⟩
  | .hbm, ⟨40, _⟩ => ⟨S1024x16x2x32, .f32⟩
  | .hbm, ⟨41, _⟩ => ⟨S1024x1024, .f32⟩
  | .hbm, ⟨42, _⟩ => ⟨S1024x3072, .f32⟩
  | .hbm, ⟨43, _⟩ => ⟨S1024x3072, .bf16⟩
  | .hbm, ⟨44, _⟩ => ⟨S_, .f32⟩
  | .hbm, ⟨45, _⟩ => ⟨S16x128, .f32⟩
  | .hbm, ⟨46, _⟩ => ⟨S2x16x8192x128, .bf16⟩
  | .hbm, ⟨47, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S16x128, .f32⟩
  | .local _ .vmem, ⟨8, _⟩ => ⟨S1x16x512x128, .bf16⟩
  | .local _ .vmem, ⟨9, _⟩ => ⟨S1x16x512x128, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40_0 : Ref sig .tc := ⟨.hbm, 46, rfl⟩
abbrev main_v40_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x1024 : Shape := ⟨2, ![16384, 1024]⟩
abbrev S1024x2048 : Shape := ⟨2, ![1024, 2048]⟩
abbrev S16384x2048 : Shape := ⟨2, ![16384, 2048]⟩
abbrev S2x8192x16x64 : Shape := ⟨4, ![2, 8192, 16, 64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x16x32 : Shape := ⟨4, ![2, 8192, 16, 32]⟩
abbrev S2x16x8192x64 : Shape := ⟨4, ![2, 16, 8192, 64]⟩
abbrev S2x16x8192x128 : Shape := ⟨4, ![2, 16, 8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1024, .f32⟩
  | .hbm, ⟨4, _⟩ => ⟨S16384x1024, .f32⟩
  | .hbm, ⟨5, _⟩ => ⟨S2x8192x16x64, .f32⟩
  | .hbm, ⟨6, _⟩ => ⟨S8192, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S1x8192x1x32, .f32⟩
  | .hbm, ⟨26, _⟩ => ⟨S8192x32, .f32⟩
  | .hbm, ⟨27, _⟩ => ⟨S1x8192x1x32, .f32⟩
  | .hbm, ⟨28, _⟩ => ⟨S2x8192x16x32, .f32⟩
  | .hbm, ⟨29, _⟩ => ⟨S2x8192x16x32, .f32⟩
  | .hbm, ⟨30, _⟩ => ⟨S2x8192x16x32, .f32⟩
  | .hbm, ⟨31, _⟩ => ⟨S2x8192x16x32, .f32⟩
  | .hbm, ⟨32, _⟩ => ⟨S2x8192x16x32, .f32⟩
  | .hbm, ⟨33, _⟩ => ⟨S2x8192x16x32, .f32⟩
  | .hbm, ⟨34, _⟩ => ⟨S2x8192x16x32, .f32⟩
  | .hbm, ⟨35, _⟩ => ⟨S2x8192x16x32, .f32⟩
  | .hbm, ⟨36, _⟩ => ⟨S2x8192x16x32, .f32⟩
  | .hbm, ⟨37, _⟩ => ⟨S2x8192x16x32, .f32⟩
  | .hbm, ⟨38, _⟩ => ⟨S2x8192x16x32, .f32⟩
  | .hbm, ⟨39, _⟩ => ⟨S2x8192x16x32, .f32⟩
  | .hbm, ⟨40, _⟩ => ⟨S2x8192x16x64, .f32⟩
  | .hbm, ⟨41, _⟩ => ⟨S2x16x8192x64, .f32⟩
  | .hbm, ⟨42, _⟩ => ⟨S_, .f32⟩
  | .hbm, ⟨43, _⟩ => ⟨S2x16x8192x64, .f32⟩
  | .hbm, ⟨44, _⟩ => ⟨S2x16x8192x64, .f32⟩
  | .hbm, ⟨45, _⟩ => ⟨S_, .f32⟩
  | .hbm, ⟨46, _⟩ => ⟨S2x16x8192x64, .f32⟩
  | .hbm, ⟨47, _⟩ => ⟨S2x16x8192x128, .f32⟩
  | .hbm, ⟨48, _⟩ => ⟨S2x16x8192x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Proof.Block.lean ====
/- One block of keys of the stick-breaking attention, as a program over its buffers: the pass over the
   32 row groups of the logits, the product giving the next block's logits, the sums over the keys of
   one lane, and the four heads' products with the values. Stated over the two constants and over the
   signature, so that one text serves the program and its reading over the extended reals. -/
module

public import Idealize.ShloMosaic.Lib.Pipeline
public import Idealize.ShloMosaic.Lib.Scf
public import Idealize.ShloMosaic.Lib.Sig
public import Idealize.ShloMosaic.Lib.StableHlo
public import Idealize.ShloMosaic.PureOps
public import Idealize.ShloMosaic.PureOps.Ideal

@[expose] public section

set_option maxRecDepth 16384

noncomputable section

namespace Cert.Stick

open Idealize.ShloMosaic Idealize.SL.Sem

/-! ## Shapes -/

/-- A row group: eight keys for the four heads' 256 queries. -/
abbrev Row : Shape := ⟨2, ![8, 1024]⟩
/-- One head's part of a row group. -/
abbrev RowH : Shape := ⟨2, ![8, 256]⟩
/-- One row of a row group. -/
abbrev Lane : Shape := ⟨2, ![1, 1024]⟩
/-- A block of logits or of exponents: 256 keys for four heads' 256 queries. -/
abbrev Blk : Shape := ⟨2, ![256, 1024]⟩
/-- One head's block of weights. -/
abbrev Wts : Shape := ⟨2, ![256, 256]⟩
/-- A block of the augmented keys. -/
abbrev Kb : Shape := ⟨2, ![256, 128]⟩
/-- The four heads' augmented queries. -/
abbrev Qb : Shape := ⟨2, ![1024, 128]⟩
/-- A block of the transposed values. -/
abbrev Vb : Shape := ⟨2, ![64, 256]⟩
abbrev Kb4 : Shape := ⟨4, ![1, 1, 256, 128]⟩
abbrev Vb4 : Shape := ⟨4, ![1, 1, 64, 256]⟩
abbrev KAll : Shape := ⟨4, ![1, 1, 8192, 128]⟩
abbrev VAll : Shape := ⟨4, ![1, 1, 64, 8192]⟩
/-- The four heads' accumulators. -/
abbrev Acc : Shape := ⟨3, ![4, 64, 256]⟩
abbrev Acc1 : Shape := ⟨3, ![1, 64, 256]⟩
/-- The augmented queries of a block, head by head. -/
abbrev Q4 : Shape := ⟨4, ![1, 4, 256, 128]⟩
abbrev Q3 : Shape := ⟨3, ![4, 256, 128]⟩
/-- A block of results: a query's four heads side by side. -/
abbrev Out : Shape := ⟨3, ![1, 256, 256]⟩

theorem pos_Row : 0 < Row.numel := by decide
theorem pos_RowH : 0 < RowH.numel := by decide
theorem pos_Blk : 0 < Blk.numel := by decide
theorem pos_Kb4 : 0 < Kb4.numel := by decide
theorem pos_Vb4 : 0 < Vb4.numel := by decide
theorem pos_Acc1 : 0 < Acc1.numel := by decide
theorem pos_Acc : 0 < Acc.numel := by decide
theorem pos_Q4 : 0 < Q4.numel := by decide
theorem pos_Out : 0 < Out.numel := by decide

theorem row_inb (t : ℕ) (h : t < 32) : ∀ a, (![8 * t, 0] : Fin 2 → ℕ) a + Row.size a ≤ Blk.size a := by
  intro a; fin_cases a <;> simp [Row, Blk] <;> omega

theorem rowH_inb (t r : ℕ) (h : t < 32) (hr : r < 4) :
    ∀ a, (![8 * t, 256 * r] : Fin 2 → ℕ) a + RowH.size a ≤ Blk.size a := by
  intro a; fin_cases a <;> simp [RowH, Blk] <;> omega

theorem acc_inb (r : ℕ) (hr : r < 4) :
    ∀ a, (![r, 0, 0] : Fin 3 → ℕ) a + Acc1.size a ≤ Acc.size a := by
  intro a; fin_cases a <;> simp [Acc1, Acc] <;> omega

theorem blk_inb : ∀ a, (![0, 0] : Fin 2 → ℕ) a + Blk.size a ≤ Blk.size a := by decide
theorem rowAll_inb : ∀ a, (![0, 0] : Fin 2 → ℕ) a + Row.size a ≤ Row.size a := by decide

theorem accAll_inb : ∀ a, (![0, 0, 0] : Fin 3 → ℕ) a + Acc.size a ≤ Acc.size a := by decide
theorem q4_inb : ∀ a, (![0, 0, 0, 0] : Fin 4 → ℕ) a + Q4.size a ≤ Q4.size a := by decide
theorem out_inb : ∀ a, (![0, 0, 0] : Fin 3 → ℕ) a + Out.size a ≤ Out.size a := by decide
theorem mask_inb (t : ℕ) (h : t < 32) : ∀ a, (![8 * t, 0] : Fin 2 → ℕ) a + RowH.size a ≤ Wts.size a := by
  intro a; fin_cases a <;> simp [RowH, Wts] <;> omega

theorem cast_RowH : RowH.ShapeCasts RowH := by decide
theorem cast_AccAll : Acc.ShapeCasts Acc := by decide
theorem cast_AccW : Acc.ShapeCasts Wts := by decide
theorem cast_Q3 : Q4.ShapeCasts Q3 := by decide
theorem cast_Qb : Q3.ShapeCasts Qb := by decide
theorem cast_Out : Wts.ShapeCasts Out := by decide
theorem tr_Wts : Wts.Transposes [1, 0] Wts := by decide
theorem iota_Row : Row.Iotas .tc 32 [0] := by decide
theorem concat_Row : Shape.Concatenates [RowH, RowH, RowH, RowH] Row 1 := by decide
theorem cast_Row : Row.ShapeCasts Row := by decide
theorem cast_Lane : Lane.ShapeCasts Lane := by decide
theorem cast_Blk : Blk.ShapeCasts Blk := by decide
theorem cast_Kb : Kb4.ShapeCasts Kb := by decide
theorem cast_Vb : Vb4.ShapeCasts Vb := by decide
theorem cast_Acc : Acc1.ShapeCasts Vb := by decide
theorem cast_Acc' : Vb.ShapeCasts Acc1 := by decide
theorem rot_Row : Row.Rotates 0 none := by decide
theorem slice_Lane : Row.Slices ![0, 0] Lane := by decide
theorem bcast_Lane : Lane.Broadcasts Row := by decide
theorem bits_lt : FTy.bits .bf16 < FTy.bits .f32 := by decide
theorem slice_RowH (r : ℕ) (hr : r < 4) : Row.Slices ![0, 256 * r] RowH := by
  interval_cases r <;> decide

/-- The product of a block of augmented keys with the augmented queries. -/
def dotKQ : DotDims Kb Qb Blk where
  lhsContracting := [1]
  rhsContracting := [1]
  lhsNonContracting := [0]
  rhsNonContracting := [0]
  lhsBatch := []
  rhsBatch := []
  wf := by decide

/-- The product of a block of values with one head's weights. -/
def dotVW : DotDims Vb Wts Vb where
  lhsContracting := [1]
  rhsContracting := [0]
  lhsNonContracting := [0]
  rhsNonContracting := [1]
  lhsBatch := []
  rhsBatch := []
  wf := by decide

variable {F : FTy → Type} [FloatOps F] {nD : ℕ} {τ : Topo} {sig : RefSig} {Λ : Labels}

/-! ## Values -/

/-- `log (1 + exp z)` of a row group, `cn` the constant `-log₂ e`. -/
def softplusV (cn : F .f32) (z : FVec F Row .f32) : FVec F Row .f32 :=
  addf (maximumf z (broadcast Row (Scalar.ofBits .f32 0x00000000#32)))
    (log (addf (broadcast Row (Scalar.ofBits .f32 0x3F800000#32)) (exp2 (mulf (absf z) (broadcast Row cn)))))

/-- One step of the sum over the rows of a lane: `s` and its copy rotated by `k`, where that row is below `k`. -/
def foldStep (io : IVec Row 32) (k : BitVec 32) (s : FVec F Row .f32) : FVec F Row .f32 :=
  addf s (select (cmpi .slt io (broadcast Row k)) (dynamicRotate 0 k none s rot_Row)
    (broadcast Row (Scalar.ofBits .f32 0x00000000#32)))

/-- The sums over the later rows of a lane, a row itself with it. -/
def suffixV (io : IVec Row 32) (run : FVec F Row .f32) : FVec F Row .f32 :=
  foldStep io 4#32 (foldStep io 6#32 (foldStep io 7#32 run))

/-- What a row's exponents are shifted by, in base two; `cl` is the constant `log₂ e`. -/
def offV (cl : F .f32) (io : IVec Row 32) (car run : FVec F Row .f32) : FVec F Row .f32 :=
  mulf (addf car (subf (suffixV io run) run)) (broadcast Row cl)

/-- The sums carried to the next block. -/
def carV (io : IVec Row 32) (car run : FVec F Row .f32) : FVec F Row .f32 :=
  addf car (broadcastTo Row (shapeCast Lane (extractStridedSlice Lane ![0, 0] (suffixV io run) slice_Lane) cast_Lane) bcast_Lane)

/-- One head's part of a row group of shifts. -/
def offH (off : FVec F Row .f32) (r : ℕ) (hr : r < 4) : FVec F RowH .f32 :=
  extractStridedSlice RowH ![0, 256 * r] off (slice_RowH r hr)

/-- One head's weights of a row group from its exponents and shifts. -/
def weightV (cl : F .f32) (p off : FVec F RowH .f32) : FVec F RowH .f32 :=
  exp2 (subf (mulf p (broadcast RowH cl)) off)

theorem concat_Wts (w : ℕ → FVec F RowH .f32) : Shape.Concatenates (([⟨RowH, w 0⟩, ⟨RowH, w 1⟩, ⟨RowH, w 2⟩, ⟨RowH, w 3⟩, ⟨RowH, w 4⟩, ⟨RowH, w 5⟩, ⟨RowH, w 6⟩, ⟨RowH, w 7⟩, ⟨RowH, w 8⟩, ⟨RowH, w 9⟩, ⟨RowH, w 10⟩, ⟨RowH, w 11⟩, ⟨RowH, w 12⟩, ⟨RowH, w 13⟩, ⟨RowH, w 14⟩, ⟨RowH, w 15⟩, ⟨RowH, w 16⟩, ⟨RowH, w 17⟩, ⟨RowH, w 18⟩, ⟨RowH, w 19⟩, ⟨RowH, w 20⟩, ⟨RowH, w 21⟩, ⟨RowH, w 22⟩, ⟨RowH, w 23⟩, ⟨RowH, w 24⟩, ⟨RowH, w 25⟩, ⟨RowH, w 26⟩, ⟨RowH, w 27⟩, ⟨RowH, w 28⟩, ⟨RowH, w 29⟩, ⟨RowH, w 30⟩, ⟨RowH, w 31⟩] : List ((s : Shape) × FVec F s .f32)).map (·.1)) Wts 0 :=
  (by decide : Shape.Concatenates [RowH, RowH, RowH, RowH, RowH, RowH, RowH, RowH, RowH, RowH, RowH, RowH, RowH, RowH, RowH, RowH, RowH, RowH, RowH, RowH, RowH, RowH, RowH, RowH, RowH, RowH, RowH, RowH, RowH, RowH, RowH, RowH] Wts 0)

/-- The 32 row groups of one head's weights, below each other. -/
def stackW (w : ℕ → FVec F RowH .f32) : FVec F Wts .f32 :=
  concatenate Wts 0 [⟨RowH, w 0⟩, ⟨RowH, w 1⟩, ⟨RowH, w 2⟩, ⟨RowH, w 3⟩, ⟨RowH, w 4⟩, ⟨RowH, w 5⟩, ⟨RowH, w 6⟩, ⟨RowH, w 7⟩, ⟨RowH, w 8⟩, ⟨RowH, w 9⟩, ⟨RowH, w 10⟩, ⟨RowH, w 11⟩, ⟨RowH, w 12⟩, ⟨RowH, w 13⟩, ⟨RowH, w 14⟩, ⟨RowH, w 15⟩, ⟨RowH, w 16⟩, ⟨RowH, w 17⟩, ⟨RowH, w 18⟩, ⟨RowH, w 19⟩, ⟨RowH, w 20⟩, ⟨RowH, w 21⟩, ⟨RowH, w 22⟩, ⟨RowH, w 23⟩, ⟨RowH, w 24⟩, ⟨RowH, w 25⟩, ⟨RowH, w 26⟩, ⟨RowH, w 27⟩, ⟨RowH, w 28⟩, ⟨RowH, w 29⟩, ⟨RowH, w 30⟩, ⟨RowH, w 31⟩] (concat_Wts w)

/-- One head's accumulator after the block. -/
def accV (vb : FVec F Vb .bf16) (w : ℕ → FVec F RowH .f32) (a : FVec F Acc1 .f32) : FVec F Acc1 .f32 :=
  shapeCast Acc1 (addf (shapeCast Vb a cast_Acc)
    (matmul dotVW none vb (truncf .bf16 (stackW w) bits_lt) (constant Vb .f32 0x00000000#32))) cast_Acc'

/-- The logits of a block of keys. -/
def logitsV (kb : FVec F Kb .bf16) (q : FVec F Qb .bf16) : FVec F Blk .f32 :=
  matmul dotKQ none kb q (constant Blk .f32 0x00000000#32)

/-! ## Programs -/

/-- The passes over row groups `n-1, …, 0`: the exponents without the later rows' sums are left in `p`, and
    the running sum is returned. -/
def rowsPass (cn : F .f32) (p : Memref sig .tc .vmem Blk .f32)
    (zrow : (t : ℕ) → t < 32 → Prog (TpuEff nD τ sig (Elt F) Λ .tc) (FVec F Row .f32)) :
    (n : ℕ) → n ≤ 32 → FVec F Row .f32 → Prog (TpuEff nD τ sig (Elt F) Λ .tc) (FVec F Row .f32)
  | 0, _, run => pure run
  | n + 1, h, run => do
    let z ← zrow n h
    let run' := addf run (softplusV cn z)
    let _ : Vec F Row .f32 ← Prog.lift (.load p (Rect.unit (s := Blk) ![8 * n, 0] Row.size (row_inb n h)).toLoadRect (View.loadsAt_vmem pos_Row))
    Prog.lift (.store p (Rect.unit (s := Blk) ![8 * n, 0] Row.size (row_inb n h)) (shapeCast Row (subf z run') cast_Row) Finset.univ (View.stores_vmem_bits_univ pos_Row rfl) (.inl rfl))
    rowsPass cn p zrow n (Nat.le_of_succ_le h) run'

/-- The weights of row groups `0, …, n-1` of a head, read from its exponents; `k` goes on with them. -/
def weightRows {α : Type} (cl : F .f32) (p : Memref sig .tc .vmem Blk .f32) (off : FVec F RowH .f32) (r : ℕ) (hr : r < 4) :
    (n : ℕ) → n ≤ 32 → ((ℕ → FVec F RowH .f32) → Prog (TpuEff nD τ sig (Elt F) Λ .tc) α) → Prog (TpuEff nD τ sig (Elt F) Λ .tc) α
  | 0, _, k => k fun _ => off
  | n + 1, h, k => weightRows cl p off r hr n (Nat.le_of_succ_le h) fun w => do
    let x : Vec F RowH .f32 ← Prog.lift (.load p (Rect.unit (s := Blk) ![8 * n, 256 * r] RowH.size (rowH_inb n r h hr)).toLoadRect (View.loadsAt_vmem pos_RowH))
    k fun t => bif Nat.beq t n then weightV cl x off else w t

/-- One head of a block: its weights, and their product with the values added to its accumulator. -/
def headPass (cl : F .f32) (acc : Memref sig .tc .vmem Acc .f32) (p : Memref sig .tc .vmem Blk .f32)
    (vb : FVec F Vb .bf16) (off : FVec F Row .f32) (r : ℕ) (hr : r < 4) : Prog (TpuEff nD τ sig (Elt F) Λ .tc) PUnit :=
  weightRows cl p (offH off r hr) r hr 32 (Nat.le_refl _) fun w => do
    let a : Vec F Acc1 .f32 ← Prog.lift (.load acc (Rect.unit (s := Acc) ![r, 0, 0] Acc1.size (acc_inb r hr)).toLoadRect (View.loadsAt_vmem pos_Acc1))
    let _ : Vec F Acc1 .f32 ← Prog.lift (.load acc (Rect.unit (s := Acc) ![r, 0, 0] Acc1.size (acc_inb r hr)).toLoadRect (View.loadsAt_vmem pos_Acc1))
    Prog.lift (.store acc (Rect.unit (s := Acc) ![r, 0, 0] Acc1.size (acc_inb r hr)) (accV vb w a) Finset.univ (View.stores_vmem_bits_univ pos_Acc1 rfl) (.inl rfl))

/-- A row group of logits as it stands. -/
def plainRow (z : Memref sig .tc .vmem Blk .f32) (t : ℕ) (h : t < 32) : Prog (TpuEff nD τ sig (Elt F) Λ .tc) (FVec F Row .f32) := do
  let x : Vec F Row .f32 ← Prog.lift (.load z (Rect.unit (s := Blk) ![8 * t, 0] Row.size (row_inb t h)).toLoadRect (View.loadsAt_vmem pos_Row))
  pure x

/-- A block: the values' block at `vo`, the row pass, the logits of the block at `ko` for the next one, the
    carried sums, and the four heads. -/
def kvBlock (cn cl : F .f32) (kt : Memref sig .tc .vmem KAll .bf16) (vt : Memref sig .tc .vmem VAll .bf16)
    (acc : Memref sig .tc .vmem Acc .f32) (car : Memref sig .tc .vmem Row .f32) (z p : Memref sig .tc .vmem Blk .f32)
    (zrow : (t : ℕ) → t < 32 → Prog (TpuEff nD τ sig (Elt F) Λ .tc) (FVec F Row .f32))
    (io : IVec Row 32) (q : FVec F Qb .bf16)
    (vo : Fin 4 → ℕ) (hvo : ∀ a, vo a + Vb4.size a ≤ VAll.size a)
    (ko : Fin 4 → ℕ) (hko : ∀ a, ko a + Kb4.size a ≤ KAll.size a) : Prog (TpuEff nD τ sig (Elt F) Λ .tc) PUnit := do
  let v : Vec F Vb4 .bf16 ← Prog.lift (.load vt (Rect.unit (s := VAll) vo Vb4.size hvo).toLoadRect (View.loadsAt_vmem pos_Vb4))
  let run ← rowsPass cn p zrow 32 (Nat.le_refl _) (broadcast Row (Scalar.ofBits .f32 0x00000000#32))
  let k : Vec F Kb4 .bf16 ← Prog.lift (.load kt (Rect.unit (s := KAll) ko Kb4.size hko).toLoadRect (View.loadsAt_vmem pos_Kb4))
  let _ : Vec F Blk .f32 ← Prog.lift (.load z (Rect.unit (s := Blk) ![0, 0] Blk.size blk_inb).toLoadRect (View.loadsAt_vmem pos_Blk))
  Prog.lift (.store z (Rect.unit (s := Blk) ![0, 0] Blk.size blk_inb) (shapeCast Blk (logitsV (shapeCast Kb k cast_Kb) q) cast_Blk) Finset.univ (View.stores_vmem_bits_univ pos_Blk rfl) (.inl rfl))
  let c : Vec F Row .f32 ← Prog.lift (.load car (Rect.unit (s := Row) ![0, 0] Row.size rowAll_inb).toLoadRect (View.loadsAt_vmem pos_Row))
  let _ : Vec F Row .f32 ← Prog.lift (.load car (Rect.unit (s := Row) ![0, 0] Row.size rowAll_inb).toLoadRect (View.loadsAt_vmem pos_Row))
  Prog.lift (.store car (Rect.unit (s := Row) ![0, 0] Row.size rowAll_inb) (shapeCast Row (carV io c run) cast_Row) Finset.univ (View.stores_vmem_bits_univ pos_Row rfl) (.inl rfl))
  headPass cl acc p (shapeCast Vb v cast_Vb) (offV cl io c run) 0 (by decide)
  headPass cl acc p (shapeCast Vb v cast_Vb) (offV cl io c run) 1 (by decide)
  headPass cl acc p (shapeCast Vb v cast_Vb) (offV cl io c run) 2 (by decide)
  headPass cl acc p (shapeCast Vb v cast_Vb) (offV cl io c run) 3 (by decide)

/-- A row group of logits with the mask's rows added for each head. -/
def maskedRow (z : Memref sig .tc .vmem Blk .f32) (m : Memref sig .tc .vmem Wts .f32) (t : ℕ) (h : t < 32) :
    Prog (TpuEff nD τ sig (Elt F) Λ .tc) (FVec F Row .f32) := do
  let x : Vec F Row .f32 ← Prog.lift (.load z (Rect.unit (s := Blk) ![8 * t, 0] Row.size (row_inb t h)).toLoadRect (View.loadsAt_vmem pos_Row))
  let y : Vec F RowH .f32 ← Prog.lift (.load m (Rect.unit (s := Wts) ![8 * t, 0] RowH.size (mask_inb t h)).toLoadRect (View.loadsAt_vmem pos_RowH))
  pure (addf x (concatenate Row 1 [⟨RowH, shapeCast RowH y cast_RowH⟩, ⟨RowH, shapeCast RowH y cast_RowH⟩, ⟨RowH, shapeCast RowH y cast_RowH⟩, ⟨RowH, shapeCast RowH y cast_RowH⟩] concat_Row))

/-- The row of each element of a row group. -/
def rowNo : IVec Row 32 := iota .tc Row 32 [0] iota_Row

/-- The four heads' augmented queries, one below the other. -/
def queries (x : FVec F Q4 .bf16) : FVec F Qb .bf16 := shapeCast Qb (shapeCast Q3 x cast_Q3) cast_Qb

/-- The results of a block of queries from its accumulators. -/
def resultV (a : FVec F Acc .f32) : FVec F Out .f32 :=
  shapeCast Out (transpose Wts [1, 0] (shapeCast Wts a cast_AccW) tr_Wts) cast_Out

/-- Where a block's keys lie. -/
abbrev KPlace := {o : Fin 4 → ℕ // ∀ a, o a + Kb4.size a ≤ KAll.size a}
/-- Where a block's values lie. -/
abbrev VPlace := {o : Fin 4 → ℕ // ∀ a, o a + Vb4.size a ≤ VAll.size a}

/-- The attention of one block of queries: cleared accumulators and sums, the block on the diagonal, then the
    four loops, of any bodies. -/
def attnOf (cn cl : F .f32) (qr : Memref sig .tc .vmem Q4 .bf16) (kt : Memref sig .tc .vmem KAll .bf16) (vt : Memref sig .tc .vmem VAll .bf16)
    (m : Memref sig .tc .vmem Wts .f32) (out : Memref sig .tc .vmem Out .f32)
    (acc : Memref sig .tc .vmem Acc .f32) (car : Memref sig .tc .vmem Row .f32) (z p : Memref sig .tc .vmem Blk .f32)
    (kd kn : KPlace) (vd : VPlace)
    (L₁ L₂ L₃ L₄ : Scf.Loop 32) (ok₁ : L₁.OK) (ok₂ : L₂.OK) (ok₃ : L₃.OK) (ok₄ : L₄.OK)
    (b₁ : FVec F Q4 .bf16 → Fin L₁.trips → PUnit → Prog (TpuEff nD τ sig (Elt F) Λ .tc) PUnit)
    (b₂ : FVec F Q4 .bf16 → Fin L₂.trips → PUnit → Prog (TpuEff nD τ sig (Elt F) Λ .tc) PUnit)
    (b₃ : FVec F Q4 .bf16 → Fin L₃.trips → PUnit → Prog (TpuEff nD τ sig (Elt F) Λ .tc) PUnit)
    (b₄ : FVec F Q4 .bf16 → Fin L₄.trips → PUnit → Prog (TpuEff nD τ sig (Elt F) Λ .tc) PUnit) :
    Prog (TpuEff nD τ sig (Elt F) Λ .tc) PUnit := do
  let _ : Vec F Acc .f32 ← Prog.lift (.load acc (Rect.unit (s := Acc) ![0, 0, 0] Acc.size accAll_inb).toLoadRect (View.loadsAt_vmem pos_Acc))
  Prog.lift (.store acc (Rect.unit (s := Acc) ![0, 0, 0] Acc.size accAll_inb) (shapeCast Acc (broadcast Acc (Scalar.ofBits (F := F) .f32 0x00000000#32)) cast_AccAll) Finset.univ (View.stores_vmem_bits_univ pos_Acc rfl) (.inl rfl))
  let _ : Vec F Row .f32 ← Prog.lift (.load car (Rect.unit (s := Row) ![0, 0] Row.size rowAll_inb).toLoadRect (View.loadsAt_vmem pos_Row))
  Prog.lift (.store car (Rect.unit (s := Row) ![0, 0] Row.size rowAll_inb) (shapeCast Row (broadcast Row (Scalar.ofBits (F := F) .f32 0x00000000#32)) cast_Row) Finset.univ (View.stores_vmem_bits_univ pos_Row rfl) (.inl rfl))
  let x : Vec F Q4 .bf16 ← Prog.lift (.load qr (Rect.unit (s := Q4) ![0, 0, 0, 0] Q4.size q4_inb).toLoadRect (View.loadsAt_vmem pos_Q4))
  let k : Vec F Kb4 .bf16 ← Prog.lift (.load kt (Rect.unit (s := KAll) kd.1 Kb4.size kd.2).toLoadRect (View.loadsAt_vmem pos_Kb4))
  let _ : Vec F Blk .f32 ← Prog.lift (.load z (Rect.unit (s := Blk) ![0, 0] Blk.size blk_inb).toLoadRect (View.loadsAt_vmem pos_Blk))
  Prog.lift (.store z (Rect.unit (s := Blk) ![0, 0] Blk.size blk_inb) (shapeCast Blk (logitsV (shapeCast Kb k cast_Kb) (queries x)) cast_Blk) Finset.univ (View.stores_vmem_bits_univ pos_Blk rfl) (.inl rfl))
  kvBlock cn cl kt vt acc car z p (maskedRow z m) rowNo (queries x) vd.1 vd.2 kn.1 kn.2
  L₁.for ok₁ ⟨⟩ (b₁ x)
  L₂.for ok₂ ⟨⟩ (b₂ x)
  L₃.for ok₃ ⟨⟩ (b₃ x)
  L₄.for ok₄ ⟨⟩ (b₄ x)
  let a : Vec F Acc .f32 ← Prog.lift (.load acc (Rect.unit (s := Acc) ![0, 0, 0] Acc.size accAll_inb).toLoadRect (View.loadsAt_vmem pos_Acc))
  let _ : Vec F Out .f32 ← Prog.lift (.load out (Rect.unit (s := Out) ![0, 0, 0] Out.size out_inb).toLoadRect (View.loadsAt_vmem pos_Out))
  Prog.lift (.store out (Rect.unit (s := Out) ![0, 0, 0] Out.size out_inb) (resultV a) Finset.univ (View.stores_vmem_bits_univ pos_Out rfl) (.inl rfl))

/-- Four blocks, one after the other. -/
def fourRun (cn cl : F .f32) (kt : Memref sig .tc .vmem KAll .bf16) (vt : Memref sig .tc .vmem VAll .bf16)
    (acc : Memref sig .tc .vmem Acc .f32) (car : Memref sig .tc .vmem Row .f32) (z p : Memref sig .tc .vmem Blk .f32)
    (x : FVec F Q4 .bf16) (v : Fin 4 → VPlace) (k : Fin 4 → KPlace) : Prog (TpuEff nD τ sig (Elt F) Λ .tc) PUnit := do
  kvBlock cn cl kt vt acc car z p (plainRow z) rowNo (queries x) (v 0).1 (v 0).2 (k 0).1 (k 0).2
  kvBlock cn cl kt vt acc car z p (plainRow z) rowNo (queries x) (v 1).1 (v 1).2 (k 1).1 (k 1).2
  kvBlock cn cl kt vt acc car z p (plainRow z) rowNo (queries x) (v 2).1 (v 2).2 (k 2).1 (k 2).2
  kvBlock cn cl kt vt acc car z p (plainRow z) rowNo (queries x) (v 3).1 (v 3).2 (k 3).1 (k 3).2

/-- The attention of one block of queries: cleared accumulators and sums, the block on the diagonal, then the
    earlier blocks, four to a trip of the loop `L₁` and one to a trip of `L₃`. -/
def attn (cn cl : F .f32) (qr : Memref sig .tc .vmem Q4 .bf16) (kt : Memref sig .tc .vmem KAll .bf16) (vt : Memref sig .tc .vmem VAll .bf16)
    (m : Memref sig .tc .vmem Wts .f32) (out : Memref sig .tc .vmem Out .f32)
    (acc : Memref sig .tc .vmem Acc .f32) (car : Memref sig .tc .vmem Row .f32) (z p : Memref sig .tc .vmem Blk .f32)
    (kd kn : KPlace) (vd : VPlace)
    (L₁ L₂ L₃ L₄ : Scf.Loop 32) (ok₁ : L₁.OK) (ok₂ : L₂.OK) (ok₃ : L₃.OK) (ok₄ : L₄.OK)
    (v₁ : Fin L₁.trips → Fin 4 → VPlace) (k₁ : Fin L₁.trips → Fin 4 → KPlace)
    (v₃ : Fin L₃.trips → VPlace) (k₃ : Fin L₃.trips → KPlace)
    (b₂ : FVec F Q4 .bf16 → Fin L₂.trips → PUnit → Prog (TpuEff nD τ sig (Elt F) Λ .tc) PUnit)
    (b₄ : FVec F Q4 .bf16 → Fin L₄.trips → PUnit → Prog (TpuEff nD τ sig (Elt F) Λ .tc) PUnit) :
    Prog (TpuEff nD τ sig (Elt F) Λ .tc) PUnit :=
  attnOf cn cl qr kt vt m out acc car z p kd kn vd L₁ L₂ L₃ L₄ ok₁ ok₂ ok₃ ok₄
    (fun x j _ => fourRun cn cl kt vt acc car z p x (v₁ j) (k₁ j)) b₂
    (fun x j _ => kvBlock cn cl kt vt acc car z p (plainRow z) rowNo (queries x) (v₃ j).1 (v₃ j).2 (k₃ j).1 (k₃ j).2) b₄

end Cert.Stick
-- ==== Proof.BlockValue.lean ====
/- What one block of keys leaves in the buffers, as functions: the exponents of all row groups, the weights,
   the accumulators, the carried sums and the next block's logits; and the state after a run of blocks. -/
module

public import proofs.«01_k».proof.Proof.Block
public import Idealize.ShloMosaic.Lib.ValueIdxCore
public import Idealize.ShloMosaic.Lib.Memref

@[expose] public section

set_option maxRecDepth 16384

noncomputable section

namespace Cert.Stick

open Idealize.ShloMosaic Idealize.ShloMosaic.ValueIdx

variable {F : FTy → Type} [FloatOps F]

/-- Row group `t` of a block. -/
def plainV (Z : Blk.Idx → F .f32) (t : ℕ) : FVec F Row .f32 :=
  fun i => Z (ix2 ⟨(8 * t + (i 0).val) % 256, Nat.mod_lt _ (by decide)⟩ ⟨(i 1).val, (i 1).isLt⟩)

/-- Row group `t` of the mask. -/
def maskRowV (M : Wts.Idx → F .f32) (t : ℕ) : FVec F RowH .f32 :=
  fun i => M (ix2 ⟨(8 * t + (i 0).val) % 256, Nat.mod_lt _ (by decide)⟩ ⟨(i 1).val, (i 1).isLt⟩)

/-- Row group `t` of a block with the mask's rows added for each head. -/
def maskedV (Z : Blk.Idx → F .f32) (M : Wts.Idx → F .f32) (t : ℕ) : FVec F Row .f32 :=
  addf (plainV Z t) (concatenate Row 1 [⟨RowH, shapeCast RowH (maskRowV M t) cast_RowH⟩, ⟨RowH, shapeCast RowH (maskRowV M t) cast_RowH⟩,
    ⟨RowH, shapeCast RowH (maskRowV M t) cast_RowH⟩, ⟨RowH, shapeCast RowH (maskRowV M t) cast_RowH⟩] concat_Row)

/-- The sums of `softplus` over the last `d` row groups. -/
def runD (cn : F .f32) (zv : ℕ → FVec F Row .f32) : ℕ → FVec F Row .f32
  | 0 => broadcast Row (Scalar.ofBits .f32 0x00000000#32)
  | d + 1 => addf (runD cn zv d) (softplusV cn (zv (31 - d)))

/-- The exponents of all row groups. -/
def pAll (cn : F .f32) (zv : ℕ → FVec F Row .f32) : Blk.Idx → F .f32 :=
  fun y => shapeCast Row (subf (zv ((y 0).val / 8)) (runD cn zv (32 - (y 0).val / 8))) cast_Row
    (ix2 ⟨(y 0).val % 8, Nat.mod_lt _ (by decide)⟩ ⟨(y 1).val, (y 1).isLt⟩)

/-- One head's part of row group `t` of the exponents. -/
def headP (P : Blk.Idx → F .f32) (r t : ℕ) : FVec F RowH .f32 :=
  fun i => P (ix2 ⟨(8 * t + (i 0).val) % 256, Nat.mod_lt _ (by decide)⟩ ⟨(256 * r + (i 1).val) % 1024, Nat.mod_lt _ (by decide)⟩)

/-- One head's weights of row group `t`. -/
def wts (cl : F .f32) (P : Blk.Idx → F .f32) (off : FVec F RowH .f32) (r t : ℕ) : FVec F RowH .f32 :=
  weightV cl (headP P r t) off

/-- The accumulators after one head. -/
def headA (cl : F .f32) (vb : FVec F Vb .bf16) (P : Blk.Idx → F .f32) (off : FVec F Row .f32) (r : ℕ) (hr : r < 4)
    (A : Acc.Idx → F .f32) : Acc.Idx → F .f32 :=
  (Rect.unit (s := Acc) ![r, 0, 0] Acc1.size (acc_inb r hr)).overlay A
    (accV vb (wts cl P (offH off r hr) r) fun i => A ((Rect.unit (s := Acc) ![r, 0, 0] Acc1.size (acc_inb r hr)).emb i))

/-- What a block finds and leaves: the accumulators, the carried sums and the logits. -/
structure St (F : FTy → Type) where
  acc : Acc.Idx → F .f32
  car : FVec F Row .f32
  z : Blk.Idx → F .f32

/-- The block of keys at a place. -/
def keyAt (K : KAll.Idx → F .bf16) (o : KPlace) : FVec F Kb4 .bf16 :=
  fun i => K ((Rect.unit (s := KAll) o.1 Kb4.size o.2).emb i)

/-- The block of values at a place. -/
def valAt (V : VAll.Idx → F .bf16) (o : VPlace) : FVec F Vb4 .bf16 :=
  fun i => V ((Rect.unit (s := VAll) o.1 Vb4.size o.2).emb i)

/-- The logits of a block of keys as loaded. -/
def zOf (q : FVec F Qb .bf16) (k : FVec F Kb4 .bf16) : Blk.Idx → F .f32 :=
  shapeCast Blk (logitsV (shapeCast Kb k cast_Kb) q) cast_Blk

/-- The four heads of a block. -/
def headsA (cl : F .f32) (v : FVec F Vb4 .bf16) (P : Blk.Idx → F .f32) (off : FVec F Row .f32) (A : Acc.Idx → F .f32) : Acc.Idx → F .f32 :=
  headA cl (shapeCast Vb v cast_Vb) P off 3 (by decide) (headA cl (shapeCast Vb v cast_Vb) P off 2 (by decide)
    (headA cl (shapeCast Vb v cast_Vb) P off 1 (by decide) (headA cl (shapeCast Vb v cast_Vb) P off 0 (by decide) A)))

/-- A block with row groups `zv`, values `v`, and the next block's keys `k`. -/
def blockSt (cn cl : F .f32) (io : IVec Row 32) (q : FVec F Qb .bf16) (zv : ℕ → FVec F Row .f32) (v : FVec F Vb4 .bf16)
    (k : FVec F Kb4 .bf16) (s : St F) : St F where
  acc := headsA cl v (pAll cn zv) (offV cl io s.car (runD cn zv 32)) s.acc
  car := shapeCast Row (carV io s.car (runD cn zv 32)) cast_Row
  z := zOf q k

/-- A block off the diagonal. -/
def plainSt (cn cl : F .f32) (q : FVec F Qb .bf16) (K : KAll.Idx → F .bf16) (V : VAll.Idx → F .bf16) (vo : VPlace) (ko : KPlace)
    (s : St F) : St F :=
  blockSt cn cl rowNo q (plainV s.z) (valAt V vo) (keyAt K ko) s

/-- Four blocks off the diagonal. -/
def fourSt (cn cl : F .f32) (q : FVec F Qb .bf16) (K : KAll.Idx → F .bf16) (V : VAll.Idx → F .bf16) (vo : Fin 4 → VPlace) (ko : Fin 4 → KPlace)
    (s : St F) : St F :=
  plainSt cn cl q K V (vo 3) (ko 3) (plainSt cn cl q K V (vo 2) (ko 2) (plainSt cn cl q K V (vo 1) (ko 1)
    (plainSt cn cl q K V (vo 0) (ko 0) s)))

/-- The state before trip `n` of a loop whose trips are `f`. -/
def stAt {N : ℕ} (f : Fin N → St F → St F) (s : St F) : ℕ → St F
  | 0 => s
  | n + 1 => if h : n < N then f ⟨n, h⟩ (stAt f s n) else stAt f s n

/-- The state after the block on the diagonal. -/
def diagSt (cn cl : F .f32) (q : FVec F Qb .bf16) (K : KAll.Idx → F .bf16) (V : VAll.Idx → F .bf16) (M : Wts.Idx → F .f32)
    (kd kn : KPlace) (vd : VPlace) : St F :=
  blockSt cn cl rowNo q (maskedV (zOf q (keyAt K kd)) M) (valAt V vd) (keyAt K kn)
    ⟨shapeCast Acc (broadcast Acc (Scalar.ofBits (F := F) .f32 0x00000000#32)) cast_AccAll,
      shapeCast Row (broadcast Row (Scalar.ofBits (F := F) .f32 0x00000000#32)) cast_Row, zOf q (keyAt K kd)⟩

/-- The state after all blocks. -/
def lastSt (cn cl : F .f32) (q : FVec F Qb .bf16) (K : KAll.Idx → F .bf16) (V : VAll.Idx → F .bf16) (M : Wts.Idx → F .f32)
    (kd kn : KPlace) (vd : VPlace) {N₁ N₃ : ℕ} (v₁ : Fin N₁ → Fin 4 → VPlace) (k₁ : Fin N₁ → Fin 4 → KPlace)
    (v₃ : Fin N₃ → VPlace) (k₃ : Fin N₃ → KPlace) : St F :=
  stAt (fun j => plainSt cn cl q K V (v₃ j) (k₃ j))
    (stAt (fun j => fourSt cn cl q K V (v₁ j) (k₁ j)) (diagSt cn cl q K V M kd kn vd) N₁) N₃

end Cert.Stick
-- ==== Proof.Owned.lean ====
/- Loads and stores of a memref held whole at known contents: a load goes on with the contents under the
   rectangle, a store leaves the contents with the rectangle's part replaced. -/
module

public import Idealize.ShloMosaic.Lib.Pipeline.Kit
public import Idealize.ShloMosaic.Lib.Scf
public import Idealize.ShloMosaic.Lib.Claim
public import Idealize.ShloMosaic.Lib.Tactic
public import Idealize.ShloMosaic.Lib.Exec

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : ℕ} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)

/-- A load through a rectangle of a memref held at contents `X`. -/
theorem wp_load_owns {sp : CoreSpace} {s : Shape} {e : EltTy} {m : Memref sig .tc sp s e} {r : Rect s}
    {hl : m.view.LoadsAt r.toLoadRect} {α : Type} {k : (r.shape.Idx → Elt F e) → Prog (TpuEff nD τ sig (Elt F) Λ .tc) α}
    {Q : α → sProp 𝕄} {X : s.Idx → Elt F e} :
    (owns (c : Thread nD τ) m fullShare X : sProp 𝕄)
      ⊢ iprop((owns (c : Thread nD τ) m fullShare X -∗ wp frame (wpE defs 𝒱 c bd) E (k fun i => X (r.emb i)) Q)
        -∗ wp frame (wpE defs 𝒱 c bd) E (.op (.load m r.toLoadRect hl) k) Q) := by
  unfold owns
  iintro ⟨%f, %hf, H⟩ HK
  have hS : m.view.setOn r.toLoadRect.set ⊆ m.view.set := by
    have h : m.view.setOn r.toLoadRect.set = (m.view.slice r).set := (View.set_slice ..).symm
    rw [h]; exact View.set_slice_subset _ _
  iapply (wp_load 𝒱 (c : Thread nD τ) bd E (hl := hl) hS) $$ H
  iintro H
  have e1 : m.view.readAt (Elt F) r.toLoadRect f = fun i => X (r.emb i) := by
    subst hf; rfl
  rw [e1]
  iapply HK
  iexists f
  isplitr
  · ipureintro; exact hf
  · iexact H

/-- A store of a whole rectangle of a memref held at contents `X`. -/
theorem wp_store_owns {sp : CoreSpace} {s : Shape} {e : EltTy} {m : Memref sig .tc sp s e} {r : Rect s}
    {w : r.shape.Idx → Elt F e} {hx : (m.access r).Stores Finset.univ} {hm : (Finset.univ : Finset r.shape.Idx) = Finset.univ ∨ ∀ a, r.stride a = 1}
    {α : Type} {k : PUnit → Prog (TpuEff nD τ sig (Elt F) Λ .tc) α}
    {Q : α → sProp 𝕄} {X : s.Idx → Elt F e} :
    (owns (c : Thread nD τ) m fullShare X : sProp 𝕄)
      ⊢ iprop((owns (c : Thread nD τ) m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ HK
  have hS : (m.access r).setOn Finset.univ ⊆ m.view.set := View.set_slice_subset _ _
  iapply (wp_store 𝒱 (c : Thread nD τ) bd E (hx := hx) (hm := hm) hS) $$ H
  iintro H
  iapply HK
  iexists ((m.access r).write (Elt F) f w Finset.univ)
  isplitr
  · ipureintro
    funext y
    by_cases hy : y ∈ r.set
    · rw [← Rect.map_emb_univ] at hy
      obtain ⟨x, -, rfl⟩ := Finset.mem_map.mp hy
      rw [Rect.overlay_emb]
      exact View.read_slice_write_emb r f w (Finset.mem_univ x)
    · rw [Rect.overlay_of_not_mem _ _ _ hy, ← hf]
      exact View.read_slice_write_of_not_mem r f w _ (by rwa [Rect.map_emb_univ])
  · iexact H

end Cert.Stick
-- ==== Proof.BlockRun.lean ====
/- The run of one block of keys and of the whole attention: each program, from buffers held at known contents,
   leaves what `BlockValue` says. -/
module

public import proofs.«01_k».proof.Proof.BlockValue
public import proofs.«01_k».proof.Proof.Owned

@[expose] public section

set_option maxRecDepth 16384

noncomputable section

namespace Cert.Stick

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

/-! ## Rectangles -/

/-- Inside the rectangle an overlay is the new part. -/
theorem overlay_unit {s : Shape} {α : Type} {off size : Fin s.rank → ℕ} {inb : ∀ a, off a + size a ≤ s.size a}
    (X : s.Idx → α) (w : (Rect.unit off size inb).shape.Idx → α) (y : s.Idx) (x : (Rect.unit off size inb).shape.Idx)
    (h : ∀ a, (y a).val = off a + (x a).val) : (Rect.unit off size inb).overlay X w y = w x := by
  have e : y = (Rect.unit off size inb).emb x := by
    funext a; apply Fin.ext; rw [h a]; simp [Rect.emb_apply]
  rw [e, Rect.overlay_emb]

/-- Outside it the old contents. -/
theorem overlay_unit_of_lt {s : Shape} {α : Type} {off size : Fin s.rank → ℕ} {inb : ∀ a, off a + size a ≤ s.size a}
    (X : s.Idx → α) (w : (Rect.unit off size inb).shape.Idx → α) (y : s.Idx) (a : Fin s.rank)
    (h : (y a).val < off a ∨ off a + size a ≤ (y a).val) : (Rect.unit off size inb).overlay X w y = X y := by
  apply Rect.overlay_of_not_mem
  rw [Rect.mem_set_unit]
  intro hm
  have := hm a
  omega

theorem overlay_full {s : Shape} {α : Type} {off : Fin s.rank → ℕ} {inb : ∀ a, off a + s.size a ≤ s.size a}
    (h0 : ∀ a, off a = 0) (X : s.Idx → α) (w : (Rect.unit off s.size inb).shape.Idx → α) :
    (Rect.unit off s.size inb).overlay X w = w := by
  funext y
  exact overlay_unit X w y y fun a => by rw [h0 a, Nat.zero_add]

theorem emb_full {s : Shape} {α : Type} {off : Fin s.rank → ℕ} {inb : ∀ a, off a + s.size a ≤ s.size a}
    (h0 : ∀ a, off a = 0) (X : s.Idx → α) : (fun i => X ((Rect.unit off s.size inb).emb i)) = X := by
  funext y
  congr 1
  funext a; apply Fin.ext; simp [Rect.emb_apply, h0 a]

variable {F : FTy → Type} [FloatOps F]

theorem row_read (Z : Blk.Idx → F .f32) (t : ℕ) (h : t < 32) :
    (fun i => Z ((Rect.unit (s := Blk) ![8 * t, 0] Row.size (row_inb t h)).emb i)) = plainV Z t := by
  funext i
  refine congrArg Z (funext fun a => Fin.ext ?_)
  have h0 : (i 0).val < 8 := (i 0).isLt
  fin_cases a
  · simp [Rect.emb_apply, ix2]; omega
  · simp [Rect.emb_apply, ix2]

theorem maskRow_read (M : Wts.Idx → F .f32) (t : ℕ) (h : t < 32) :
    (fun i => M ((Rect.unit (s := Wts) ![8 * t, 0] RowH.size (mask_inb t h)).emb i)) = maskRowV M t := by
  funext i
  refine congrArg M (funext fun a => Fin.ext ?_)
  have h0 : (i 0).val < 8 := (i 0).isLt
  fin_cases a
  · simp [Rect.emb_apply, ix2]; omega
  · simp [Rect.emb_apply, ix2]

theorem head_read (P : Blk.Idx → F .f32) (t r : ℕ) (h : t < 32) (hr : r < 4) :
    (fun i => P ((Rect.unit (s := Blk) ![8 * t, 256 * r] RowH.size (rowH_inb t r h hr)).emb i)) = headP P r t := by
  funext i
  refine congrArg P (funext fun a => Fin.ext ?_)
  have h0 : (i 0).val < 8 := (i 0).isLt
  have h1 : (i 1).val < 256 := (i 1).isLt
  fin_cases a
  · simp [Rect.emb_apply, ix2]; omega
  · simp [Rect.emb_apply, ix2]; omega

theorem pAll_overlay (cn : F .f32) (zv : ℕ → FVec F Row .f32) (n : ℕ) (h : n < 32) (P : Blk.Idx → F .f32)
    (hP : ∀ y : Blk.Idx, 8 * (n + 1) ≤ (y 0).val → P y = pAll cn zv y) (y : Blk.Idx) (hy : 8 * n ≤ (y 0).val) :
    (Rect.unit (s := Blk) ![8 * n, 0] Row.size (row_inb n h)).overlay P
      (shapeCast Row (subf (zv n) (runD cn zv (32 - n))) cast_Row) y = pAll cn zv y := by
  by_cases hm : (y 0).val < 8 * n + 8
  · have hq : (y 0).val / 8 = n := by omega
    refine (overlay_unit (s := Blk) (off := ![8 * n, 0]) (size := Row.size) (inb := row_inb n h) P _ y
      (ix2 (n0 := 8) (n1 := 1024) ⟨(y 0).val % 8, Nat.mod_lt _ (by decide)⟩ ⟨(y 1).val, (y 1).isLt⟩) ?_).trans ?_
    rotate_left
    · unfold pAll; rw [hq]
    · intro a; fin_cases a
      · simp [ix2]; omega
      · simp [ix2]
  · rw [overlay_unit_of_lt P _ y 0 (.inr (by simpa using Nat.le_of_not_lt hm))]
    exact hP y (by omega)

theorem stackW_congr {w w' : ℕ → FVec F RowH .f32} (h : ∀ t < 32, w t = w' t) : stackW w = stackW w' := by
  have e : stackW w = stackW fun t => if t < 32 then w t else w 0 := rfl
  have e' : stackW w' = stackW fun t => if t < 32 then w' t else w' 0 := rfl
  rw [e, e']
  congr 1
  funext t
  split
  · rw [h t ‹_›]
  · rw [h 0 (by decide)]

theorem accV_congr (vb : FVec F Vb .bf16) {w w' : ℕ → FVec F RowH .f32} (a : FVec F Acc1 .f32) (h : ∀ t < 32, w t = w' t) :
    accV vb w a = accV vb w' a := by
  unfold accV; rw [stackW_congr h]

/-! ## Runs -/

variable {nD : ℕ} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)

/-- A program returning row groups: run while holding `R`, it returns `zv t` and gives `R` back. -/
def RowSpec (defs : Defs nD τ sig (Elt F) Λ) (zrow : (t : ℕ) → t < 32 → Prog (TpuEff nD τ sig (Elt F) Λ .tc) (FVec F Row .f32))
    (R : sProp 𝕄) (zv : ℕ → FVec F Row .f32) : Prop :=
  ∀ (t : ℕ) (h : t < 32) (Q : FVec F Row .f32 → sProp 𝕄),
    R ⊢ iprop((R -∗ Q (zv t)) -∗ wp frame (wpE defs 𝒱 c bd) E (zrow t h) Q)

theorem plain_spec (z : Memref sig .tc .vmem Blk .f32) (Z : Blk.Idx → F .f32) :
    RowSpec 𝒱 c bd E defs (plainRow z) (owns (c : Thread nD τ) z fullShare Z : sProp 𝕄) (plainV Z) := by
  intro t h Q
  unfold plainRow
  simp only [Prog.bind_lift, Prog.pure_eq_ret]
  iintro H HK
  iapply (wp_load_owns 𝒱 c bd E) $$ H
  iintro H
  rw [row_read _ t h, wp_ret]
  imodintro
  iapply HK
  iexact H

theorem masked_spec (z : Memref sig .tc .vmem Blk .f32) (m : Memref sig .tc .vmem Wts .f32) (Z : Blk.Idx → F .f32) (M : Wts.Idx → F .f32) :
    RowSpec 𝒱 c bd E defs (maskedRow z m) (iprop(owns (c : Thread nD τ) z fullShare Z ∗ owns (c : Thread nD τ) m fullShare M) : sProp 𝕄) (maskedV Z M) := by
  intro t h Q
  unfold maskedRow maskedV
  simp only [Prog.bind_lift, Prog.pure_eq_ret]
  iintro ⟨H, HM⟩ HK
  iapply (wp_load_owns 𝒱 c bd E) $$ H
  iintro H
  iapply (wp_load_owns 𝒱 c bd E) $$ HM
  iintro HM
  rw [row_read _ t h, maskRow_read _ t h, wp_ret]
  imodintro
  iapply HK
  isplitl [H]
  · iexact H
  · iexact HM

theorem rowsPass_run (cn : F .f32) (p : Memref sig .tc .vmem Blk .f32)
    (zrow : (t : ℕ) → t < 32 → Prog (TpuEff nD τ sig (Elt F) Λ .tc) (FVec F Row .f32)) (R : sProp 𝕄) (zv : ℕ → FVec F Row .f32)
    (hz : RowSpec 𝒱 c bd E defs zrow R zv) (Q : FVec F Row .f32 → sProp 𝕄) :
    ∀ (n : ℕ) (hn : n ≤ 32) (P : Blk.Idx → F .f32) (_ : ∀ y : Blk.Idx, 8 * n ≤ (y 0).val → P y = pAll cn zv y),
      iprop(R ∗ owns (c : Thread nD τ) p fullShare P)
        ⊢ iprop((iprop(R ∗ owns (c : Thread nD τ) p fullShare (pAll cn zv)) -∗ Q (runD cn zv 32))
          -∗ wp frame (wpE defs 𝒱 c bd) E (rowsPass cn p zrow n hn (runD cn zv (32 - n))) Q) := by
  intro n
  induction n with
  | zero =>
    intro hn P hP
    obtain rfl : P = pAll cn zv := funext fun y => hP y (by omega)
    unfold rowsPass
    rw [Prog.pure_eq_ret, wp_ret]
    iintro H HK
    imodintro
    iapply HK
    iexact H
  | succ n ih =>
    intro hn P hP
    have e : addf (runD cn zv (32 - (n + 1))) (softplusV cn (zv n)) = runD cn zv (32 - n) := by
      rw [show 32 - n = (32 - (n + 1)) + 1 by omega, runD, show 31 - (32 - (n + 1)) = n by omega]
    unfold rowsPass
    rw [wp_bind]
    iintro ⟨HR, HP⟩ HK
    iapply (hz n hn _) $$ HR
    iintro HR
    simp only [Prog.bind_lift]
    rw [e]
    iapply (wp_load_owns 𝒱 c bd E) $$ HP
    iintro HP
    iapply (wp_store_owns 𝒱 c bd E) $$ HP
    iintro HP
    iapply (ih (Nat.le_of_succ_le hn) _ (pAll_overlay cn zv n hn P hP)) $$ [HR HP]
    · isplitl [HR]
      · iexact HR
      · iexact HP
    iexact HK

theorem weightRows_run {α : Type} (cl : F .f32) (p : Memref sig .tc .vmem Blk .f32) (off : FVec F RowH .f32) (r : ℕ) (hr : r < 4)
    (P : Blk.Idx → F .f32) (Q : α → sProp 𝕄) :
    ∀ (n : ℕ) (hn : n ≤ 32) (k : (ℕ → FVec F RowH .f32) → Prog (TpuEff nD τ sig (Elt F) Λ .tc) α) (R : sProp 𝕄)
      (_ : ∀ w : ℕ → FVec F RowH .f32, (∀ t < n, w t = wts cl P off r t) →
        iprop(R ∗ owns (c : Thread nD τ) p fullShare P) ⊢ wp frame (wpE defs 𝒱 c bd) E (k w) Q),
      iprop(R ∗ owns (c : Thread nD τ) p fullShare P) ⊢ wp frame (wpE defs 𝒱 c bd) E (weightRows cl p off r hr n hn k) Q := by
  intro n
  induction n with
  | zero =>
    intro hn k R hk
    exact hk _ fun t ht => absurd ht (Nat.not_lt_zero t)
  | succ n ih =>
    intro hn k R hk
    unfold weightRows
    refine ih (Nat.le_of_succ_le hn) _ R fun w hw => ?_
    simp only [Prog.bind_lift]
    iintro ⟨HR, HP⟩
    iapply (wp_load_owns 𝒱 c bd E) $$ HP
    iintro HP
    rw [head_read P n r hn hr]
    iapply (hk _ fun t ht => ?_)
    · by_cases h : t = n
      · subst h; simp [wts]
      · have hb : Nat.beq t n = false := by
          cases hb : Nat.beq t n
          · rfl
          · exact absurd (Nat.eq_of_beq_eq_true hb) h
        rw [hb]; exact hw t (by omega)
    isplitl [HR]
    · iexact HR
    · iexact HP

theorem headPass_run (cl : F .f32) (acc : Memref sig .tc .vmem Acc .f32) (p : Memref sig .tc .vmem Blk .f32)
    (vb : FVec F Vb .bf16) (off : FVec F Row .f32) (r : ℕ) (hr : r < 4) (P : Blk.Idx → F .f32) (A : Acc.Idx → F .f32)
    (Q : PUnit → sProp 𝕄) :
    iprop(owns (c : Thread nD τ) acc fullShare A ∗ owns (c : Thread nD τ) p fullShare P)
      ⊢ iprop((iprop(owns (c : Thread nD τ) acc fullShare (headA cl vb P off r hr A) ∗ owns (c : Thread nD τ) p fullShare P) -∗ Q ⟨⟩)
        -∗ wp frame (wpE defs 𝒱 c bd) E (headPass cl acc p vb off r hr) Q) := by
  unfold headPass
  iintro ⟨HA, HP⟩ HK
  iapply (weightRows_run 𝒱 c bd E cl p (offH off r hr) r hr P Q 32 (Nat.le_refl _) _
    iprop(owns (c : Thread nD τ) acc fullShare A ∗ (iprop(owns (c : Thread nD τ) acc fullShare (headA cl vb P off r hr A) ∗ owns (c : Thread nD τ) p fullShare P) -∗ Q ⟨⟩)) fun w hw => ?_)
  · simp only [Prog.bind_lift]
    iintro ⟨⟨HA, HK⟩, HP⟩
    iapply (wp_load_owns 𝒱 c bd E) $$ HA
    iintro HA
    iapply (wp_load_owns 𝒱 c bd E) $$ HA
    iintro HA
    rw [accV_congr vb _ hw]
    simp only [Prog.lift]
    iapply (wp_store_owns 𝒱 c bd E) $$ HA
    iintro HA
    rw [wp_ret]
    imodintro
    iapply HK
    isplitl [HA]
    · iexact HA
    · iexact HP
  · isplitr [HP]
    · isplitl [HA]
      · iexact HA
      · iexact HK
    · iexact HP

theorem RowSpec.frame {zrow : (t : ℕ) → t < 32 → Prog (TpuEff nD τ sig (Elt F) Λ .tc) (FVec F Row .f32)}
    {R : sProp 𝕄} {zv : ℕ → FVec F Row .f32} (h : RowSpec 𝒱 c bd E defs zrow R zv) (R' : sProp 𝕄) :
    RowSpec 𝒱 c bd E defs zrow iprop(R ∗ R') zv := by
  intro t ht Q
  iintro ⟨HR, HR'⟩ HK
  iapply (h t ht Q) $$ HR
  iintro HR
  iapply HK
  isplitl [HR]
  · iexact HR
  · iexact HR'

/-- What a block is run with: the keys, the values, the state `s`, room for the exponents, and `R`. -/
def Held (kt : Memref sig .tc .vmem KAll .bf16) (vt : Memref sig .tc .vmem VAll .bf16)
    (acc : Memref sig .tc .vmem Acc .f32) (car : Memref sig .tc .vmem Row .f32) (z p : Memref sig .tc .vmem Blk .f32)
    (KT : KAll.Idx → F .bf16) (VT : VAll.Idx → F .bf16) (R : sProp 𝕄) (s : St F) : sProp 𝕄 :=
  iprop(owns (c : Thread nD τ) kt fullShare KT ∗ owns (c : Thread nD τ) vt fullShare VT ∗ owns (c : Thread nD τ) acc fullShare s.acc
        ∗ owns (c : Thread nD τ) car fullShare s.car ∗ owns (c : Thread nD τ) z fullShare s.z ∗ (∃ P, owns (c : Thread nD τ) p fullShare P) ∗ R)

/-- One block of keys. -/
theorem kvBlock_run (cn cl : F .f32) (kt : Memref sig .tc .vmem KAll .bf16) (vt : Memref sig .tc .vmem VAll .bf16)
    (acc : Memref sig .tc .vmem Acc .f32) (car : Memref sig .tc .vmem Row .f32) (z p : Memref sig .tc .vmem Blk .f32)
    (zrow : (t : ℕ) → t < 32 → Prog (TpuEff nD τ sig (Elt F) Λ .tc) (FVec F Row .f32)) (zv : ℕ → FVec F Row .f32) (R : sProp 𝕄)
    (q : FVec F Qb .bf16) (vo : VPlace) (ko : KPlace) (KT : KAll.Idx → F .bf16) (VT : VAll.Idx → F .bf16) (s : St F)
    (hz : RowSpec 𝒱 c bd E defs zrow iprop(owns (c : Thread nD τ) z fullShare s.z ∗ R) zv) (Q : PUnit → sProp 𝕄) :
    Held c kt vt acc car z p KT VT R s
      ⊢ iprop((Held c kt vt acc car z p KT VT R (blockSt cn cl rowNo q zv (valAt VT vo) (keyAt KT ko) s) -∗ Q ⟨⟩)
        -∗ wp frame (wpE defs 𝒱 c bd) E (kvBlock cn cl kt vt acc car z p zrow rowNo q vo.1 vo.2 ko.1 ko.2) Q) := by
  unfold kvBlock blockSt headsA Held
  simp only [Prog.bind_lift]
  iintro ⟨HK, HV, HA, HC, HZ, ⟨%P, HP⟩, HR⟩ HQ
  iapply (wp_load_owns 𝒱 c bd E) $$ HV
  iintro HV
  rw [wp_bind]
  iapply (rowsPass_run 𝒱 c bd E cn p zrow _ zv hz _ 32 (Nat.le_refl _) P (fun y hy => absurd (y 0).isLt (Nat.not_lt.mpr hy))) $$ [HZ HR HP]
  · isplitr [HP]
    · isplitl [HZ]
      · iexact HZ
      · iexact HR
    · iexact HP
  iintro ⟨⟨HZ, HR⟩, HP⟩
  iapply (wp_load_owns 𝒱 c bd E) $$ HK
  iintro HK
  iapply (wp_load_owns 𝒱 c bd E) $$ HZ
  iintro HZ
  iapply (wp_store_owns 𝒱 c bd E) $$ HZ
  iintro HZ
  iapply (wp_load_owns 𝒱 c bd E) $$ HC
  iintro HC
  iapply (wp_load_owns 𝒱 c bd E) $$ HC
  iintro HC
  iapply (wp_store_owns 𝒱 c bd E) $$ HC
  iintro HC
  rw [emb_full (s := Row) (off := ![0, 0]) (inb := rowAll_inb) (by decide) s.car, overlay_full (s := Row) (off := ![0, 0]) (inb := rowAll_inb) (by decide),
    overlay_full (s := Blk) (off := ![0, 0]) (inb := blk_inb) (by decide)]
  rw [wp_bind]
  iapply (headPass_run 𝒱 c bd E cl acc p _ _ _ _ _ _ _) $$ [HA HP]
  · isplitl [HA]
    · iexact HA
    · iexact HP
  iintro ⟨HA, HP⟩
  rw [wp_bind]
  iapply (headPass_run 𝒱 c bd E cl acc p _ _ _ _ _ _ _) $$ [HA HP]
  · isplitl [HA]
    · iexact HA
    · iexact HP
  iintro ⟨HA, HP⟩
  rw [wp_bind]
  iapply (headPass_run 𝒱 c bd E cl acc p _ _ _ _ _ _ _) $$ [HA HP]
  · isplitl [HA]
    · iexact HA
    · iexact HP
  iintro ⟨HA, HP⟩
  iapply (headPass_run 𝒱 c bd E cl acc p _ _ _ _ _ _ _) $$ [HA HP]
  · isplitl [HA]
    · iexact HA
    · iexact HP
  iintro ⟨HA, HP⟩
  iapply HQ
  isplitl [HK]
  · iexact HK
  isplitl [HV]
  · iexact HV
  isplitl [HA]
  · iexact HA
  isplitl [HC]
  · iexact HC
  isplitl [HZ]
  · iexact HZ
  isplitl [HP]
  · iexists _; iexact HP
  · iexact HR

/-- One block off the diagonal. -/
theorem plain_run (cn cl : F .f32) (kt : Memref sig .tc .vmem KAll .bf16) (vt : Memref sig .tc .vmem VAll .bf16)
    (acc : Memref sig .tc .vmem Acc .f32) (car : Memref sig .tc .vmem Row .f32) (z p : Memref sig .tc .vmem Blk .f32) (R : sProp 𝕄)
    (q : FVec F Qb .bf16) (vo : VPlace) (ko : KPlace) (KT : KAll.Idx → F .bf16) (VT : VAll.Idx → F .bf16) (s : St F) (Q : PUnit → sProp 𝕄) :
    Held c kt vt acc car z p KT VT R s
      ⊢ iprop((Held c kt vt acc car z p KT VT R (plainSt cn cl q KT VT vo ko s) -∗ Q ⟨⟩)
        -∗ wp frame (wpE defs 𝒱 c bd) E (kvBlock cn cl kt vt acc car z p (plainRow z) rowNo q vo.1 vo.2 ko.1 ko.2) Q) :=
  kvBlock_run 𝒱 c bd E cn cl kt vt acc car z p (plainRow z) (plainV s.z) R q vo ko KT VT s
    ((plain_spec 𝒱 c bd E z s.z).frame 𝒱 c bd E R) Q

theorem stAt_succ {N : ℕ} (f : Fin N → St F → St F) (s : St F) (j : Fin N) : stAt f s (j.val + 1) = f j (stAt f s j.val) := by
  simp [stAt, j.isLt]

/-- The attention of one block of queries, the loops `L₂` and `L₄` making no trip. -/
theorem attn_run (cn cl : F .f32) (qr : Memref sig .tc .vmem Q4 .bf16) (kt : Memref sig .tc .vmem KAll .bf16) (vt : Memref sig .tc .vmem VAll .bf16)
    (m : Memref sig .tc .vmem Wts .f32) (out : Memref sig .tc .vmem Out .f32)
    (acc : Memref sig .tc .vmem Acc .f32) (car : Memref sig .tc .vmem Row .f32) (z p : Memref sig .tc .vmem Blk .f32)
    (kd kn : KPlace) (vd : VPlace)
    (L₁ L₂ L₃ L₄ : Scf.Loop 32) (ok₁ : L₁.OK) (ok₂ : L₂.OK) (ok₃ : L₃.OK) (ok₄ : L₄.OK) (h₂ : L₂.trips = 0) (h₄ : L₄.trips = 0)
    (v₁ : Fin L₁.trips → Fin 4 → VPlace) (k₁ : Fin L₁.trips → Fin 4 → KPlace)
    (v₃ : Fin L₃.trips → VPlace) (k₃ : Fin L₃.trips → KPlace)
    (b₂ : FVec F Q4 .bf16 → Fin L₂.trips → PUnit → Prog (TpuEff nD τ sig (Elt F) Λ .tc) PUnit)
    (b₄ : FVec F Q4 .bf16 → Fin L₄.trips → PUnit → Prog (TpuEff nD τ sig (Elt F) Λ .tc) PUnit)
    (X : Q4.Idx → F .bf16) (KT : KAll.Idx → F .bf16) (VT : VAll.Idx → F .bf16) (M : Wts.Idx → F .f32) (Q : PUnit → sProp 𝕄) :
    iprop(owns (c : Thread nD τ) qr fullShare X ∗ owns (c : Thread nD τ) kt fullShare KT ∗ owns (c : Thread nD τ) vt fullShare VT
        ∗ owns (c : Thread nD τ) m fullShare M ∗ (∃ d, owns (c : Thread nD τ) out fullShare d) ∗ (∃ d, owns (c : Thread nD τ) acc fullShare d)
        ∗ (∃ d, owns (c : Thread nD τ) car fullShare d) ∗ (∃ d, owns (c : Thread nD τ) z fullShare d) ∗ (∃ d, owns (c : Thread nD τ) p fullShare d))
      ⊢ iprop((iprop(owns (c : Thread nD τ) qr fullShare X ∗ owns (c : Thread nD τ) kt fullShare KT ∗ owns (c : Thread nD τ) vt fullShare VT
          ∗ owns (c : Thread nD τ) m fullShare M
          ∗ owns (c : Thread nD τ) out fullShare (resultV (lastSt cn cl (queries X) KT VT M kd kn vd v₁ k₁ v₃ k₃).acc)
          ∗ (∃ d, owns (c : Thread nD τ) acc fullShare d)
          ∗ (∃ d, owns (c : Thread nD τ) car fullShare d) ∗ (∃ d, owns (c : Thread nD τ) z fullShare d) ∗ (∃ d, owns (c : Thread nD τ) p fullShare d)) -∗ Q ⟨⟩)
        -∗ wp frame (wpE defs 𝒱 c bd) E (attn cn cl qr kt vt m out acc car z p kd kn vd L₁ L₂ L₃ L₄ ok₁ ok₂ ok₃ ok₄ v₁ k₁ v₃ k₃ b₂ b₄) Q) := by
  unfold attn attnOf
  simp only [Prog.bind_lift]
  iintro ⟨HX, HK, HV, HM, ⟨%o, HO⟩, ⟨%A, HA⟩, ⟨%C, HC⟩, ⟨%Z, HZ⟩, HP⟩ HQ
  iapply (wp_load_owns 𝒱 c bd E) $$ HA
  iintro HA
  iapply (wp_store_owns 𝒱 c bd E) $$ HA
  iintro HA
  iapply (wp_load_owns 𝒱 c bd E) $$ HC
  iintro HC
  iapply (wp_store_owns 𝒱 c bd E) $$ HC
  iintro HC
  iapply (wp_load_owns 𝒱 c bd E) $$ HX
  iintro HX
  iapply (wp_load_owns 𝒱 c bd E) $$ HK
  iintro HK
  iapply (wp_load_owns 𝒱 c bd E) $$ HZ
  iintro HZ
  iapply (wp_store_owns 𝒱 c bd E) $$ HZ
  iintro HZ
  rw [emb_full (s := Q4) (off := ![0, 0, 0, 0]) (inb := q4_inb) (by decide) X,
    overlay_full (s := Row) (off := ![0, 0]) (inb := rowAll_inb) (by decide),
    overlay_full (s := Acc) (off := ![0, 0, 0]) (inb := accAll_inb) (by decide),
    overlay_full (s := Blk) (off := ![0, 0]) (inb := blk_inb) (by decide)]
  rw [wp_bind]
  iapply (kvBlock_run 𝒱 c bd E cn cl kt vt acc car z p (maskedRow z m) (maskedV (zOf (queries X) (keyAt KT kd)) M)
    (owns (c : Thread nD τ) m fullShare M) (queries X) vd kn KT VT
    ⟨shapeCast Acc (broadcast Acc (Scalar.ofBits (F := F) .f32 0x00000000#32)) cast_AccAll,
      shapeCast Row (broadcast Row (Scalar.ofBits (F := F) .f32 0x00000000#32)) cast_Row, zOf (queries X) (keyAt KT kd)⟩
    (masked_spec 𝒱 c bd E z m _ M) _) $$ [HK HV HA HC HZ HP HM]
  · unfold Held
    isplitl [HK]
    · iexact HK
    isplitl [HV]
    · iexact HV
    isplitl [HA]
    · iexact HA
    isplitl [HC]
    · iexact HC
    isplitl [HZ]
    · iexact HZ
    isplitl [HP]
    · iexact HP
    · iexact HM
  iintro HH
  rw [show blockSt cn cl rowNo (queries X) (maskedV (zOf (queries X) (keyAt KT kd)) M) (valAt VT vd) (keyAt KT kn)
      ⟨shapeCast Acc (broadcast Acc (Scalar.ofBits (F := F) .f32 0x00000000#32)) cast_AccAll,
        shapeCast Row (broadcast Row (Scalar.ofBits (F := F) .f32 0x00000000#32)) cast_Row, zOf (queries X) (keyAt KT kd)⟩
    = stAt (fun j => fourSt cn cl (queries X) KT VT (v₁ j) (k₁ j)) (diagSt cn cl (queries X) KT VT M kd kn vd) 0 from rfl]
  iapply (Scf.wp_for_bind frame (wpE defs 𝒱 c bd) E _ _ _ ok₁ _ _
    (fun n _ => Held c kt vt acc car z p KT VT (owns (c : Thread nD τ) m fullShare M)
      (stAt (fun j => fourSt cn cl (queries X) KT VT (v₁ j) (k₁ j)) (diagSt cn cl (queries X) KT VT M kd kn vd) n))
    (fun j _ => ?_)) $$ HH
  · rw [stAt_succ]
    unfold fourSt fourRun
    iintro HH
    rw [wp_bind]
    iapply (plain_run 𝒱 c bd E cn cl kt vt acc car z p _ (queries X) (v₁ j 0) (k₁ j 0) KT VT) $$ HH
    iintro HH
    rw [wp_bind]
    iapply (plain_run 𝒱 c bd E cn cl kt vt acc car z p _ (queries X) (v₁ j 1) (k₁ j 1) KT VT) $$ HH
    iintro HH
    rw [wp_bind]
    iapply (plain_run 𝒱 c bd E cn cl kt vt acc car z p _ (queries X) (v₁ j 2) (k₁ j 2) KT VT) $$ HH
    iintro HH
    iapply (plain_run 𝒱 c bd E cn cl kt vt acc car z p _ (queries X) (v₁ j 3) (k₁ j 3) KT VT) $$ HH
    iintro HH
    iexact HH
  iintro %u HH
  iapply (Scf.wp_for_bind frame (wpE defs 𝒱 c bd) E _ _ _ ok₂ _ _
    (fun _ _ => Held c kt vt acc car z p KT VT (owns (c : Thread nD τ) m fullShare M)
      (stAt (fun j => fourSt cn cl (queries X) KT VT (v₁ j) (k₁ j)) (diagSt cn cl (queries X) KT VT M kd kn vd) L₁.trips))
    (fun j _ => absurd j.isLt (by have : Scf.trips L₂.lb L₂.ub L₂.st = 0 := h₂; omega))) $$ HH
  iintro %u₂ HH
  rw [show stAt (fun j => fourSt cn cl (queries X) KT VT (v₁ j) (k₁ j)) (diagSt cn cl (queries X) KT VT M kd kn vd) L₁.trips
    = stAt (fun j => plainSt cn cl (queries X) KT VT (v₃ j) (k₃ j))
        (stAt (fun j => fourSt cn cl (queries X) KT VT (v₁ j) (k₁ j)) (diagSt cn cl (queries X) KT VT M kd kn vd) L₁.trips) 0 from rfl]
  iapply (Scf.wp_for_bind frame (wpE defs 𝒱 c bd) E _ _ _ ok₃ _ _
    (fun n _ => Held c kt vt acc car z p KT VT (owns (c : Thread nD τ) m fullShare M)
      (stAt (fun j => plainSt cn cl (queries X) KT VT (v₃ j) (k₃ j))
        (stAt (fun j => fourSt cn cl (queries X) KT VT (v₁ j) (k₁ j)) (diagSt cn cl (queries X) KT VT M kd kn vd) L₁.trips) n))
    (fun j _ => ?_)) $$ HH
  · rw [stAt_succ]
    iintro HH
    iapply (plain_run 𝒱 c bd E cn cl kt vt acc car z p _ (queries X) (v₃ j) (k₃ j) KT VT) $$ HH
    iintro HH
    iexact HH
  iintro %u₃ HH
  iapply (Scf.wp_for_bind frame (wpE defs 𝒱 c bd) E _ _ _ ok₄ _ _
    (fun _ _ => Held c kt vt acc car z p KT VT (owns (c : Thread nD τ) m fullShare M) (lastSt cn cl (queries X) KT VT M kd kn vd v₁ k₁ v₃ k₃))
    (fun j _ => absurd j.isLt (by have : Scf.trips L₄.lb L₄.ub L₄.st = 0 := h₄; omega))) $$ [HH]
  · iexact HH
  iintro %u₄ HH
  unfold Held
  icases HH with ⟨HK, HV, HA, HC, HZ, HP, HM⟩
  iapply (wp_load_owns 𝒱 c bd E) $$ HA
  iintro HA
  iapply (wp_load_owns 𝒱 c bd E) $$ HO
  iintro HO
  simp only [Prog.lift]
  iapply (wp_store_owns 𝒱 c bd E) $$ HO
  iintro HO
  rw [wp_ret]
  imodintro
  rw [emb_full (s := Acc) (off := ![0, 0, 0]) (inb := accAll_inb) (by decide),
    overlay_full (s := Out) (off := ![0, 0, 0]) (inb := out_inb) (by decide)]
  iapply HQ
  isplitl [HX]
  · iexact HX
  isplitl [HK]
  · iexact HK
  isplitl [HV]
  · iexact HV
  isplitl [HM]
  · iexact HM
  isplitl [HO]
  · iexact HO
  isplitl [HA]
  · iexists _; iexact HA
  isplitl [HC]
  · iexists _; iexact HC
  isplitl [HZ]
  · iexists _; iexact HZ
  · iexact HP

end Cert.Stick
-- ==== Proof.KernelIdealEq.lean ====
/- The call's body, statement by statement, is the attention of `Block`. -/
module

public import proofs.«01_k».proof.Proof.Block
public import proofs.«01_k».proof.KernelIdeal
@[expose] public section
set_option maxRecDepth 100000
set_option maxHeartbeats 0
noncomputable section
namespace Cert.Stick
open Idealize.ShloMosaic Idealize.SL.Sem

/-- Two programs with the same first step agree if what follows does. -/
theorem op_congr {E : Type → Type*} {α β : Type} {e : E β} {k k' : β → Prog E α} (h : ∀ r, k r = k' r) : Prog.op e k = Prog.op e k' :=
  congrArg _ (funext h)

/-- Two loops agree if their bodies do, and what follows. -/
theorem for_congr {w : ℕ} {E : Type → Type*} {α σ : Type} {L : Scf.Loop w} {ok : L.OK} {s : σ} {b b' : Fin L.trips → σ → Prog E σ} {k k' : σ → Prog E α}
    (hb : ∀ j x, b j x = b' j x) (h : ∀ x, k x = k' x) : (L.for ok s b >>= k) = (L.for ok s b' >>= k') := by
  rw [show b = b' from funext fun j => funext fun x => hb j x, show k = k' from funext h]

/-- The same with two more programs after, on the left. -/
theorem for_congr_bind {w : ℕ} {E : Type → Type*} {α β γ σ : Type} {L : Scf.Loop w} {ok : L.OK} {s : σ} {b b' : Fin L.trips → σ → Prog E σ}
    {k : σ → Prog E α} {g : α → Prog E β} {f : β → Prog E γ} {k' : σ → Prog E γ}
    (hb : ∀ j x, b j x = b' j x) (h : ∀ x, (k x >>= g >>= f) = k' x) : (L.for ok s b >>= k >>= g >>= f) = (L.for ok s b' >>= k') := by
  rw [bind_assoc, bind_assoc]
  exact for_congr hb fun x => by rw [← h x, bind_assoc]

end Cert.Stick
namespace Cert.KernelIdeal
open Idealize.ShloMosaic Idealize.SL.Sem Cert.Stick
variable {F : FTy → Type} [FloatOps F] [Named F] [Facts]
open Facts₀ Facts

/-- The body of the call is the attention, with some bodies for the two loops that make no trip. -/
theorem cc0_eq (i : grid0.Coords) (arg3 : Memref sig .tc .vmem S1x4x256x128 .bf16) (harg3 : arg3.IsWhole) (arg4 : Memref sig .tc .vmem S1x1x8192x128 .bf16) (harg4 : arg4.IsWhole) (arg5 : Memref sig .tc .vmem S1x1x64x8192 .bf16) (harg5 : arg5.IsWhole) (arg6 : Memref sig .tc .vmem S256x256 .f32) (harg6 : arg6.IsWhole) (arg7 : Memref sig .tc .vmem S1x256x256 .f32) (harg7 : arg7.IsWhole) (arg8 : Memref sig .tc .vmem S4x64x256 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S256x1024 .f32) (harg11 : arg11.IsWhole) :
   ∃ b₂ b₄, cc0_sb_prompt (F := F) i arg3 harg3 arg4 harg4 arg5 harg5 arg6 harg6 arg7 harg7 arg8 harg8 arg9 harg9 arg10 harg10 arg11 harg11
    = Cert.Stick.attn (Named.named κ "neg_log2e" 0xBFB8AA3B#32) (Named.named κ "log2e" 0x3FB8AA3B#32) arg3 arg4 arg5 arg6 arg7 arg8 arg9 arg10 arg11
       ⟨k0_off1 i, k0_off1_inb i⟩ ⟨k0_off3 i, k0_off3_inb i⟩ ⟨k0_off2 i, k0_off2_inb i⟩
       (k0_t1_loop i) (k0_t2_loop i) (k0_t3_loop i) (k0_t4_loop i) (k0_t1_ok i) (k0_t2_ok i) (k0_t3_ok i) (k0_t4_ok i)
       (fun j r => ⟨k0_off4 i j (BitVec.ofNat 32 r.val), k0_off4_inb i j r⟩) (fun j r => ⟨k0_off5 i j (BitVec.ofNat 32 r.val), k0_off5_inb i j r⟩)
       (fun j => ⟨k0_off8 i j, k0_off8_inb i j⟩) (fun j => ⟨k0_off9 i j, k0_off9_inb i j⟩) b₂ b₄ := by
  apply Exists.intro
  apply Exists.intro
  iterate 283
    refine op_congr fun _ => ?_
  refine for_congr_bind (L := k0_t1_loop i) (ok := k0_t1_ok i) (fun j _ => ?_) (fun _ => ?_)
  · iterate 972
      refine op_congr fun _ => ?_
    rfl
  refine for_congr_bind (L := k0_t2_loop i) (ok := k0_t2_ok i) (fun j _ => rfl) (fun _ => ?_)
  refine for_congr (L := k0_t3_loop i) (ok := k0_t3_ok i) (fun j _ => ?_) (fun _ => ?_)
  · iterate 243
      refine op_congr fun _ => ?_
    rfl
  refine for_congr (L := k0_t4_loop i) (ok := k0_t4_ok i) (fun j _ => rfl) (fun _ => ?_)
  iterate 3
    refine op_congr fun _ => ?_
  rfl
end Cert.KernelIdeal
-- ==== Proof.Places.lean ====
/- How often each loop of the kernel runs at a grid point, and where the blocks of keys and values lie that it reads. -/
module

public import proofs.«01_k».proof.Proof.Gen.KernelIdeal

@[expose] public section

noncomputable section

namespace Cert.Stick.Places

open Idealize.ShloMosaic Cert.KernelIdeal

/-- Four blocks are taken in each trip of the first loop. -/
theorem trips1 : ∀ i : grid0.Coords, (k0_t1_loop i).trips = (i 2).val / 4 := by decide +kernel
/-- The rest loop of the unrolled one never runs. -/
theorem trips2 : ∀ i : grid0.Coords, (k0_t2_loop i).trips = 0 := by decide +kernel
/-- The blocks that are left over are taken one by one. -/
theorem trips3 : ∀ i : grid0.Coords, (k0_t3_loop i).trips = (i 2).val % 4 := by decide +kernel
/-- The rest loop of the single blocks never runs. -/
theorem trips4 : ∀ i : grid0.Coords, (k0_t4_loop i).trips = 0 := by decide +kernel

/-- The block of keys on the diagonal. -/
theorem off1 : ∀ i : grid0.Coords, k0_off1 i = ![0, 0, 256 * (i 2).val, 0] := by decide +kernel
/-- The block of values on the diagonal. -/
theorem off2 : ∀ i : grid0.Coords, k0_off2 i = ![0, 0, 0, 256 * (i 2).val] := by decide +kernel
/-- The block of keys before the diagonal. -/
theorem off3 : ∀ i : grid0.Coords, k0_off3 i = ![0, 0, 256 * ((i 2).val - 1), 0] := by decide +kernel
/-- The blocks of values of a trip of the first loop. -/
theorem off4 : ∀ (i : grid0.Coords) (j : Fin (k0_t1_loop i).trips) (r : Fin 4),
    k0_off4 i j (BitVec.ofNat 32 r.val) = ![0, 0, 0, 256 * ((i 2).val - 1 - (4 * j.val + r.val))] := by decide +kernel
/-- The blocks of keys that a trip of the first loop turns to. -/
theorem off5 : ∀ (i : grid0.Coords) (j : Fin (k0_t1_loop i).trips) (r : Fin 4),
    k0_off5 i j (BitVec.ofNat 32 r.val) = ![0, 0, 256 * ((i 2).val - 1 - (4 * j.val + r.val) - 1), 0] := by decide +kernel
/-- The block of values of a trip of the third loop. -/
theorem off8 : ∀ (i : grid0.Coords) (j : Fin (k0_t3_loop i).trips),
    k0_off8 i j = ![0, 0, 0, 256 * ((i 2).val - 1 - (4 * ((i 2).val / 4) + j.val))] := by decide +kernel
/-- The block of keys that a trip of the third loop turns to. -/
theorem off9 : ∀ (i : grid0.Coords) (j : Fin (k0_t3_loop i).trips),
    k0_off9 i j = ![0, 0, 256 * ((i 2).val - 1 - (4 * ((i 2).val / 4) + j.val) - 1), 0] := by decide +kernel

end Cert.Stick.Places

end
-- ==== Proof.Run.lean ====
/- What the whole call leaves in its result: block by block, the attention of that block of queries. -/
module

public import proofs.«01_k».proof.Proof.Gen.KernelIdeal.Frame.Runs
public import proofs.«01_k».proof.Proof.BlockRun
public import proofs.«01_k».proof.Proof.KernelIdealEq
public import proofs.«01_k».proof.Proof.Places
public import Idealize.ShloMosaic.Lib.Claim

@[expose] public section

noncomputable section

namespace Cert.Stick.Run

open Cert.KernelIdeal Cert.KernelIdeal.Gen Cert.Stick
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of results at a grid point, from the block of queries, the keys, the values and the mask. -/
def outV (i : grid0.Coords) (X : Q4.Idx → F .bf16) (K : KAll.Idx → F .bf16) (V : VAll.Idx → F .bf16) (M : Wts.Idx → F .f32) :
    Out.Idx → F .f32 :=
  resultV (lastSt (Named.named κ "neg_log2e" 0xBFB8AA3B#32) (Named.named κ "log2e" 0x3FB8AA3B#32) (queries X) K V M
    ⟨k0_off1 i, Facts₀.k0_off1_inb i⟩ ⟨k0_off3 i, Facts₀.k0_off3_inb i⟩ ⟨k0_off2 i, Facts₀.k0_off2_inb i⟩
    (fun j r => ⟨k0_off4 i j (BitVec.ofNat 32 r.val), Facts₀.k0_off4_inb i j r⟩)
    (fun j r => ⟨k0_off5 i j (BitVec.ofNat 32 r.val), Facts₀.k0_off5_inb i j r⟩)
    (fun j => ⟨k0_off8 i j, Facts₀.k0_off8_inb i j⟩) (fun j => ⟨k0_off9 i j, Facts₀.k0_off9_inb i j⟩)).acc

variable (m : (ℓ : Loc nD τ sig) → Buf (Elt F) ℓ) (ρ : Dev nD → PrngReg)

/-- What the result's staging buffer holds after the body at point `t`. -/
def outsAt (c : Dev nD) (t : Fin cfg0.N) : Vec F S1x256x256 .f32 :=
  outV (grid0.coords t) (iblk m c 0 t) (iblk m c 1 t) (iblk m c 2 t) (iblk m c 3 t)

/-- The data of the call: every operand as the call finds it, and the result's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body holds at point `t` before it runs. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it holds afterwards. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the attention of the point's block of queries. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA0_eq]
  obtain ⟨b₂, b₄, hb⟩ := cc0_eq (F := F) (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) scM0_2 (Memref.isWhole_whole _) scM0_3 (Memref.isWhole_whole _)
  rw [hb]
  iintro ⟨⟨⟨HS0, HS1, HS2, HS3⟩, Hg⟩, Ho, ⟨%d0, H0⟩, ⟨%d1, H1⟩, ⟨%d2, H2⟩, ⟨%d3, H3⟩, ⟨%d4, H4⟩⟩
  iapply (attn_run Variants.none c none Set.univ _ _ (ms0_0 t) (ms0_1 t) (ms0_2 t) (ms0_3 t) (ms0_4 t) scM0_0 scM0_1 scM0_2 scM0_3
    _ _ _ _ _ _ _ _ _ _ _ (Places.trips2 _) (Places.trips4 _) _ _ _ _ b₂ b₄
    (iblk m c 0 t) (iblk m c 1 t) (iblk m c 2 t) (iblk m c 3 t) _) $$ [H0 H1 H2 H3 H4 HS0 HS1 HS2 HS3]
  · isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iexact HS3
  iintro ⟨H0, H1, H2, H3, H4, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  iexact H4

/-- The call's body at point `t`. -/
theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run: every operand ends as the library computes it from the data, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same, without the counters. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Stick.Run

end
-- ==== Proof.Soft.lean ====
/- The stick-breaking weights over the extended reals: a masked logit is `⊥`, keeps all of its stick and has
   weight zero. Nothing here is about a program. -/
module

public import Idealize.ShloMosaic.PureOps.Ideal
public import Mathlib.Analysis.SpecialFunctions.Log.Basic
public import Mathlib.Analysis.SpecialFunctions.Pow.Real
public import Mathlib.Algebra.BigOperators.Intervals

@[expose] public section

noncomputable section

namespace Cert.Stick

open Idealize.ShloMosaic Finset

/-- The logarithm of what a logit takes away from the stick, its sign changed. -/
def sp (x : EReal) : ℝ := if x = ⊥ then 0 else Real.log (1 + Real.exp x.toReal)

/-- The weight of a logit when the stick has lost `s`, itself with it. -/
def wt (x : EReal) (s : ℝ) : ℝ := if x = ⊥ then 0 else Real.exp (x.toReal - s)

theorem sp_bot : sp ⊥ = 0 := by simp [sp]
theorem sp_coe (r : ℝ) : sp (r : EReal) = Real.log (1 + Real.exp r) := by simp [sp]
theorem wt_bot (s : ℝ) : wt ⊥ s = 0 := by simp [wt]
theorem wt_coe (r s : ℝ) : wt (r : EReal) s = Real.exp (r - s) := by simp [wt]

theorem log2_pos : (0 : ℝ) < Real.log 2 := Real.log_pos (by norm_num)

theorem exp2_scaled (r : ℝ) : Ideal.exp2 ((r * (Real.log 2)⁻¹ : ℝ) : EReal) = ((Real.exp r : ℝ) : EReal) := by
  rw [Ideal.exp2_coe]
  refine congrArg _ ?_
  show (2 : ℝ) ^ (r * (Real.log 2)⁻¹) = _
  rw [Real.rpow_def_of_pos (by norm_num), mul_comm r, ← mul_assoc, mul_inv_cancel₀ log2_pos.ne', one_mul]

theorem softplus_real (r : ℝ) : max r 0 + Real.log (1 + Real.exp (-|r|)) = Real.log (1 + Real.exp r) := by
  rcases le_total 0 r with h | h
  · rw [max_eq_left h, abs_of_nonneg h]
    have h1 : (0 : ℝ) < 1 + Real.exp (-r) := by positivity
    have : 1 + Real.exp r = Real.exp r * (1 + Real.exp (-r)) := by
      rw [mul_add, mul_one, ← Real.exp_add, add_neg_cancel, Real.exp_zero, add_comm]
    rw [this, Real.log_mul (Real.exp_pos r).ne' h1.ne', Real.log_exp]
  · rw [max_eq_right h, abs_of_nonpos h, neg_neg, zero_add]

theorem coe_max (a b : ℝ) : ((max a b : ℝ) : EReal) = max (a : EReal) (b : EReal) := EReal.coe_strictMono.monotone.map_max

theorem log_one_add (r : ℝ) (h : 0 < r) : Ideal.log ((1 : EReal) + (r : EReal)) = ((Real.log (1 + r) : ℝ) : EReal) := by
  rw [← EReal.coe_one, ← EReal.coe_add, Ideal.log_coe, if_neg (by linarith)]

/-- The kernel's `log (1 + exp x)`. -/
theorem softplus_elt (x : EReal) (hx : x ≠ ⊤) :
    max x 0 + Ideal.log (1 + Ideal.exp2 (max x (-x) * ((-((Real.log 2)⁻¹) : ℝ) : EReal))) = ((sp x : ℝ) : EReal) := by
  induction x with
  | bot =>
    rw [sp_bot, EReal.neg_bot, max_eq_right bot_le, max_eq_right bot_le,
      EReal.top_mul_coe_of_neg (by have := inv_pos.2 log2_pos; linarith), Ideal.exp2_bot, add_zero, ← EReal.coe_one, Ideal.log_coe]
    norm_num
  | top => exact absurd rfl hx
  | coe r =>
    rw [sp_coe, ← softplus_real, ← EReal.coe_neg, ← coe_max, ← EReal.coe_mul,
      show max r (-r) * (-((Real.log 2)⁻¹)) = (-|r|) * (Real.log 2)⁻¹ by rw [abs_eq_max_neg]; ring, exp2_scaled,
      log_one_add _ (Real.exp_pos _), EReal.coe_add, coe_max, EReal.coe_zero]

/-- The kernel's weight. -/
theorem weight_elt (x : EReal) (hx : x ≠ ⊤) (a b : ℝ) :
    Ideal.exp2 ((x - (a : EReal)) * (((Real.log 2)⁻¹ : ℝ) : EReal) - (b : EReal) * (((Real.log 2)⁻¹ : ℝ) : EReal))
      = ((wt x (a + b) : ℝ) : EReal) := by
  induction x with
  | bot =>
    rw [wt_bot, EReal.bot_sub, EReal.bot_mul_coe_of_pos (inv_pos.2 log2_pos), EReal.bot_sub, Ideal.exp2_bot, EReal.coe_zero]
  | top => exact absurd rfl hx
  | coe r =>
    rw [wt_coe, ← EReal.coe_sub, ← EReal.coe_mul, ← EReal.coe_mul, ← EReal.coe_sub, ← sub_mul, exp2_scaled, sub_sub]

/-! ## The order of the keys inside a block -/

/-- The key of a block's row `k`: the rows go through the keys in 32 steps of eight lanes. -/
def keyOf (k : ℕ) : ℕ := 32 * (k % 8) + k / 8

theorem keyOf_lt (k : ℕ) (h : k < 256) : keyOf k < 256 := by unfold keyOf; omega

theorem sum_keyOf {M : Type*} [AddCommMonoid M] (f : ℕ → M) : ∑ k : Fin 256, f (keyOf k.val) = ∑ j ∈ range 256, f j := by
  rw [Fin.sum_univ_eq_sum_range (fun k => f (keyOf k)) 256]
  refine Finset.sum_nbij' keyOf (fun j => 8 * (j % 32) + j / 32) ?_ ?_ ?_ ?_ ?_
  · intro k hk; rw [mem_range] at *; exact keyOf_lt k hk
  · intro k hk; rw [mem_range] at *; omega
  · intro k hk; rw [mem_range] at *; unfold keyOf; omega
  · intro k hk; rw [mem_range] at *; unfold keyOf; omega
  · intro k _; rfl

theorem sum_lanes (f : ℕ → ℝ) (n : ℕ) : ∑ j ∈ range (32 * n), f j = ∑ l ∈ range n, ∑ t ∈ range 32, f (32 * l + t) := by
  induction n with
  | zero => simp
  | succ n ih =>
    rw [Nat.mul_succ, Finset.sum_range_succ (fun l => ∑ t ∈ range 32, f (32 * l + t)) n, ← ih]
    exact Finset.sum_range_add f (32 * n) 32

/-- The later keys of a block, the key at step `t` of lane `l` with them: the later steps of its own lane and the
    later lanes. -/
theorem sum_later (f : ℕ → ℝ) (l t : ℕ) (hl : l < 8) (ht : t < 32) :
    ∑ j ∈ Ico (32 * l + t) 256, f j
      = ∑ e ∈ range (32 - t), f (32 * l + (31 - e)) + ∑ l' ∈ Ico (l + 1) 8, ∑ t' ∈ range 32, f (32 * l' + t') := by
  rw [← Finset.sum_Ico_consecutive f (show 32 * l + t ≤ 32 * (l + 1) by omega) (show 32 * (l + 1) ≤ 256 by omega)]
  congr 1
  · refine Finset.sum_nbij' (fun j => 31 - (j - 32 * l)) (fun e => 32 * l + (31 - e)) ?_ ?_ ?_ ?_ ?_
    · intro j hj; rw [mem_Ico] at hj; rw [mem_range]; omega
    · intro j hj; rw [mem_range] at hj; rw [mem_Ico]; omega
    · intro j hj; rw [mem_Ico] at hj; omega
    · intro j hj; rw [mem_range] at hj; omega
    · intro j hj; rw [mem_Ico] at hj; refine congrArg f ?_; omega
  · have h := Finset.sum_range_add_sum_Ico f (show 32 * (l + 1) ≤ 32 * 8 by omega)
    have h' := Finset.sum_range_add_sum_Ico (fun l' => ∑ t' ∈ range 32, f (32 * l' + t')) (show l + 1 ≤ 8 by omega)
    rw [sum_lanes, sum_lanes, ← h'] at h
    exact add_left_cancel h

end Cert.Stick

end
-- ==== Proof.BlockIdeal.lean ====
/- One block of keys over the extended reals: what the row pass, the carried sums and the four heads are at an
   index, and so what a block does to the state. -/
module

public import proofs.«01_k».proof.Proof.BlockValue
public import proofs.«01_k».proof.Proof.Soft
public import Idealize.ShloMosaic.PureOps.Ideal.Laws
public import Idealize.ShloMosaic.Lib.MatmulPlain
public import Idealize.ShloMosaic.Lib.IdealHost
public import Idealize.ShloMosaic.Lib.KernelVsHost
public import Idealize.ShloMosaic.Lib.ValueLayout
public import Idealize.ShloMosaic.Lib.Pipeline.Value

@[expose] public section

set_option maxRecDepth 16384

noncomputable section

namespace Cert.Stick

open Idealize.ShloMosaic Idealize.ShloMosaic.ValueIdx Finset

/-- The constant `log₂ e`. -/
abbrev cl0 : Ideal .f32 := (((Real.log 2)⁻¹ : ℝ) : EReal)
/-- The constant `-log₂ e`. -/
abbrev cn0 : Ideal .f32 := ((-((Real.log 2)⁻¹) : ℝ) : EReal)

theorem softplusV_apply (z : FVec Ideal Row .f32) (i : Row.Idx) (h : z i ≠ (⊤ : EReal)) :
    softplusV cn0 z i = ((sp (z i) : ℝ) : EReal) := by
  show max (z i : EReal) (Ideal.ofBits .f32 0x00000000#32)
    + Ideal.log (Ideal.ofBits .f32 0x3F800000#32 + Ideal.exp2 (max (z i : EReal) (-(z i : EReal)) * cn0)) = _
  rw [Ideal.ofBits_zero_f32, Ideal.ofBits_one_f32]
  exact softplus_elt _ h

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section Block

variable (zv : ℕ → FVec Ideal Row .f32) (y : Fin 1024 → ℕ → EReal)

/-- The sums over the last steps of a lane. -/
theorem runD_apply (hz : ∀ t, t < 32 → ∀ (l : Fin 8) (c : Fin 1024), zv t (ix2 l c) = y c (32 * l.val + t)) (hy : ∀ c s, y c s ≠ ⊤)
    (d : ℕ) (hd : d ≤ 32) (l : Fin 8) (c : Fin 1024) :
    runD cn0 zv d (ix2 l c) = ((∑ e ∈ range d, sp (y c (32 * l.val + (31 - e))) : ℝ) : EReal) := by
  induction d with
  | zero =>
    show Ideal.ofBits .f32 0x00000000#32 = _
    rw [Ideal.ofBits_zero_f32]; simp
  | succ d ih =>
    show (runD cn0 zv d (ix2 l c) : EReal) + softplusV cn0 (zv (31 - d)) (ix2 l c) = _
    have hzd := hz (31 - d) (by omega) l c
    rw [ih (by omega), softplusV_apply _ _ (by rw [hzd]; exact hy _ _), hzd, Finset.sum_range_succ, EReal.coe_add]

/-- One step of the sum over lanes. -/
theorem foldStep_apply (s : FVec Ideal Row .f32) (f : ℕ → ℝ) (c : Fin 1024) (hs : ∀ l : Fin 8, s (ix2 l c) = ((f l.val : ℝ) : EReal))
    (k : ℕ) (h0 : 0 < k) (hk : k < 8) (l : Fin 8) :
    foldStep rowNo (BitVec.ofNat 32 k) s (ix2 l c) = ((f l.val + if l.val < k then f (l.val + (8 - k)) else 0 : ℝ) : EReal) := by
  show (s (ix2 l c) : EReal) + Scalar.select (IntOp.cmpi .slt (iota .tc Row 32 [0] iota_Row (ix2 l c)) (BitVec.ofNat 32 k))
    (dynamicRotate 0 (BitVec.ofNat 32 k) none s rot_Row (ix2 l c)) (Ideal.ofBits .f32 0x00000000#32) = _
  rw [Ideal.ofBits_zero_f32, iota_single_apply, hs, EReal.coe_add]
  refine congrArg _ ?_
  have hc : ∀ (l k : Fin 8), IntOp.cmpi .slt (BitVec.ofNat 32 l.val) (BitVec.ofNat 32 k.val) = if l.val < k.val then 1#1 else 0#1 := by decide
  have hc' := hc l ⟨k, hk⟩
  dsimp only at hc'
  show Scalar.select (IntOp.cmpi .slt (BitVec.ofNat 32 l.val) (BitVec.ofNat 32 k)) _ _ = _
  rw [hc']
  by_cases h : l.val < k
  · rw [if_pos h, if_pos h, select_one]
    have hlt : l.val + (8 - k) < 8 := by omega
    rw [dynamicRotate_apply 0 _ s rot_Row (ix2 l c) (ix2 ⟨l.val + (8 - k), hlt⟩ c), hs]
    intro b
    have hb : (BitVec.ofNat 32 k).toNat = k := by rw [BitVec.toNat_ofNat]; omega
    match b with
    | ⟨0, _⟩ =>
      rw [hb]
      show l.val + (8 - k) = if (0 : Fin 2) = 0 then (l.val + 8 - k % 8) % 8 else _
      rw [if_pos rfl]; omega
    | ⟨1, _⟩ => rfl
  · rw [if_neg h, if_neg h, select_zero]; rfl

/-- The sums over the later lanes, a lane itself with them. -/
theorem suffixV_apply (run : FVec Ideal Row .f32) (f : ℕ → ℝ) (c : Fin 1024) (hs : ∀ l : Fin 8, run (ix2 l c) = ((f l.val : ℝ) : EReal)) (l : Fin 8) :
    suffixV rowNo run (ix2 l c) = ((∑ l' ∈ Ico l.val 8, f l' : ℝ) : EReal) := by
  have h1 := foldStep_apply run f c hs 7 (by norm_num) (by norm_num)
  have h2 := foldStep_apply _ (fun l => f l + if l < 7 then f (l + (8 - 7)) else 0) c h1 6 (by norm_num) (by norm_num)
  have h3 := foldStep_apply _ (fun l => (f l + if l < 7 then f (l + (8 - 7)) else 0) + if l < 6 then
    (f (l + (8 - 6)) + if (l + (8 - 6)) < 7 then f ((l + (8 - 6)) + (8 - 7)) else 0) else 0) c h2 4 (by norm_num) (by norm_num) l
  refine h3.trans (congrArg _ ?_)
  fin_cases l <;> simp [Finset.sum_Ico_succ_top, Finset.sum_range_succ] <;> ring

/-- The shifts of a block. -/
theorem offV_apply (car run : FVec Ideal Row .f32) (C : ℝ) (f : ℕ → ℝ) (c : Fin 1024) (l : Fin 8) (hc : car (ix2 l c) = ((C : ℝ) : EReal))
    (hs : ∀ l : Fin 8, run (ix2 l c) = ((f l.val : ℝ) : EReal)) :
    offV cl0 rowNo car run (ix2 l c) = ((C + ∑ l' ∈ Ico (l.val + 1) 8, f l' : ℝ) : EReal) * (cl0 : EReal) := by
  show ((car (ix2 l c) : EReal) + (suffixV rowNo run (ix2 l c) - run (ix2 l c))) * (cl0 : EReal) = _
  rw [suffixV_apply run f c hs, hc, hs, ← EReal.coe_sub, ← EReal.coe_add, Finset.sum_eq_sum_Ico_succ_bot l.isLt]
  congr 3; ring

/-- The sums carried on. -/
theorem carV_apply (car run : FVec Ideal Row .f32) (C : ℝ) (f : ℕ → ℝ) (c : Fin 1024) (l : Fin 8) (hc : car (ix2 l c) = ((C : ℝ) : EReal))
    (hs : ∀ l : Fin 8, run (ix2 l c) = ((f l.val : ℝ) : EReal)) :
    carV rowNo car run (ix2 l c) = ((C + ∑ l' ∈ range 8, f l' : ℝ) : EReal) := by
  show (car (ix2 l c) : EReal) + broadcastTo Row _ bcast_Lane (ix2 l c) = _
  rw [broadcastTo_apply _ bcast_Lane (ix2 l c) (ix2 (0 : Fin 1) c) (fun a => by match a with | ⟨0, _⟩ => rfl | ⟨1, _⟩ => rfl), shapeCast_self]
  have h : extractStridedSlice Lane ![0, 0] (suffixV rowNo run) slice_Lane (ix2 (0 : Fin 1) c) = suffixV rowNo run (ix2 (0 : Fin 8) c) := by
    refine congrArg (suffixV rowNo run) (funext fun a => Fin.ext ?_)
    match a with
    | ⟨0, _⟩ => rfl
    | ⟨1, _⟩ => exact Nat.zero_add _
  rw [h, suffixV_apply run f c hs, hc, ← EReal.coe_add]
  simp

/-- The exponents of a block. -/
theorem pAll_apply (hz : ∀ t, t < 32 → ∀ (l : Fin 8) (c : Fin 1024), zv t (ix2 l c) = y c (32 * l.val + t)) (hy : ∀ c s, y c s ≠ ⊤)
    (k : Fin 256) (c : Fin 1024) :
    pAll cn0 zv (ix2 k c)
      = (y c (keyOf k.val) : EReal) - ((∑ e ∈ range (32 - k.val / 8), sp (y c (32 * (k.val % 8) + (31 - e))) : ℝ) : EReal) := by
  have hk := k.isLt
  unfold pAll
  rw [shapeCast_self]
  show (zv (k.val / 8) (ix2 ⟨k.val % 8, _⟩ c) : EReal) - runD cn0 zv (32 - k.val / 8) (ix2 ⟨k.val % 8, _⟩ c) = _
  rw [hz _ (by omega), runD_apply zv y hz hy _ (by omega)]
  rfl

/-- The weight of a row of the block for a query, which has lost `C` before. -/
theorem wts_apply (hz : ∀ t, t < 32 → ∀ (l : Fin 8) (c : Fin 1024), zv t (ix2 l c) = y c (32 * l.val + t)) (hy : ∀ c s, y c s ≠ ⊤)
    (car : FVec Ideal Row .f32) (C : Fin 1024 → ℝ) (hc : ∀ l c, car (ix2 l c) = ((C c : ℝ) : EReal))
    (r : ℕ) (hr : r < 4) (k : Fin 256) (u : Fin 256) :
    wts cl0 (pAll cn0 zv) (offH (offV cl0 rowNo car (runD cn0 zv 32)) r hr) r (k.val / 8) (ix2 ⟨k.val % 8, Nat.mod_lt _ (by decide)⟩ u)
      = ((wt (y ⟨256 * r + u.val, by omega⟩ (keyOf k.val))
          (C ⟨256 * r + u.val, by omega⟩ + ∑ j ∈ Ico (keyOf k.val) 256, sp (y ⟨256 * r + u.val, by omega⟩ j)) : ℝ) : EReal) := by
  have hk := k.isLt
  have hu := u.isLt
  have e1 : headP (pAll cn0 zv) r (k.val / 8) (ix2 ⟨k.val % 8, Nat.mod_lt _ (by decide)⟩ u) = pAll cn0 zv (ix2 k ⟨256 * r + u.val, by omega⟩) := by
    refine congrArg (pAll cn0 zv) (funext fun a => Fin.ext ?_)
    match a with
    | ⟨0, _⟩ => show (8 * (k.val / 8) + k.val % 8) % 256 = k.val; omega
    | ⟨1, _⟩ => show (256 * r + u.val) % 1024 = 256 * r + u.val; omega
  have e2 : offH (offV cl0 rowNo car (runD cn0 zv 32)) r hr (ix2 ⟨k.val % 8, Nat.mod_lt _ (by decide)⟩ u)
      = offV cl0 rowNo car (runD cn0 zv 32) (ix2 ⟨k.val % 8, Nat.mod_lt _ (by decide)⟩ ⟨256 * r + u.val, by omega⟩) := by
    refine congrArg (offV cl0 rowNo car (runD cn0 zv 32)) (funext fun a => Fin.ext ?_)
    match a with
    | ⟨0, _⟩ => exact Nat.zero_add _
    | ⟨1, _⟩ => rfl
  show Ideal.exp2 ((headP (pAll cn0 zv) r (k.val / 8) (ix2 ⟨k.val % 8, _⟩ u) : EReal) * (cl0 : EReal)
    - offH (offV cl0 rowNo car (runD cn0 zv 32)) r hr (ix2 ⟨k.val % 8, _⟩ u)) = _
  rw [e1, e2, pAll_apply zv y hz hy,
    offV_apply car (runD cn0 zv 32) (C ⟨256 * r + u.val, by omega⟩) (fun l => ∑ t ∈ range 32, sp (y ⟨256 * r + u.val, by omega⟩ (32 * l + t))) _ _ (hc _ _)
      (fun l => by
        rw [runD_apply zv y hz hy 32 (le_refl _)]
        exact congrArg _ (Finset.sum_range_reflect (fun t => sp (y ⟨256 * r + u.val, by omega⟩ (32 * l.val + t))) 32))]
  rw [show keyOf k.val = 32 * (k.val % 8) + k.val / 8 from rfl, sum_later _ _ _ (Nat.mod_lt _ (by decide)) (show k.val / 8 < 32 by omega)]
  rw [weight_elt _ (hy _ _)]
  congr 2; ring

/-- The row groups of weights below each other. -/
theorem stackW_apply (w : ℕ → FVec Ideal RowH .f32) (k : Fin 256) (u : Fin 256) :
    stackW w (ix2 k u) = w (k.val / 8) (ix2 ⟨k.val % 8, Nat.mod_lt _ (by decide)⟩ u) := by
  have hk := k.isLt
  have H : ∀ n, n < 32 → ∀ l : Fin 8, ∀ h : 8 * n + l.val < 256, stackW w (ix2 ⟨8 * n + l.val, h⟩ u) = w n (ix2 l u) := by
    intro n hn l h
    have hc : Shape.Concatenates (((List.range 32).map fun n => (⟨RowH, w n⟩ : (s : Shape) × FVec Ideal s .f32)).map (·.1)) Wts 0 := concat_Wts w
    have e : stackW w = concatenate Wts 0 ((List.range 32).map fun n => (⟨RowH, w n⟩ : (s : Shape) × FVec Ideal s .f32)) hc := rfl
    rw [e]
    refine concatenate_apply_piece (t := Wts) 0 _ hc _ n (by simpa using hn) RowH (w n) (by simp) rfl (8 * n) ?_ (ix2 l u)
      (fun b hb => by match b with | ⟨0, _⟩ => exact absurd rfl hb | ⟨1, _⟩ => rfl) rfl
    have hm : min n 32 = n := by omega
    rw [← List.map_take, List.take_range, hm, List.map_map, List.map_map]
    have h8 : ∀ N : ℕ, ((List.range N).map fun _ => 8).sum = 8 * N := fun N => by
      rw [List.map_const', List.sum_replicate, List.length_range, smul_eq_mul, mul_comm]
    exact h8 n
  have h := H (k.val / 8) (by omega) ⟨k.val % 8, Nat.mod_lt _ (by decide)⟩ (by show 8 * (k.val / 8) + k.val % 8 < 256; omega)
  rw [← h]
  congr 2
  exact Fin.ext (by show k.val = 8 * (k.val / 8) + k.val % 8; omega)

/-- One head's accumulator. -/
theorem accV_apply (vb : FVec Ideal Vb .bf16) (w : ℕ → FVec Ideal RowH .f32) (a : FVec Ideal Acc1 .f32) (d : Fin 64) (u : Fin 256) :
    accV vb w a (ix3 (0 : Fin 1) d u)
      = (a (ix3 (0 : Fin 1) d u) : EReal) + ∑ k : Fin 256, (vb (ix2 d k) : EReal) * w (k.val / 8) (ix2 ⟨k.val % 8, Nat.mod_lt _ (by decide)⟩ u) := by
  unfold accV
  rw [shapeCast_ab_1ab_apply]
  show (shapeCast Vb a cast_Acc (ix2 d u) : EReal) + FloatOps.matmul (F := Ideal) dotVW none vb (truncf .bf16 (stackW w) bits_lt) (constant Vb .f32 0x00000000#32) (ix2 d u) = _
  rw [shapeCast_1ab_ab_apply, show dotVW = DotDims.plain 64 256 256 from rfl, Ideal.matmul_plain_apply]
  refine congrArg _ ?_
  show Ideal.ofBits .f32 0x00000000#32 + _ = _
  rw [Ideal.ofBits_zero_f32, zero_add]
  refine Finset.sum_congr rfl fun k _ => ?_
  show (vb (ix2 d k) : EReal) * stackW w (ix2 k u) = _
  rw [stackW_apply]

/-- A head changes its own accumulator, -/
theorem headA_same (vb : FVec Ideal Vb .bf16) (P : Blk.Idx → Ideal .f32) (off : FVec Ideal Row .f32) (r : ℕ) (hr : r < 4) (A : Acc.Idx → Ideal .f32)
    (d : Fin 64) (u : Fin 256) :
    headA cl0 vb P off r hr A (ix3 ⟨r, hr⟩ d u)
      = (A (ix3 ⟨r, hr⟩ d u) : EReal)
        + ∑ k : Fin 256, (vb (ix2 d k) : EReal) * wts cl0 P (offH off r hr) r (k.val / 8) (ix2 ⟨k.val % 8, Nat.mod_lt _ (by decide)⟩ u) := by
  have he : (Rect.unit (s := Acc) ![r, 0, 0] Acc1.size (acc_inb r hr)).emb (ix3 (0 : Fin 1) d u) = ix3 ⟨r, hr⟩ d u := by
    funext a; apply Fin.ext; rw [Rect.emb_apply]
    match a with
    | ⟨0, _⟩ => rfl
    | ⟨1, _⟩ => show 0 + 1 * d.val = d.val; omega
    | ⟨2, _⟩ => show 0 + 1 * u.val = u.val; omega
  unfold headA
  rw [← he, Rect.overlay_emb]
  exact accV_apply _ _ _ d u

/-- and leaves the others'. -/
theorem headA_other (vb : FVec Ideal Vb .bf16) (P : Blk.Idx → Ideal .f32) (off : FVec Ideal Row .f32) (r : ℕ) (hr : r < 4) (A : Acc.Idx → Ideal .f32)
    (r' : Fin 4) (h : r'.val ≠ r) (d : Fin 64) (u : Fin 256) : headA cl0 vb P off r hr A (ix3 r' d u) = A (ix3 r' d u) := by
  unfold headA
  refine Rect.overlay_of_not_mem _ _ _ fun hm => h ?_
  have h0 := (Rect.mem_set_unit.1 hm) 0
  have h1 : r ≤ r'.val := h0.1
  have h2 : r'.val < r + 1 := h0.2
  omega

/-- The accumulators after the four heads. -/
theorem headsA_apply (v : FVec Ideal Vb4 .bf16) (P : Blk.Idx → Ideal .f32) (off : FVec Ideal Row .f32) (A : Acc.Idx → Ideal .f32)
    (r : Fin 4) (d : Fin 64) (u : Fin 256) :
    headsA cl0 v P off A (ix3 r d u)
      = (A (ix3 r d u) : EReal)
        + ∑ k : Fin 256, (shapeCast Vb v cast_Vb (ix2 d k) : EReal)
          * wts cl0 P (offH off r.val r.isLt) r.val (k.val / 8) (ix2 ⟨k.val % 8, Nat.mod_lt _ (by decide)⟩ u) := by
  unfold headsA
  obtain ⟨r, hr⟩ := r
  interval_cases r
  · rw [headA_other _ _ _ 3 _ _ _ (by norm_num), headA_other _ _ _ 2 _ _ _ (by norm_num), headA_other _ _ _ 1 _ _ _ (by norm_num)]
    exact headA_same _ _ _ 0 _ _ d u
  · rw [headA_other _ _ _ 3 _ _ _ (by norm_num), headA_other _ _ _ 2 _ _ _ (by norm_num)]
    refine (headA_same _ _ _ 1 _ _ d u).trans ?_
    rw [headA_other _ _ _ 0 _ _ _ (by norm_num)]
  · rw [headA_other _ _ _ 3 _ _ _ (by norm_num)]
    refine (headA_same _ _ _ 2 _ _ d u).trans ?_
    rw [headA_other _ _ _ 1 _ _ _ (by norm_num), headA_other _ _ _ 0 _ _ _ (by norm_num)]
  · refine (headA_same _ _ _ 3 _ _ d u).trans ?_
    rw [headA_other _ _ _ 2 _ _ _ (by norm_num), headA_other _ _ _ 1 _ _ _ (by norm_num), headA_other _ _ _ 0 _ _ _ (by norm_num)]

end Block

end Cert.Stick

end
-- ==== Proof.Blocks.lean ====
/- The blocks of keys one after the other: the state after all of them, over the extended reals. -/
module

public import proofs.«01_k».proof.Proof.BlockIdeal

@[expose] public section

set_option maxRecDepth 16384

noncomputable section

namespace Cert.Stick

open Idealize.ShloMosaic Idealize.ShloMosaic.ValueIdx Finset

/-- The column of head `r`'s query `u`. -/
def col (r : Fin 4) (u : Fin 256) : Fin 1024 := ⟨256 * r.val + u.val, by omega⟩

/-- The sums and the accumulators once the keys from block `b` on, below key `E`, are done: `x` the logits and `w` the values. -/
structure Inv (x : Fin 1024 → ℕ → EReal) (w : Fin 64 → ℕ → EReal) (E b : ℕ) (s : St Ideal) : Prop where
  car : ∀ (l : Fin 8) (c : Fin 1024), s.car (ix2 l c) = ((∑ t ∈ Ico (256 * b) E, sp (x c t) : ℝ) : EReal)
  acc : ∀ (r : Fin 4) (d : Fin 64) (u : Fin 256), s.acc (ix3 r d u)
    = ∑ t ∈ Ico (256 * b) E, w d t * ((wt (x (col r u) t) (∑ t' ∈ Ico t E, sp (x (col r u) t')) : ℝ) : EReal)

theorem castV_apply (v : FVec Ideal Vb4 .bf16) (d : Fin 64) (k : Fin 256) :
    shapeCast Vb v cast_Vb (ix2 d k) = v (ix4 (0 : Fin 1) (0 : Fin 1) d k) :=
  shapeCast_apply v cast_Vb _ _ (by
    rw [Shape.rowMajor_val_four, Shape.rowMajor_val_two]
    show ((0 * 1 + 0) * 64 + d.val) * 256 + k.val = d.val * 256 + k.val
    omega)

/-- One block. -/
theorem blockSt_inv (x : Fin 1024 → ℕ → EReal) (w : Fin 64 → ℕ → EReal) (hx : ∀ c t, x c t ≠ ⊤) (E b : ℕ) (hE : 256 * (b + 1) ≤ E)
    (q : FVec Ideal Qb .bf16) (zv : ℕ → FVec Ideal Row .f32) (v : FVec Ideal Vb4 .bf16) (k : FVec Ideal Kb4 .bf16) (s : St Ideal)
    (hz : ∀ t, t < 32 → ∀ (l : Fin 8) (c : Fin 1024), zv t (ix2 l c) = x c (256 * b + (32 * l.val + t)))
    (hv : ∀ (d : Fin 64) (n : Fin 256), v (ix4 (0 : Fin 1) (0 : Fin 1) d n) = w d (256 * b + keyOf n.val))
    (hs : Inv x w E (b + 1) s) : Inv x w E b (blockSt cn0 cl0 rowNo q zv v k s) := by
  have hsum : ∀ (c : Fin 1024) (j : ℕ), j ≤ 256 → (∑ t ∈ Ico (256 * (b + 1)) E, sp (x c t)) + ∑ j' ∈ Ico j 256, sp (x c (256 * b + j'))
      = ∑ t ∈ Ico (256 * b + j) E, sp (x c t) := by
    intro c j hj
    rw [Finset.sum_Ico_add (fun t => sp (x c t)) j 256 (256 * b), show j + 256 * b = 256 * b + j by omega,
      show 256 + 256 * b = 256 * (b + 1) by omega, add_comm,
      Finset.sum_Ico_consecutive _ (show 256 * b + j ≤ 256 * (b + 1) by omega) hE]
  have hy : ∀ c j, (fun c j => x c (256 * b + j)) c j ≠ ⊤ := fun c j => hx _ _
  constructor
  · intro l c
    show shapeCast Row (carV rowNo s.car (runD cn0 zv 32)) cast_Row (ix2 l c) = _
    rw [shapeCast_self, carV_apply s.car (runD cn0 zv 32) _ (fun l => ∑ t ∈ range 32, sp (x c (256 * b + (32 * l + t)))) c l (hs.car l c)
      (fun l => by
        rw [runD_apply zv (fun c j => x c (256 * b + j)) hz hy 32 (le_refl _)]
        exact congrArg _ (Finset.sum_range_reflect (fun t => sp (x c (256 * b + (32 * l.val + t)))) 32))]
    have h := hsum c 0 (by omega)
    rw [← Finset.range_eq_Ico, sum_lanes (fun j => sp (x c (256 * b + j))) 8] at h
    rw [h]; rfl
  · intro r d u
    show headsA cl0 v (pAll cn0 zv) (offV cl0 rowNo s.car (runD cn0 zv 32)) s.acc (ix3 r d u) = _
    rw [headsA_apply, hs.acc]
    have hk : ∀ n : Fin 256, (shapeCast Vb v cast_Vb (ix2 d n) : EReal)
        * wts cl0 (pAll cn0 zv) (offH (offV cl0 rowNo s.car (runD cn0 zv 32)) r.val r.isLt) r.val (n.val / 8) (ix2 ⟨n.val % 8, Nat.mod_lt _ (by decide)⟩ u)
        = (fun j => w d (256 * b + j) * ((wt (x (col r u) (256 * b + j)) (∑ t' ∈ Ico (256 * b + j) E, sp (x (col r u) t')) : ℝ) : EReal)) (keyOf n.val) := by
      intro n
      rw [castV_apply, hv, wts_apply zv (fun c j => x c (256 * b + j)) hz hy s.car _ hs.car r.val r.isLt n u]
      dsimp only
      rw [hsum _ _ (le_of_lt (keyOf_lt _ n.isLt))]
      rfl
    rw [Finset.sum_congr rfl fun n _ => hk n,
      sum_keyOf (fun j => w d (256 * b + j) * ((wt (x (col r u) (256 * b + j)) (∑ t' ∈ Ico (256 * b + j) E, sp (x (col r u) t')) : ℝ) : EReal)),
      Finset.range_eq_Ico,
      Finset.sum_Ico_add (fun t => w d t * ((wt (x (col r u) t) (∑ t' ∈ Ico t E, sp (x (col r u) t')) : ℝ) : EReal)) 0 256 (256 * b),
      show 0 + 256 * b = 256 * b by omega, show 256 + 256 * b = 256 * (b + 1) by omega, add_comm,
      Finset.sum_Ico_consecutive _ (show 256 * b ≤ 256 * (b + 1) by omega) hE]

/-! ## The logits -/

/-- The logit of a query for key `t`, from the augmented keys and queries. -/
def lgOf (kk : ℕ → Fin 128 → EReal) (X : Q4.Idx → Ideal .bf16) (c : Fin 1024) (t : ℕ) : EReal :=
  ∑ e : Fin 128, kk t e * X (ix4 (0 : Fin 1) ⟨c.val / 256, by omega⟩ ⟨c.val % 256, Nat.mod_lt _ (by decide)⟩ e)

theorem queries_apply (X : Q4.Idx → Ideal .bf16) (c : Fin 1024) (e : Fin 128) :
    queries X (ix2 c e) = X (ix4 (0 : Fin 1) ⟨c.val / 256, by omega⟩ ⟨c.val % 256, Nat.mod_lt _ (by decide)⟩ e) := by
  unfold queries
  rw [shapeCast_apply (shapeCast Q3 X cast_Q3) cast_Qb (ix2 c e) (ix3 ⟨c.val / 256, by omega⟩ ⟨c.val % 256, Nat.mod_lt _ (by decide)⟩ e) (by
    rw [Shape.rowMajor_val_three, Shape.rowMajor_val_two]
    show (c.val / 256 * 256 + c.val % 256) * 128 + e.val = c.val * 128 + e.val
    omega)]
  exact shapeCast_1abc_abc_apply X cast_Q3 _ _ e

theorem castK_apply (k : FVec Ideal Kb4 .bf16) (n : Fin 256) (e : Fin 128) :
    shapeCast Kb k cast_Kb (ix2 n e) = k (ix4 (0 : Fin 1) (0 : Fin 1) n e) :=
  shapeCast_apply k cast_Kb _ _ (by
    rw [Shape.rowMajor_val_four, Shape.rowMajor_val_two]
    show ((0 * 1 + 0) * 256 + n.val) * 128 + e.val = n.val * 128 + e.val
    omega)

theorem zOf_apply (X : Q4.Idx → Ideal .bf16) (k : FVec Ideal Kb4 .bf16) (kk : ℕ → Fin 128 → EReal) (b : ℕ)
    (hk : ∀ (n : Fin 256) (e : Fin 128), k (ix4 (0 : Fin 1) (0 : Fin 1) n e) = kk (256 * b + keyOf n.val) e) (n : Fin 256) (c : Fin 1024) :
    zOf (queries X) k (ix2 n c) = lgOf kk X c (256 * b + keyOf n.val) := by
  unfold zOf logitsV
  rw [shapeCast_self]
  show FloatOps.matmul (F := Ideal) dotKQ none (shapeCast Kb k cast_Kb) (queries X) (constant Blk .f32 0x00000000#32) (ix2 n c) = _
  rw [show dotKQ = DotDims.transposedRhs 256 128 1024 from rfl, Ideal.matmul_transposedRhs_apply]
  show Ideal.ofBits .f32 0x00000000#32 + _ = _
  rw [Ideal.ofBits_zero_f32, zero_add]
  exact Finset.sum_congr rfl fun e _ => by rw [castK_apply, queries_apply, hk]

theorem plainV_apply (Z : Blk.Idx → Ideal .f32) (t : ℕ) (ht : t < 32) (l : Fin 8) (c : Fin 1024) :
    plainV Z t (ix2 l c) = Z (ix2 ⟨8 * t + l.val, by omega⟩ c) := by
  refine congrArg Z (funext fun a => Fin.ext ?_)
  match a with
  | ⟨0, _⟩ => show (8 * t + l.val) % 256 = 8 * t + l.val; omega
  | ⟨1, _⟩ => rfl

theorem keyOf_row (t : ℕ) (l : Fin 8) : keyOf (8 * t + l.val) = 32 * l.val + t := by unfold keyOf; omega

theorem maskedV_apply (Z : Blk.Idx → Ideal .f32) (M : Wts.Idx → Ideal .f32) (t : ℕ) (ht : t < 32) (l : Fin 8) (c : Fin 1024) :
    maskedV Z M t (ix2 l c)
      = (Z (ix2 ⟨8 * t + l.val, by omega⟩ c) : EReal) + M (ix2 ⟨8 * t + l.val, by omega⟩ ⟨c.val % 256, Nat.mod_lt _ (by decide)⟩) := by
  unfold maskedV
  rw [shapeCast_self]
  show (plainV Z t (ix2 l c) : EReal) + concatenate Row 1 [⟨RowH, maskRowV M t⟩, ⟨RowH, maskRowV M t⟩, ⟨RowH, maskRowV M t⟩, ⟨RowH, maskRowV M t⟩] concat_Row (ix2 l c) = _
  rw [plainV_apply Z t ht]
  refine congrArg _ ?_
  have hm : maskRowV M t (ix2 l ⟨c.val % 256, Nat.mod_lt _ (by decide)⟩) = M (ix2 ⟨8 * t + l.val, by omega⟩ ⟨c.val % 256, Nat.mod_lt _ (by decide)⟩) := by
    refine congrArg M (funext fun a => Fin.ext ?_)
    match a with
    | ⟨0, _⟩ => show (8 * t + l.val) % 256 = 8 * t + l.val; omega
    | ⟨1, _⟩ => rfl
  rw [← hm]
  have hc : c.val / 256 < 4 := by omega
  have hoff : ∀ b : Fin 2, b ≠ 1 → (ix2 l (⟨c.val % 256, Nat.mod_lt _ (by decide)⟩ : Fin 256) b).val = (ix2 l c b).val := by
    intro b hb; match b with | ⟨0, _⟩ => rfl | ⟨1, _⟩ => exact absurd rfl hb
  refine concatenate_apply_piece (t := Row) 1 [⟨RowH, maskRowV M t⟩, ⟨RowH, maskRowV M t⟩, ⟨RowH, maskRowV M t⟩, ⟨RowH, maskRowV M t⟩] concat_Row _ (c.val / 256) hc RowH (maskRowV M t) ?_ rfl (256 * (c.val / 256)) ?_
    (ix2 l ⟨c.val % 256, Nat.mod_lt _ (by decide)⟩) hoff (Nat.div_add_mod _ _)
  · generalize c.val / 256 = n at hc; interval_cases n <;> rfl
  · generalize c.val / 256 = n at hc; interval_cases n <;> rfl

/-! ## All blocks -/

section All

variable (X : Q4.Idx → Ideal .bf16) (K : KAll.Idx → Ideal .bf16) (V : VAll.Idx → Ideal .bf16) (M : Wts.Idx → Ideal .f32)
  (kk : ℕ → Fin 128 → EReal) (w : Fin 64 → ℕ → EReal) (i : ℕ)

/-- The logits of the block of queries `i`: masked where the key is not before the query. -/
def xOf (c : Fin 1024) (t : ℕ) : EReal := if t < 256 * i + c.val % 256 then lgOf kk X c t else ⊥

/-- The state once the blocks from `b` on are done. -/
structure Done (b : ℕ) (s : St Ideal) : Prop where
  inv : Inv (xOf X kk i) w (256 * (i + 1)) b s
  z : ∀ (n : Fin 256) (c : Fin 1024), s.z (ix2 n c) = lgOf kk X c (256 * (b - 1) + keyOf n.val)

variable (hK : ∀ (b : ℕ) (n : Fin 256) (h : 256 * b + n.val < 8192) (e : Fin 128),
    K (ix4 (0 : Fin 1) (0 : Fin 1) ⟨256 * b + n.val, h⟩ e) = kk (256 * b + keyOf n.val) e)
  (hV : ∀ (b : ℕ) (n : Fin 256) (h : 256 * b + n.val < 8192) (d : Fin 64),
    V (ix4 (0 : Fin 1) (0 : Fin 1) d ⟨256 * b + n.val, h⟩) = w d (256 * b + keyOf n.val))
  (hM : ∀ (n u : Fin 256), M (ix2 n u) = if keyOf n.val < u.val then (0 : EReal) else ⊥)
  (hx : ∀ c t, t < 256 * (i + 1) → lgOf kk X c t ≠ ⊤) (hi : i < 32)

include hK in
theorem keyAt_apply (b : ℕ) (hb : b < 32) (o : KPlace) (ho : o.1 = ![0, 0, 256 * b, 0]) (n : Fin 256) (e : Fin 128) :
    keyAt K o (ix4 (0 : Fin 1) (0 : Fin 1) n e) = kk (256 * b + keyOf n.val) e := by
  rw [← hK b n (by omega) e]
  refine congrArg K (funext fun a => Fin.ext ?_)
  rw [Rect.emb_apply]
  match a with
  | ⟨0, _⟩ => show o.1 0 + 1 * 0 = 0; rw [ho]; rfl
  | ⟨1, _⟩ => show o.1 1 + 1 * 0 = 0; rw [ho]; rfl
  | ⟨2, _⟩ => show o.1 2 + 1 * n.val = 256 * b + n.val; rw [ho, one_mul]; rfl
  | ⟨3, _⟩ => show o.1 3 + 1 * e.val = e.val; rw [ho, one_mul]; exact Nat.zero_add _

include hV in
theorem valAt_apply (b : ℕ) (hb : b < 32) (o : VPlace) (ho : o.1 = ![0, 0, 0, 256 * b]) (d : Fin 64) (n : Fin 256) :
    valAt V o (ix4 (0 : Fin 1) (0 : Fin 1) d n) = w d (256 * b + keyOf n.val) := by
  rw [← hV b n (by omega) d]
  refine congrArg V (funext fun a => Fin.ext ?_)
  rw [Rect.emb_apply]
  match a with
  | ⟨0, _⟩ => show o.1 0 + 1 * 0 = 0; rw [ho]; rfl
  | ⟨1, _⟩ => show o.1 1 + 1 * 0 = 0; rw [ho]; rfl
  | ⟨2, _⟩ => show o.1 2 + 1 * d.val = d.val; rw [ho, one_mul]; exact Nat.zero_add _
  | ⟨3, _⟩ => show o.1 3 + 1 * n.val = 256 * b + n.val; rw [ho, one_mul]; rfl

include hx in
theorem xOf_ne_top (c : Fin 1024) (t : ℕ) : xOf X kk i c t ≠ ⊤ := by
  unfold xOf
  split
  · next h => exact hx c t (by omega)
  · exact bot_ne_top

include hK hV hx hi in
theorem plainSt_done (b : ℕ) (hb : b < i) (vo : VPlace) (ko : KPlace) (hvo : vo.1 = ![0, 0, 0, 256 * b]) (hko : ko.1 = ![0, 0, 256 * (b - 1), 0])
    (s : St Ideal) (hs : Done X kk w i (b + 1) s) : Done X kk w i b (plainSt cn0 cl0 (queries X) K V vo ko s) := by
  constructor
  · refine blockSt_inv _ w (xOf_ne_top X kk i hx) _ b (by omega) _ _ _ _ s ?_ (valAt_apply V w hV b (by omega) vo hvo) hs.inv
    intro t ht l c
    rw [plainV_apply _ t ht, hs.z]
    show lgOf kk X c (256 * (b + 1 - 1) + keyOf (8 * t + l.val)) = _
    rw [keyOf_row, Nat.add_sub_cancel]
    unfold xOf
    rw [if_pos (by omega)]
  · exact zOf_apply X _ kk _ (keyAt_apply K kk hK (b - 1) (by omega) ko hko)

include hK hV hM hx hi in
theorem diagSt_done (kd kn : KPlace) (vd : VPlace) (hkd : kd.1 = ![0, 0, 256 * i, 0]) (hkn : kn.1 = ![0, 0, 256 * (i - 1), 0])
    (hvd : vd.1 = ![0, 0, 0, 256 * i]) : Done X kk w i i (diagSt cn0 cl0 (queries X) K V M kd kn vd) := by
  constructor
  · refine blockSt_inv _ w (xOf_ne_top X kk i hx) _ i (le_refl _) _ _ _ _ _ ?_ (valAt_apply V w hV i hi vd hvd) ⟨?_, ?_⟩
    · intro t ht l c
      have hc := c.isLt
      rw [maskedV_apply _ M t ht, zOf_apply X _ kk i (keyAt_apply K kk hK i hi kd hkd), hM]
      dsimp only
      rw [keyOf_row]
      unfold xOf
      by_cases h : 32 * l.val + t < c.val % 256
      · rw [if_pos h, if_pos (by omega), add_zero]
      · rw [if_neg h, if_neg (by omega), EReal.add_bot]
    · intro l c
      rw [Finset.Ico_self]
      show shapeCast Row (broadcast Row (Scalar.ofBits (F := Ideal) .f32 0x00000000#32)) cast_Row (ix2 l c) = _
      rw [shapeCast_self]
      show Ideal.ofBits .f32 0x00000000#32 = _
      rw [Ideal.ofBits_zero_f32, Finset.sum_empty, EReal.coe_zero]
    · intro r d u
      rw [Finset.Ico_self, Finset.sum_empty]
      show shapeCast Acc (broadcast Acc (Scalar.ofBits (F := Ideal) .f32 0x00000000#32)) cast_AccAll (ix3 r d u) = _
      rw [shapeCast_self]
      exact Ideal.ofBits_zero_f32
  · exact zOf_apply X _ kk _ (keyAt_apply K kk hK (i - 1) (by omega) kn hkn)

include hK hV hM hx hi in
/-- All blocks. -/
theorem lastSt_done (kd kn : KPlace) (vd : VPlace) (hkd : kd.1 = ![0, 0, 256 * i, 0]) (hkn : kn.1 = ![0, 0, 256 * (i - 1), 0])
    (hvd : vd.1 = ![0, 0, 0, 256 * i]) {N₁ N₃ : ℕ} (hN₁ : N₁ = i / 4) (hN₃ : N₃ = i % 4)
    (v₁ : Fin N₁ → Fin 4 → VPlace) (k₁ : Fin N₁ → Fin 4 → KPlace) (v₃ : Fin N₃ → VPlace) (k₃ : Fin N₃ → KPlace)
    (hv₁ : ∀ j r, (v₁ j r).1 = ![0, 0, 0, 256 * (i - 1 - (4 * j.val + r.val))])
    (hk₁ : ∀ j r, (k₁ j r).1 = ![0, 0, 256 * (i - 1 - (4 * j.val + r.val) - 1), 0])
    (hv₃ : ∀ j, (v₃ j).1 = ![0, 0, 0, 256 * (i - 1 - (4 * (i / 4) + j.val))])
    (hk₃ : ∀ j, (k₃ j).1 = ![0, 0, 256 * (i - 1 - (4 * (i / 4) + j.val) - 1), 0]) :
    Done X kk w i 0 (lastSt cn0 cl0 (queries X) K V M kd kn vd v₁ k₁ v₃ k₃) := by
  have h1 : ∀ n, n ≤ N₁ → Done X kk w i (i - 4 * n) (stAt (fun j => fourSt cn0 cl0 (queries X) K V (v₁ j) (k₁ j)) (diagSt cn0 cl0 (queries X) K V M kd kn vd) n) := by
    intro n
    induction n with
    | zero => intro _; exact diagSt_done X K V M kk w i hK hV hM hx hi kd kn vd hkd hkn hvd
    | succ n ih =>
      intro hn
      have hs := ih (by omega)
      have hn' : n < N₁ := hn
      unfold stAt
      rw [dif_pos hn']
      have step : ∀ (r : Fin 4) (s : St Ideal), Done X kk w i (i - 4 * n - r.val) s →
          Done X kk w i (i - 4 * n - (r.val + 1)) (plainSt cn0 cl0 (queries X) K V (v₁ ⟨n, hn'⟩ r) (k₁ ⟨n, hn'⟩ r) s) := by
        intro r s hs
        have hr := r.isLt
        have e : i - 1 - (4 * n + r.val) = i - 4 * n - (r.val + 1) := by omega
        refine plainSt_done X K V kk w i hK hV hx hi (i - 4 * n - (r.val + 1)) (by omega) _ _ ?_ ?_ s ?_
        · rw [hv₁]; dsimp only; rw [e]
        · rw [hk₁]; dsimp only; rw [e]
        · rwa [show i - 4 * n - (r.val + 1) + 1 = i - 4 * n - r.val by omega]
      have h := step 3 _ (step 2 _ (step 1 _ (step 0 _ hs)))
      rw [show i - 4 * (n + 1) = i - 4 * n - ((3 : Fin 4).val + 1) by show _ = i - 4 * n - (3 + 1); omega]
      exact h
  have h3 : ∀ n, n ≤ N₃ → Done X kk w i (i - 4 * (i / 4) - n) (stAt (fun j => plainSt cn0 cl0 (queries X) K V (v₃ j) (k₃ j))
      (stAt (fun j => fourSt cn0 cl0 (queries X) K V (v₁ j) (k₁ j)) (diagSt cn0 cl0 (queries X) K V M kd kn vd) N₁) n) := by
    intro n
    induction n with
    | zero => intro _; have h := h1 N₁ (le_refl _); rwa [show i - 4 * N₁ = i - 4 * (i / 4) - 0 by omega] at h
    | succ n ih =>
      intro hn
      have hs := ih (by omega)
      have hn' : n < N₃ := hn
      unfold stAt
      rw [dif_pos hn']
      have e : i - 1 - (4 * (i / 4) + n) = i - 4 * (i / 4) - (n + 1) := by omega
      refine plainSt_done X K V kk w i hK hV hx hi (i - 4 * (i / 4) - (n + 1)) (by omega) _ _ ?_ ?_ _ ?_
      · rw [hv₃]; dsimp only; rw [e]
      · rw [hk₃]; dsimp only; rw [e]
      · rwa [show i - 4 * (i / 4) - (n + 1) + 1 = i - 4 * (i / 4) - n by omega]
  have h := h3 N₃ (le_refl _)
  rw [show i - 4 * (i / 4) - N₃ = 0 by omega] at h
  exact h

end All

/-- A block of results at an index. -/
theorem resultV_apply (a : FVec Ideal Acc .f32) (u k : Fin 256) :
    resultV a (ix3 (0 : Fin 1) u k) = a (ix3 ⟨k.val / 64, by omega⟩ ⟨k.val % 64, Nat.mod_lt _ (by decide)⟩ u) := by
  unfold resultV
  rw [shapeCast_ab_1ab_apply, transpose_ix2_apply]
  exact shapeCast_apply a cast_AccW _ _ (by
    rw [Shape.rowMajor_val_three, Shape.rowMajor_val_two]
    show (k.val / 64 * 64 + k.val % 64) * 256 + u.val = k.val * 256 + u.val
    omega)

end Cert.Stick

end
-- ==== Proof.Attn.lean ====
/- The stick-breaking attention itself, as a sum over the keys: what the kernel and the reference both compute. -/
module

public import proofs.«01_k».proof.Proof.Soft
public import Idealize.ShloMosaic.Lib.ValueIdx

@[expose] public section

noncomputable section

namespace Cert.Stick

open Idealize.ShloMosaic Idealize.ShloMosaic.ValueIdx Finset

/-- The shape of the queries with their biases. -/
abbrev QArr : Shape := ⟨4, ![2, 16, 8192, 128]⟩
/-- The shape of the keys and of the values. -/
abbrev KArr : Shape := ⟨2, ![16384, 256]⟩

/-- An array of `16384` rows and `256` columns at any two numbers. -/
def rd (x : KArr.Idx → EReal) (r c : ℕ) : EReal := if h : r < 16384 ∧ c < 256 then x (ix2 ⟨r, h.1⟩ ⟨c, h.2⟩) else 0

theorem rd_eq (x : KArr.Idx → EReal) (r : Fin 16384) (c : Fin 256) : rd x r.val c.val = x (ix2 r c) := by
  unfold rd; rw [dif_pos ⟨r.isLt, c.isLt⟩]

/-- The augmented key `t` of a batch's head at lane `e`. -/
def augK (x : KArr.Idx → EReal) (b g t : ℕ) (e : Fin 128) : EReal :=
  if e.val < 64 then rd x (8192 * b + t) (64 * g + e.val) else if e.val < 67 then 1 else 0

/-- The query head `r` of the key head `g`. -/
def qh (g r : Fin 4) : Fin 16 := ⟨4 * g.val + r.val, by omega⟩

/-- The logit of a query and a key, the bias in it. -/
def lgG (a : QArr.Idx → EReal) (x : KArr.Idx → EReal) (b : Fin 2) (g r : Fin 4) (q : Fin 8192) (t : ℕ) : EReal :=
  ∑ e : Fin 128, augK x b.val g.val t e * a (ix4 b (qh g r) q e)

/-- The logit, masked where the key is not before the query. -/
def xG (a : QArr.Idx → EReal) (x : KArr.Idx → EReal) (b : Fin 2) (g r : Fin 4) (q : Fin 8192) (t : ℕ) : EReal :=
  if t < q.val then lgG a x b g r q t else ⊥

/-- The attention of the keys below `E`. -/
def attG (E : ℕ) (a : QArr.Idx → EReal) (x v : KArr.Idx → EReal) (b : Fin 2) (g r : Fin 4) (q : Fin 8192) (d : Fin 64) : EReal :=
  ∑ t ∈ range E, rd v (8192 * b.val + t) (64 * g.val + d.val) * ((wt (xG a x b g r q t) (∑ t' ∈ Ico t E, sp (xG a x b g r q t')) : ℝ) : EReal)

/-- The keys from the query on do not count. -/
theorem attG_eq (E : ℕ) (a : QArr.Idx → EReal) (x v : KArr.Idx → EReal) (b : Fin 2) (g r : Fin 4) (q : Fin 8192) (d : Fin 64)
    (hq : q.val ≤ E) : attG E a x v b g r q d = attG q.val a x v b g r q d := by
  unfold attG
  rw [← Finset.sum_range_add_sum_Ico _ hq]
  rw [Finset.sum_eq_zero (s := Ico q.val E) (fun t ht => by
    rw [mem_Ico] at ht
    rw [show xG a x b g r q t = ⊥ by unfold xG; rw [if_neg (by omega)], wt_bot, EReal.coe_zero, mul_zero]), add_zero]
  refine Finset.sum_congr rfl fun t ht => ?_
  rw [mem_range] at ht
  rw [← Finset.sum_Ico_consecutive _ (show t ≤ q.val by omega) hq,
    Finset.sum_eq_zero (s := Ico q.val E) (fun t' ht' => by
      rw [mem_Ico] at ht'
      rw [show xG a x b g r q t' = ⊥ by unfold xG; rw [if_neg (by omega)], sp_bot]), add_zero]

/-- Of queries and keys that are all finite, the logits are. -/
theorem rd_coe (x : KArr.Idx → EReal) (hx : ∀ j, ∃ y : ℝ, x j = y) (r c : ℕ) : ∃ y : ℝ, rd x r c = y := by
  unfold rd; split
  · exact hx _
  · exact ⟨0, EReal.coe_zero.symm⟩

theorem augK_coe (x : KArr.Idx → EReal) (hx : ∀ j, ∃ y : ℝ, x j = y) (b g t : ℕ) (e : Fin 128) : ∃ y : ℝ, augK x b g t e = y := by
  unfold augK; split
  · exact rd_coe x hx _ _
  · split
    · exact ⟨1, EReal.coe_one.symm⟩
    · exact ⟨0, EReal.coe_zero.symm⟩

theorem attn_coe_sum {ι : Type} (s : Finset ι) (g : ι → ℝ) : ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

theorem sum_coe {ι : Type} (s : Finset ι) (f : ι → EReal) (hf : ∀ i, ∃ y : ℝ, f i = y) : ∃ y : ℝ, ∑ i ∈ s, f i = y := by
  choose g hg using hf
  exact ⟨∑ i ∈ s, g i, by rw [attn_coe_sum]; exact Finset.sum_congr rfl fun i _ => hg i⟩

theorem lgG_coe (a : QArr.Idx → EReal) (x : KArr.Idx → EReal) (ha : ∀ j, ∃ y : ℝ, a j = y) (hx : ∀ j, ∃ y : ℝ, x j = y)
    (b : Fin 2) (g r : Fin 4) (q : Fin 8192) (t : ℕ) : ∃ y : ℝ, lgG a x b g r q t = y :=
  sum_coe _ _ fun e => by
    obtain ⟨y, hy⟩ := augK_coe x hx b.val g.val t e
    obtain ⟨z, hz⟩ := ha (ix4 b (qh g r) q e)
    exact ⟨y * z, by rw [hy, hz, EReal.coe_mul]⟩

end Cert.Stick

end
-- ==== Proof.Arrays.lean ====
/- The arrays the call is given: the keys with their columns of ones, the transposed values and the mask, each at an index. -/
module

public import proofs.«01_k».proof.Proof.Gen.KernelIdeal.Frame.Runs
public import proofs.«01_k».proof.Proof.Attn
public import Idealize.ShloMosaic.Lib.StableHlo.Run
public import Idealize.ShloMosaic.Lib.ValueLayout
public import Idealize.ShloMosaic.Lib.IdealHost
public import Idealize.ShloMosaic.Lib.KernelVsHost

@[expose] public section

set_option maxRecDepth 16384

noncomputable section

namespace Cert.Stick.Arrays

open Cert.KernelIdeal Cert.KernelIdeal.Gen Cert.Stick
open Idealize.ShloMosaic Idealize.ShloMosaic.TcCoe Idealize.ShloMosaic.ValueIdx Idealize.ShloMosaic.StableHlo

variable {F : FTy → Type} [FloatOps F] [Named F]

/-- The keys in the order the kernel takes them. -/
def keysV (x : FVec F S16384x256 .f32) : FVec F S2x4x8192x64 .bf16 :=
  shapeCast _ (transpose S2x4x32x32x8x64 [0, 4, 1, 3, 2, 5]
    (shapeCast _ (truncf .bf16 x bitsLt_bf16_f32) shapeCasts_S16384x256_S2x32x8x32x4x64) transposes_S2x32x8x32x4x64_S2x4x32x32x8x64_0_4_1_3_2_5)
    shapeCasts_S2x4x32x32x8x64_S2x4x8192x64

/-- Three ones and 61 zeros. -/
def onesV : FVec F S64 .bf16 :=
  pad S64 ![0] ![61] ![0] (broadcastInDim S3 ![] bcast_S_S3 (constant S_ .bf16 0x3F80#16)) (sitofp .bf16 (constantI S_ 32 0#32)) pads_S3_S64_0610 h_S_

/-- The augmented keys. -/
def keysAug (x : FVec F S16384x256 .f32) : FVec F S2x4x8192x128 .bf16 :=
  concatenate S2x4x8192x128 3 [⟨S2x4x8192x64, keysV x⟩, ⟨S2x4x8192x64, broadcastInDim S2x4x8192x64 ![3] bcast_S64_S2x4x8192x64_3 onesV⟩]
    concatenates_S2x4x8192x64_S2x4x8192x64_S2x4x8192x128_d3

/-- The values, transposed, in the order the kernel takes them. -/
def valuesV (x : FVec F S16384x256 .f32) : FVec F S2x4x64x8192 .bf16 :=
  shapeCast _ (transpose S2x4x64x32x32x8 [0, 4, 5, 1, 3, 2]
    (shapeCast _ (truncf .bf16 x bitsLt_bf16_f32) shapeCasts_S16384x256_S2x32x8x32x4x64) transposes_S2x32x8x32x4x64_S2x4x64x32x32x8_0_4_5_1_3_2)
    shapeCasts_S2x4x64x32x32x8_S2x4x64x8192

/-- The key of each row of a block. -/
def keyNo : IVec S256 32 :=
  shapeCast _ (transpose S32x8 [1, 0] (shapeCast _ (iotaInDim S256 32 0) shapeCasts_S256_S8x32) transposes_S8x32_S32x8_1_0) shapeCasts_S32x8_S256

/-- The mask of the block on the diagonal. -/
def maskV : FVec F S256x256 .f32 :=
  select (cmpi .slt (broadcastInDim S256x256 ![0, 1] bcast_S256x1_S256x256_0_1 (broadcastInDim S256x1 ![0] bcast_S256_S256x1_0 keyNo))
      (broadcastInDim S256x256 ![0, 1] bcast_S1x256_S256x256_0_1 (broadcastInDim S1x256 ![1] bcast_S256_S1x256_1 (iotaInDim S256 32 0))))
    (broadcastInDim S256x256 ![] bcast_S_S256x256 (constant S_ .f32 0x00000000#32))
    (broadcastInDim S256x256 ![] bcast_S_S256x256 (constant S_ .f32 0xFF800000#32))

variable (m : (ℓ : Loc nD τ sig) → Buf (Elt F) ℓ)

theorem V_keys (c : Dev nD) : V m c main_v7 = keysAug (m ((c : Thread nD τ).loc main_arg1)) := by
  simp only [V, hostOps0, hostOps0_1, hostOps0_2, hostOps0_3, List.flatten_cons, List.flatten_nil, List.append_nil, List.cons_append, List.nil_append,
    TRef.binary, TRef.ternary, TRef.unary, TRef.toBuf, TRef.ofBuf, cast_eq]
  after_results_simp
  all_goals rfl

theorem V_values (c : Dev nD) : V m c main_v11 = valuesV (m ((c : Thread nD τ).loc main_arg2)) := by
  simp only [V, hostOps0, hostOps0_1, hostOps0_2, hostOps0_3, List.flatten_cons, List.flatten_nil, List.append_nil, List.cons_append, List.nil_append,
    TRef.binary, TRef.ternary, TRef.unary, TRef.toBuf, TRef.ofBuf, cast_eq]
  after_results_simp
  all_goals rfl

theorem V_mask (c : Dev nD) : V m c main_v22 = maskV := by
  simp only [V, hostOps0, hostOps0_1, hostOps0_2, hostOps0_3, List.flatten_cons, List.flatten_nil, List.append_nil, List.cons_append, List.nil_append,
    TRef.binary, TRef.ternary, TRef.unary, TRef.toBuf, TRef.ofBuf, cast_eq]
  after_results_simp
  all_goals rfl

/-! ## The arrays at an index -/

theorem keysV_apply (x : FVec Ideal S16384x256 .f32) (b : Fin 2) (g : Fin 4) (n k : ℕ) (h : 256 * n + k < 8192) (hk : k < 256) (e : Fin 64) :
    keysV x (ix4 b g ⟨256 * n + k, h⟩ e) = rd x (8192 * b.val + (256 * n + keyOf k)) (64 * g.val + e.val) := by
  have hb := b.isLt; have hg := g.isLt; have he := e.isLt
  have hn : n < 32 := by omega
  unfold keysV
  rw [shapeCast_apply _ shapeCasts_S2x4x32x32x8x64_S2x4x8192x64 (ix4 b g ⟨256 * n + k, h⟩ e)
    (ix6 b g (⟨n, hn⟩ : Fin 32) (⟨k / 8, by omega⟩ : Fin 32) (⟨k % 8, by omega⟩ : Fin 8) e) (by
      rw [Shape.rowMajor_val_six, Shape.rowMajor_val_four]
      show ((((b.val * 4 + g.val) * 32 + n) * 32 + k / 8) * 8 + k % 8) * 64 + e.val = ((b.val * 4 + g.val) * 8192 + (256 * n + k)) * 64 + e.val
      omega)]
  rw [transpose_apply [0, 4, 1, 3, 2, 5] _ transposes_S2x32x8x32x4x64_S2x4x32x32x8x64_0_4_1_3_2_5 _
    (ix6 b (⟨n, hn⟩ : Fin 32) (⟨k % 8, by omega⟩ : Fin 8) (⟨k / 8, by omega⟩ : Fin 32) g e) (fun a => by
      match a with
      | ⟨0, _⟩ => rfl | ⟨1, _⟩ => rfl | ⟨2, _⟩ => rfl | ⟨3, _⟩ => rfl | ⟨4, _⟩ => rfl | ⟨5, _⟩ => rfl)]
  rw [shapeCast_apply _ shapeCasts_S16384x256_S2x32x8x32x4x64 _
    (ix2 (⟨8192 * b.val + (256 * n + keyOf k), by unfold keyOf; omega⟩ : Fin 16384) (⟨64 * g.val + e.val, by omega⟩ : Fin 256)) (by
      rw [Shape.rowMajor_val_six, Shape.rowMajor_val_two]
      show (8192 * b.val + (256 * n + keyOf k)) * 256 + (64 * g.val + e.val)
        = ((((b.val * 32 + n) * 8 + k % 8) * 32 + k / 8) * 4 + g.val) * 64 + e.val
      unfold keyOf; omega)]
  exact (rd_eq x _ _).symm

theorem valuesV_apply (x : FVec Ideal S16384x256 .f32) (b : Fin 2) (g : Fin 4) (n k : ℕ) (h : 256 * n + k < 8192) (hk : k < 256) (d : Fin 64) :
    valuesV x (ix4 b g d ⟨256 * n + k, h⟩) = rd x (8192 * b.val + (256 * n + keyOf k)) (64 * g.val + d.val) := by
  have hb := b.isLt; have hg := g.isLt; have he := d.isLt
  have hn : n < 32 := by omega
  unfold valuesV
  rw [shapeCast_apply _ shapeCasts_S2x4x64x32x32x8_S2x4x64x8192 (ix4 b g d ⟨256 * n + k, h⟩)
    (ix6 b g d (⟨n, hn⟩ : Fin 32) (⟨k / 8, by omega⟩ : Fin 32) (⟨k % 8, by omega⟩ : Fin 8)) (by
      rw [Shape.rowMajor_val_six, Shape.rowMajor_val_four]
      show ((((b.val * 4 + g.val) * 64 + d.val) * 32 + n) * 32 + k / 8) * 8 + k % 8 = ((b.val * 4 + g.val) * 64 + d.val) * 8192 + (256 * n + k)
      omega)]
  rw [transpose_apply [0, 4, 5, 1, 3, 2] _ transposes_S2x32x8x32x4x64_S2x4x64x32x32x8_0_4_5_1_3_2 _
    (ix6 b (⟨n, hn⟩ : Fin 32) (⟨k % 8, by omega⟩ : Fin 8) (⟨k / 8, by omega⟩ : Fin 32) g d) (fun a => by
      match a with
      | ⟨0, _⟩ => rfl | ⟨1, _⟩ => rfl | ⟨2, _⟩ => rfl | ⟨3, _⟩ => rfl | ⟨4, _⟩ => rfl | ⟨5, _⟩ => rfl)]
  rw [shapeCast_apply _ shapeCasts_S16384x256_S2x32x8x32x4x64 _
    (ix2 (⟨8192 * b.val + (256 * n + keyOf k), by unfold keyOf; omega⟩ : Fin 16384) (⟨64 * g.val + d.val, by omega⟩ : Fin 256)) (by
      rw [Shape.rowMajor_val_six, Shape.rowMajor_val_two]
      show (8192 * b.val + (256 * n + keyOf k)) * 256 + (64 * g.val + d.val)
        = ((((b.val * 32 + n) * 8 + k % 8) * 32 + k / 8) * 4 + g.val) * 64 + d.val
      unfold keyOf; omega)]
  exact (rd_eq x _ _).symm

theorem onesV_apply (e : Fin 64) : (onesV (F := Ideal)) (ix1 e) = if e.val < 3 then (1 : EReal) else 0 := by
  unfold onesV
  split
  · rename_i h
    rw [pad_apply_of_inside _ _ _ _ _ _ _ _ (ix1 (⟨e.val, h⟩ : Fin 3)) (fun a => by match a with | ⟨0, _⟩ => show e.val = 0 + e.val * (0 + 1); omega)]
    exact Ideal.ofBits_one_bf16
  · rename_i h
    rw [pad_apply_of_not_inside _ _ _ _ _ _ _ _ (0 : Fin 1) (fun hh => h (by
      have h2 := hh.2.2
      have h2 : (e.val - 0) / (0 + 1) < 3 := h2
      omega))]
    show (((0#32 : BitVec 32).toInt : ℝ) : EReal) = 0
    simp

theorem keysAug_apply (x : FVec Ideal S16384x256 .f32) (b : Fin 2) (g : Fin 4) (n k : ℕ) (h : 256 * n + k < 8192) (hk : k < 256) (e : Fin 128) :
    keysAug x (ix4 b g ⟨256 * n + k, h⟩ e) = augK x b.val g.val (256 * n + keyOf k) e := by
  unfold keysAug augK
  have he := e.isLt
  by_cases h1 : e.val < 64
  · rw [if_pos h1, ← keysV_apply x b g n k h hk ⟨e.val, h1⟩]
    exact concatenate_apply_piece (t := S2x4x8192x128) 3 _ _ _ 0 (by simp) S2x4x8192x64 (keysV x) rfl rfl 0 rfl _
      (fun a ha => by match a with | ⟨0, _⟩ => rfl | ⟨1, _⟩ => rfl | ⟨2, _⟩ => rfl | ⟨3, _⟩ => exact absurd rfl ha) (by show 0 + e.val = e.val; omega)
  · rw [if_neg h1]
    rw [concatenate_apply_piece (t := S2x4x8192x128) 3 _ _ _ 1 (by simp) S2x4x8192x64
      (broadcastInDim S2x4x8192x64 ![3] bcast_S64_S2x4x8192x64_3 onesV) rfl rfl 64 rfl
      (ix4 b g ⟨256 * n + k, h⟩ (⟨e.val - 64, by omega⟩ : Fin 64))
      (fun a ha => by match a with | ⟨0, _⟩ => rfl | ⟨1, _⟩ => rfl | ⟨2, _⟩ => rfl | ⟨3, _⟩ => exact absurd rfl ha) (by show 64 + (e.val - 64) = e.val; omega)]
    rw [broadcastInDim_apply _ _ _ _ (ix1 (⟨e.val - 64, by omega⟩ : Fin 64)) (fun a => by match a with | ⟨0, _⟩ => rfl), onesV_apply]
    show (if e.val - 64 < 3 then (1 : EReal) else 0) = _
    by_cases h2 : e.val < 67
    · rw [if_pos h2, if_pos (by omega)]
    · rw [if_neg h2, if_neg (by omega)]

theorem keyNo_apply (k : Fin 256) : keyNo (ix1 k) = BitVec.ofNat 32 (keyOf k.val) := by
  have hk := k.isLt
  unfold keyNo
  rw [shapeCast_apply _ shapeCasts_S32x8_S256 (ix1 k) (ix2 (⟨k.val / 8, by omega⟩ : Fin 32) (⟨k.val % 8, by omega⟩ : Fin 8)) (by
    rw [Shape.rowMajor_val_two, Shape.rowMajor_val_one]
    show k.val / 8 * 8 + k.val % 8 = k.val
    omega)]
  rw [transpose_apply [1, 0] _ transposes_S8x32_S32x8_1_0 _ (ix2 (⟨k.val % 8, by omega⟩ : Fin 8) (⟨k.val / 8, by omega⟩ : Fin 32)) (fun a => by
    match a with | ⟨0, _⟩ => rfl | ⟨1, _⟩ => rfl)]
  rw [shapeCast_apply _ shapeCasts_S256_S8x32 _ (ix1 (⟨keyOf k.val, keyOf_lt _ hk⟩ : Fin 256)) (by
    rw [Shape.rowMajor_val_two, Shape.rowMajor_val_one]
    show keyOf k.val = k.val % 8 * 32 + k.val / 8
    unfold keyOf; omega)]
  rfl

theorem ofBits_neg_inf : Ideal.ofBits .f32 0xFF800000#32 = ⊥ := by
  simp [Ideal.ofBits, Ideal.ieee]

theorem maskV_apply (k u : Fin 256) : (maskV (F := Ideal)) (ix2 k u) = if keyOf k.val < u.val then (0 : EReal) else ⊥ := by
  have hk := keyOf_lt k.val k.isLt; have hu := u.isLt
  have hc : cmpi .slt (broadcastInDim S256x256 ![0, 1] bcast_S256x1_S256x256_0_1 (broadcastInDim S256x1 ![0] bcast_S256_S256x1_0 keyNo))
      (broadcastInDim S256x256 ![0, 1] bcast_S1x256_S256x256_0_1 (broadcastInDim S1x256 ![1] bcast_S256_S1x256_1 (iotaInDim S256 32 0))) (ix2 k u)
      = BitVec.ofBool (decide (keyOf k.val < u.val)) := by
    rw [← WordCmp.cmpi_slt_ofNat (w := 32) (show keyOf k.val < 2 ^ 31 by omega) (show u.val < 2 ^ 31 by omega), ← keyNo_apply]
    refine congrArg₂ (IntOp.cmpi .slt) ?_ ?_
    · rw [broadcastInDim_apply _ _ _ _ (ix2 k (0 : Fin 1)) (fun a => by match a with | ⟨0, _⟩ => rfl | ⟨1, _⟩ => rfl),
        broadcastInDim_apply _ _ _ _ (ix1 k) (fun a => by match a with | ⟨0, _⟩ => rfl)]
    · rw [broadcastInDim_apply _ _ _ _ (ix2 (0 : Fin 1) u) (fun a => by match a with | ⟨0, _⟩ => rfl | ⟨1, _⟩ => rfl),
        broadcastInDim_apply _ _ _ _ (ix1 u) (fun a => by match a with | ⟨0, _⟩ => rfl)]
      rfl
  unfold maskV
  show Scalar.select (cmpi .slt (broadcastInDim S256x256 ![0, 1] bcast_S256x1_S256x256_0_1 (broadcastInDim S256x1 ![0] bcast_S256_S256x1_0 keyNo))
      (broadcastInDim S256x256 ![0, 1] bcast_S1x256_S256x256_0_1 (broadcastInDim S1x256 ![1] bcast_S256_S1x256_1 (iotaInDim S256 32 0))) (ix2 k u)) (Ideal.ofBits .f32 0x00000000#32) (Ideal.ofBits .f32 0xFF800000#32) = _
  rw [hc, ofBits_neg_inf, Ideal.ofBits_zero_f32]
  by_cases h : keyOf k.val < u.val
  · rw [decide_eq_true h, if_pos h]; rfl
  · rw [decide_eq_false h, if_neg h]; rfl

end Cert.Stick.Arrays

end
-- ==== Proof.Result.lean ====
/- What the kernel's call leaves in its result, at every index: the attention. -/
module

public import proofs.«01_k».proof.Proof.Run
public import proofs.«01_k».proof.Proof.Blocks
public import proofs.«01_k».proof.Proof.Arrays
public import Idealize.ShloMosaic.Lib.Pipeline.ValueKit

@[expose] public section

noncomputable section

namespace Cert.Stick.Result

open Cert.KernelIdeal Cert.KernelIdeal.Gen Cert.Stick
open Idealize.ShloMosaic hiding ix1 ix2 ix3 ix4 ix5 ix6
open Idealize.ShloMosaic.TcCoe Idealize.ShloMosaic.ValueIdx Idealize.SL.Sem Finset

variable (m : (ℓ : Loc nD τ sig) → Buf (Elt Ideal) ℓ)

theorem ind0 : ∀ t : Fin cfg0.N, win0_0.index t = ![(grid0.coords t 0).val, (grid0.coords t 1).val, (grid0.coords t 2).val, 0] := by decide +kernel
theorem ind1 : ∀ t : Fin cfg0.N, win0_1.index t = ![(grid0.coords t 0).val, (grid0.coords t 1).val, 0, 0] := by decide +kernel
theorem ind2 : ∀ t : Fin cfg0.N, win0_2.index t = ![(grid0.coords t 0).val, (grid0.coords t 1).val, 0, 0] := by decide +kernel
theorem ind3 : ∀ t : Fin cfg0.N, win0_3.index t = ![0, 0] := by decide +kernel
theorem ind4 : ∀ t : Fin cfg0.N, win0_4.index t = ![(grid0.coords t 0).val, (grid0.coords t 2).val, (grid0.coords t 1).val] := by decide +kernel

/-- The batch, the key head and the block of queries of a grid point. -/
def bt (t : Fin cfg0.N) : Fin 2 := grid0.coords t 0
def gt (t : Fin cfg0.N) : Fin 4 := grid0.coords t 1
def it (t : Fin cfg0.N) : Fin 32 := grid0.coords t 2

theorem blk0_apply (c : Dev nD) (t : Fin cfg0.N) (r : Fin 4) (u : Fin 256) (e : Fin 128) :
    iblk m c 0 t (ix4 (0 : Fin 1) r u e)
      = m ((c : Thread nD τ).loc main_arg0) (ix4 (bt t) (qh (gt t) r) (⟨256 * (it t).val + u.val, by omega⟩ : Fin 8192) e) := by
  blk_simp [iblk]
  refine (congrFun (V_main_arg0 m c) _).trans (congrArg _ ?_)
  funext a; apply Fin.ext
  match a with
  | ⟨0, _⟩ => blk_simp [ind0]; rfl
  | ⟨1, _⟩ => blk_simp [ind0]; show (gt t).val * 4 + r.val = 4 * (gt t).val + r.val; omega
  | ⟨2, _⟩ => blk_simp [ind0]; show (it t).val * 256 + u.val = 256 * (it t).val + u.val; omega
  | ⟨3, _⟩ => blk_simp [ind0]

theorem blk1_apply (c : Dev nD) (t : Fin cfg0.N) (p : Fin 8192) (e : Fin 128) :
    iblk m c 1 t (ix4 (0 : Fin 1) (0 : Fin 1) p e) = Arrays.keysAug (F := Ideal) (m ((c : Thread nD τ).loc main_arg1)) (ix4 (bt t) (gt t) p e) := by
  blk_simp [iblk]
  refine (congrFun (Arrays.V_keys m c) _).trans (congrArg _ ?_)
  funext a; apply Fin.ext
  match a with
  | ⟨0, _⟩ => blk_simp [ind1]; rfl
  | ⟨1, _⟩ => blk_simp [ind1]; rfl
  | ⟨2, _⟩ => blk_simp [ind1]
  | ⟨3, _⟩ => blk_simp [ind1]

theorem blk2_apply (c : Dev nD) (t : Fin cfg0.N) (d : Fin 64) (p : Fin 8192) :
    iblk m c 2 t (ix4 (0 : Fin 1) (0 : Fin 1) d p) = Arrays.valuesV (F := Ideal) (m ((c : Thread nD τ).loc main_arg2)) (ix4 (bt t) (gt t) d p) := by
  blk_simp [iblk]
  refine (congrFun (Arrays.V_values m c) _).trans (congrArg _ ?_)
  funext a; apply Fin.ext
  match a with
  | ⟨0, _⟩ => blk_simp [ind2]; rfl
  | ⟨1, _⟩ => blk_simp [ind2]; rfl
  | ⟨2, _⟩ => blk_simp [ind2]
  | ⟨3, _⟩ => blk_simp [ind2]

theorem blk3_apply (c : Dev nD) (t : Fin cfg0.N) (k u : Fin 256) :
    iblk m c 3 t (ix2 k u) = Arrays.maskV (F := Ideal) (ix2 k u) := by
  blk_simp [iblk]
  refine (congrFun (Arrays.V_mask m c) _).trans (congrArg _ ?_)
  funext a; apply Fin.ext
  match a with
  | ⟨0, _⟩ => blk_simp [ind3]
  | ⟨1, _⟩ => blk_simp [ind3]

/-- The logits of a block of queries are the attention's. -/
theorem lgOf_blk (c : Dev nD) (t : Fin cfg0.N) (r : Fin 4) (u : Fin 256) (s : ℕ) :
    lgOf (augK (m ((c : Thread nD τ).loc main_arg1)) (bt t).val (gt t).val) (iblk m c 0 t) (col r u) s
      = lgG (m ((c : Thread nD τ).loc main_arg0)) (m ((c : Thread nD τ).loc main_arg1)) (bt t) (gt t) r
          (⟨256 * (it t).val + u.val, by omega⟩ : Fin 8192) s := by
  have e1 : (⟨(col r u).val / 256, by omega⟩ : Fin 4) = r := Fin.ext (by show (256 * r.val + u.val) / 256 = r.val; omega)
  have e2 : (⟨(col r u).val % 256, Nat.mod_lt _ (by decide)⟩ : Fin 256) = u := Fin.ext (by show (256 * r.val + u.val) % 256 = u.val; omega)
  unfold lgOf lgG
  refine Finset.sum_congr rfl fun e _ => ?_
  rw [e1, e2, blk0_apply]

theorem col_eq (c : Fin 1024) : col ⟨c.val / 256, by omega⟩ ⟨c.val % 256, Nat.mod_lt _ (by decide)⟩ = c :=
  Fin.ext (by show 256 * (c.val / 256) + c.val % 256 = c.val; omega)

variable (hq : ∀ (c : Dev nD) j, ∃ y : ℝ, m ((c : Thread nD τ).loc main_arg0) j = (y : EReal))
  (hk : ∀ (c : Dev nD) j, ∃ y : ℝ, m ((c : Thread nD τ).loc main_arg1) j = (y : EReal))

include hq hk in
/-- The block of results at a grid point. -/
theorem outsAt_apply (c : Dev nD) (t : Fin cfg0.N) (u k : Fin 256) :
    Run.outsAt m c t (ix3 (0 : Fin 1) u k)
      = attG 8192 (m ((c : Thread nD τ).loc main_arg0)) (m ((c : Thread nD τ).loc main_arg1)) (m ((c : Thread nD τ).loc main_arg2))
          (bt t) (gt t) ⟨k.val / 64, by omega⟩ (⟨256 * (it t).val + u.val, by omega⟩ : Fin 8192) ⟨k.val % 64, Nat.mod_lt _ (by decide)⟩ := by
  have hi := (it t).isLt
  have hd := lastSt_done (iblk m c 0 t) (iblk m c 1 t) (iblk m c 2 t) (iblk m c 3 t)
    (augK (m ((c : Thread nD τ).loc main_arg1)) (bt t).val (gt t).val)
    (fun d s => rd (m ((c : Thread nD τ).loc main_arg2)) (8192 * (bt t).val + s) (64 * (gt t).val + d.val)) (it t).val
    (fun b n h e => by rw [blk1_apply, Arrays.keysAug_apply _ _ _ _ _ _ n.isLt])
    (fun b n h d => by rw [blk2_apply, Arrays.valuesV_apply _ _ _ _ _ _ n.isLt])
    (fun n u => by rw [blk3_apply, Arrays.maskV_apply])
    (fun c' s _ => by
      rw [← col_eq c', lgOf_blk]
      obtain ⟨y, hy⟩ := lgG_coe _ _ (hq c) (hk c) (bt t) (gt t) ⟨c'.val / 256, by omega⟩
        (⟨256 * (it t).val + (⟨c'.val % 256, Nat.mod_lt _ (by decide)⟩ : Fin 256).val, by omega⟩ : Fin 8192) s
      rw [hy]; exact EReal.coe_ne_top y)
    hi ⟨k0_off1 (grid0.coords t), Facts₀.k0_off1_inb (grid0.coords t)⟩ ⟨k0_off3 (grid0.coords t), Facts₀.k0_off3_inb (grid0.coords t)⟩
    ⟨k0_off2 (grid0.coords t), Facts₀.k0_off2_inb (grid0.coords t)⟩
    (Places.off1 (grid0.coords t)) (Places.off3 (grid0.coords t)) (Places.off2 (grid0.coords t))
    (Places.trips1 (grid0.coords t)) (Places.trips3 (grid0.coords t))
    (fun j r => ⟨k0_off4 (grid0.coords t) j (BitVec.ofNat 32 r.val), Facts₀.k0_off4_inb (grid0.coords t) j r⟩)
    (fun j r => ⟨k0_off5 (grid0.coords t) j (BitVec.ofNat 32 r.val), Facts₀.k0_off5_inb (grid0.coords t) j r⟩)
    (fun j => ⟨k0_off8 (grid0.coords t) j, Facts₀.k0_off8_inb (grid0.coords t) j⟩)
    (fun j => ⟨k0_off9 (grid0.coords t) j, Facts₀.k0_off9_inb (grid0.coords t) j⟩)
    (Places.off4 (grid0.coords t)) (Places.off5 (grid0.coords t)) (Places.off8 (grid0.coords t)) (Places.off9 (grid0.coords t))
  have ha := hd.inv.acc ⟨k.val / 64, by omega⟩ ⟨k.val % 64, Nat.mod_lt _ (by decide)⟩ u
  unfold Run.outsAt Run.outV
  rw [resultV_apply]
  refine Eq.trans ?_ ((Eq.trans ha ?_).trans ((attG_eq (256 * ((it t).val + 1)) _ _ _ _ _ _ _ _ (by show _ ≤ _; simp only; omega)).trans
    (attG_eq 8192 _ _ _ _ _ _ _ _ (by simp only; omega)).symm))
  · rfl
  · have hx : ∀ s, xOf (iblk m c 0 t) (augK (m ((c : Thread nD τ).loc main_arg1)) (bt t).val (gt t).val) (it t).val
        (col ⟨k.val / 64, by omega⟩ u) s = xG (m ((c : Thread nD τ).loc main_arg0)) (m ((c : Thread nD τ).loc main_arg1)) (bt t) (gt t)
          ⟨k.val / 64, by omega⟩ (⟨256 * (it t).val + u.val, by omega⟩ : Fin 8192) s := fun s => by
      have hc : (col ⟨k.val / 64, by omega⟩ u).val % 256 = u.val := by
        show (256 * (k.val / 64) + u.val) % 256 = u.val; omega
      unfold xOf xG
      rw [lgOf_blk, hc]
    simp only [hx]
    rw [Nat.mul_zero, Nat.Ico_zero_eq_range]
    rfl

/-- The whole result. -/
def attV (c : Dev nD) : S2x8192x1024.Idx → EReal := fun j =>
  attG 8192 (m ((c : Thread nD τ).loc main_arg0)) (m ((c : Thread nD τ).loc main_arg1)) (m ((c : Thread nD τ).loc main_arg2))
    (j 0) ⟨(j 2).val / 256, by have := (j 2).isLt; show _ < 4; have h : (j 2).val < 1024 := this; omega⟩
    ⟨(j 2).val % 256 / 64, by omega⟩ (j 1) ⟨(j 2).val % 64, by omega⟩

theorem attV_of (c : Dev nD) (j : S2x8192x1024.Idx) (b : Fin 2) (g : Fin 4) (q : Fin 8192) (k : Fin 256) (h0 : (j 0).val = b.val)
    (h1 : (j 1).val = q.val) (h2 : (j 2).val = 256 * g.val + k.val) :
    attV m c j = attG 8192 (m ((c : Thread nD τ).loc main_arg0)) (m ((c : Thread nD τ).loc main_arg1)) (m ((c : Thread nD τ).loc main_arg2))
      b g ⟨k.val / 64, by omega⟩ q ⟨k.val % 64, by omega⟩ := by
  have e0 : j 0 = b := Fin.ext h0
  have e1 : j 1 = q := Fin.ext h1
  unfold attV
  congr 1
  · exact Fin.ext (by show (j 2).val / 256 = g.val; omega)
  · exact Fin.ext (by show (j 2).val % 256 / 64 = k.val / 64; omega)
  · exact Fin.ext (by show (j 2).val % 64 = k.val % 64; omega)

include hq hk in
theorem arr_eq (c : Dev nD) : (Run.dats m 0 c).arrAt 4 cfg0.N = attV m c := by
  refine (Run.dats m 0 c).arrAt_eq_of_covers 4 _ (by decide +kernel) fun t hf y => ?_
  blk_simp
  rw [Run.after_4]
  have hy : y = ix3 (0 : Fin 1) (y 1) (y 2) := funext fun a => by
    match a with
    | ⟨0, h⟩ => exact Fin.ext (by have := (y ⟨0, h⟩).isLt; have h : (y ⟨0, h⟩).val < 1 := this; show _ = 0; omega)
    | ⟨1, _⟩ => rfl
    | ⟨2, _⟩ => rfl
  have h1 : (y 1).val < 256 := (y 1).isLt
  have h2 : (y 2).val < 256 := (y 2).isLt
  have hi := (it t).isLt
  rw [attV_of m c ((win0_4.blk t).view.emb y) (bt t) (gt t) (⟨256 * (it t).val + (y 1).val, by omega⟩ : Fin 8192) (y 2)
    (by blk_simp [ind4]; rfl)
    (by blk_simp [ind4]; show (it t).val * 256 + (y 1).val = 256 * (it t).val + (y 1).val; omega)
    (by blk_simp [ind4]; show (gt t).val * 256 + (y 2).val = 256 * (gt t).val + (y 2).val; omega)]
  exact (congrArg (Run.outsAt m c t) hy).trans (outsAt_apply m hq hk c t (y 1) (y 2))

include hq hk in
/-- The kernel's run: the attention in the result and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v23) = attV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 4).trans (arr_eq m hq hk c), h.2.1 c⟩)
    (θ_run_and (Run.run_main m ρ) (Run.frame_all m ρ))

end Cert.Stick.Result

end
-- ==== Proof.Reference.lean ====
/- What the reference computes, at every index: the attention. -/
module

public import proofs.«01_k».proof.Proof.Gen.ReferenceIdeal.Run
public import proofs.«01_k».proof.Proof.Attn
public import Idealize.ShloMosaic.Lib.ValueLayout
public import Idealize.ShloMosaic.Lib.IdealHost
public import Idealize.ShloMosaic.Lib.KernelVsHost
public import Idealize.ShloMosaic.Lib.WordCmp

@[expose] public section

set_option maxRecDepth 16384

noncomputable section

namespace Cert.Stick.Ref

open Cert.ReferenceIdeal Cert.ReferenceIdeal.Gen Cert.Stick
open Idealize.ShloMosaic Idealize.ShloMosaic.TcCoe Idealize.ShloMosaic.ValueIdx Idealize.SL.Sem Finset

/-- The queries by key head. -/
def qaV (a : FVec Ideal S2x16x8192x128 .bf16) : FVec Ideal S2x4x4x8192x128 .f32 :=
  shapeCast _ (extf .f32 a bitsLt_bf16_f32) shapeCasts_S2x16x8192x128_S2x4x4x8192x128

/-- The three biases of every query, summed. -/
def biasV (a : FVec Ideal S2x16x8192x128 .bf16) : FVec Ideal S2x4x4x8192 .f32 :=
  addf (addf (shapeCast _ (extractStridedSlice S2x4x4x8192x1 ![0, 0, 0, 0, 64] (qaV a) slices_S2x4x4x8192x128_S2x4x4x8192x1_0_0_0_0_64) shapeCasts_S2x4x4x8192x1_S2x4x4x8192)
    (shapeCast _ (extractStridedSlice S2x4x4x8192x1 ![0, 0, 0, 0, 65] (qaV a) slices_S2x4x4x8192x128_S2x4x4x8192x1_0_0_0_0_65) shapeCasts_S2x4x4x8192x1_S2x4x4x8192))
    (shapeCast _ (extractStridedSlice S2x4x4x8192x1 ![0, 0, 0, 0, 66] (qaV a) slices_S2x4x4x8192x128_S2x4x4x8192x1_0_0_0_0_66) shapeCasts_S2x4x4x8192x1_S2x4x4x8192)

/-- The logits. -/
def zV (a : FVec Ideal S2x16x8192x128 .bf16) (x : FVec Ideal S16384x256 .f32) : FVec Ideal S2x4x4x8192x8192 .f32 :=
  addf (Host.dotGeneral dot_S2x4x4x8192x64_S2x8192x4x64_S2x4x4x8192x8192_4_3_23_1_01_02 none
      (extractStridedSlice S2x4x4x8192x64 ![0, 0, 0, 0, 0] (qaV a) slices_S2x4x4x8192x128_S2x4x4x8192x64_0_0_0_0_0)
      (shapeCast _ x shapeCasts_S16384x256_S2x8192x4x64))
    (broadcastInDim S2x4x4x8192x8192 ![0, 1, 2, 3, 4] bcast_S2x4x4x8192x1_S2x4x4x8192x8192_0_1_2_3_4
      (broadcastInDim S2x4x4x8192x1 ![0, 1, 2, 3] bcast_S2x4x4x8192_S2x4x4x8192x1_0_1_2_3 (biasV a)))

/-- Which keys are before a query. -/
def mV : IVec S2x4x4x8192x8192 1 :=
  broadcastInDim S2x4x4x8192x8192 ![3, 4] bcast_S8192x8192_S2x4x4x8192x8192_3_4
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- Zero everywhere. -/
def oV : FVec Ideal S2x4x4x8192x8192 .f32 := broadcastInDim S2x4x4x8192x8192 ![] bcast_S_S2x4x4x8192x8192 (constant S_ .f32 0x00000000#32)

/-- The logarithm of the logistic function of minus `y`. -/
def lsV (y : FVec Ideal S2x4x4x8192x8192 .f32) : FVec Ideal S2x4x4x8192x8192 .f32 :=
  Host.negf (select (cmpf .une (subf y oV) (subf y oV)) (addf y oV)
    (addf (maximumf y oV) (Host.log1p (Host.exp (Host.negf (Host.absf (subf y oV)))))))

/-- The logarithm of what each key leaves of the stick. -/
def lkV (z : FVec Ideal S2x4x4x8192x8192 .f32) : FVec Ideal S2x4x4x8192x8192 .f32 := select mV (lsV (Host.negf (Host.negf z))) oV

/-- The sums over the later keys, each key itself with them. -/
def sumV (l : FVec Ideal S2x4x4x8192x8192 .f32) : FVec Ideal S2x4x4x8192x8192 .f32 :=
  Host.reduceWindowAdd ![1, 1, 1, 1, 8192] ![1, 1, 1, 1, 1] ![0, 0, 0, 0, 0] ![0, 0, 0, 0, 8191] l
    (broadcastInDim S_ ![] bcast_S_S_ (constant S_ .f32 0x00000000#32))
    reduceWindows_S2x4x4x8192x8192_S2x4x4x8192x8192_w1s1p0_0_w1s1p0_0_w1s1p0_0_w1s1p0_0_w8192s1p0_8191 h_S_

/-- The weights. -/
def wV (z : FVec Ideal S2x4x4x8192x8192 .f32) : FVec Ideal S2x4x4x8192x8192 .f32 :=
  select mV (Host.exp (addf (lsV (Host.negf z)) (subf (sumV (lkV z)) (lkV z)))) oV

/-- The result. -/
def refV (a : FVec Ideal S2x16x8192x128 .bf16) (x v : FVec Ideal S16384x256 .f32) : FVec Ideal S2x8192x1024 .f32 :=
  shapeCast _ (transpose S2x8192x4x4x64 [0, 4, 1, 3, 2]
    (Host.dotGeneral dot_S2x8192x4x64_S2x4x4x8192x8192_S2x4x64x4x8192_1_4_3_23_02_01 none (shapeCast _ v shapeCasts_S16384x256_S2x8192x4x64) (wV (zV a x)))
    transposes_S2x4x64x4x8192_S2x8192x4x4x64_0_4_1_3_2) shapeCasts_S2x8192x4x4x64_S2x8192x1024

theorem res_eq (m : (ℓ : Loc nD τ sig) → Buf (Elt Ideal) ℓ) (c : Dev nD) :
    Value.res_main_v34 m c = refV (m ((c.tc : Thread nD τ).loc main_arg0)) (m ((c.tc : Thread nD τ).loc main_arg1)) (m ((c.tc : Thread nD τ).loc main_arg2)) := by
  unfold Value.res_main_v34; rfl

theorem qaV_apply (a : FVec Ideal S2x16x8192x128 .bf16) (b : Fin 2) (g r : Fin 4) (q : Fin 8192) (e : Fin 128) :
    qaV a (ix5 b g r q e) = a (ix4 b (qh g r) q e) :=
  shapeCast_apply _ shapeCasts_S2x16x8192x128_S2x4x4x8192x128 _ _ (by
    rw [Shape.rowMajor_val_four, Shape.rowMajor_val_five]
    show ((b.val * 16 + (4 * g.val + r.val)) * 8192 + q.val) * 128 + e.val = (((b.val * 4 + g.val) * 4 + r.val) * 8192 + q.val) * 128 + e.val
    omega)

theorem slice1_apply (a : FVec Ideal S2x4x4x8192x128 .f32) (n : ℕ) (hn : n < 128) (h : S2x4x4x8192x128.Slices ![0, 0, 0, 0, n] S2x4x4x8192x1)
    (b : Fin 2) (g r : Fin 4) (q : Fin 8192) :
    shapeCast S2x4x4x8192 (extractStridedSlice S2x4x4x8192x1 ![0, 0, 0, 0, n] a h) shapeCasts_S2x4x4x8192x1_S2x4x4x8192 (ix4 b g r q) = a (ix5 b g r q ⟨n, hn⟩) := by
  rw [shapeCast_apply _ shapeCasts_S2x4x4x8192x1_S2x4x4x8192 _ (ix5 b g r q (0 : Fin 1)) (by
    rw [Shape.rowMajor_val_four, Shape.rowMajor_val_five]
    show (((b.val * 4 + g.val) * 4 + r.val) * 8192 + q.val) * 1 + 0 = ((b.val * 4 + g.val) * 4 + r.val) * 8192 + q.val
    omega)]
  exact extractStridedSlice_apply _ _ _ _ _ (fun a => by
    match a with
    | ⟨0, _⟩ => exact (Nat.zero_add _).symm | ⟨1, _⟩ => exact (Nat.zero_add _).symm | ⟨2, _⟩ => exact (Nat.zero_add _).symm
    | ⟨3, _⟩ => exact (Nat.zero_add _).symm | ⟨4, _⟩ => rfl)

theorem dot1_lhs (b : Fin 2) (g r : Fin 4) (q t : Fin 8192) (e : Fin 64) :
    dot_S2x4x4x8192x64_S2x8192x4x64_S2x4x4x8192x8192_4_3_23_1_01_02.lhsIdx (ix5 b g r q t)
      ((contrEquiv1 dot_S2x4x4x8192x64_S2x8192x4x64_S2x4x4x8192x8192_4_3_23_1_01_02 64 rfl rfl).symm e) = ix5 b g r q e := by
  funext a
  match a with
  | ⟨0, _⟩ => rfl | ⟨1, _⟩ => rfl | ⟨2, _⟩ => rfl | ⟨3, _⟩ => rfl | ⟨4, _⟩ => rfl

theorem dot1_rhs (b : Fin 2) (g r : Fin 4) (q t : Fin 8192) (e : Fin 64) :
    dot_S2x4x4x8192x64_S2x8192x4x64_S2x4x4x8192x8192_4_3_23_1_01_02.rhsIdx (ix5 b g r q t)
      ((contrEquiv1 dot_S2x4x4x8192x64_S2x8192x4x64_S2x4x4x8192x8192_4_3_23_1_01_02 64 rfl rfl).symm e) = ix4 b t g e := by
  funext a
  match a with
  | ⟨0, _⟩ => rfl | ⟨1, _⟩ => rfl | ⟨2, _⟩ => rfl | ⟨3, _⟩ => rfl

theorem dot2_lhs (b : Fin 2) (g : Fin 4) (d : Fin 64) (r : Fin 4) (q t : Fin 8192) :
    dot_S2x8192x4x64_S2x4x4x8192x8192_S2x4x64x4x8192_1_4_3_23_02_01.lhsIdx (ix5 b g d r q)
      ((contrEquiv1 dot_S2x8192x4x64_S2x4x4x8192x8192_S2x4x64x4x8192_1_4_3_23_02_01 8192 rfl rfl).symm t) = ix4 b t g d := by
  funext a
  match a with
  | ⟨0, _⟩ => rfl | ⟨1, _⟩ => rfl | ⟨2, _⟩ => rfl | ⟨3, _⟩ => rfl

theorem dot2_rhs (b : Fin 2) (g : Fin 4) (d : Fin 64) (r : Fin 4) (q t : Fin 8192) :
    dot_S2x8192x4x64_S2x4x4x8192x8192_S2x4x64x4x8192_1_4_3_23_02_01.rhsIdx (ix5 b g d r q)
      ((contrEquiv1 dot_S2x8192x4x64_S2x4x4x8192x8192_S2x4x64x4x8192_1_4_3_23_02_01 8192 rfl rfl).symm t) = ix5 b g r q t := by
  funext a
  match a with
  | ⟨0, _⟩ => rfl | ⟨1, _⟩ => rfl | ⟨2, _⟩ => rfl | ⟨3, _⟩ => rfl | ⟨4, _⟩ => rfl

theorem rows_apply (x : FVec Ideal S16384x256 .f32) (b : Fin 2) (t : Fin 8192) (g : Fin 4) (e : Fin 64) :
    shapeCast S2x8192x4x64 x shapeCasts_S16384x256_S2x8192x4x64 (ix4 b t g e) = rd x (8192 * b.val + t.val) (64 * g.val + e.val) := by
  have hb := b.isLt; have ht := t.isLt; have hg := g.isLt; have he := e.isLt
  rw [shapeCast_apply _ shapeCasts_S16384x256_S2x8192x4x64 _
    (ix2 (⟨8192 * b.val + t.val, by omega⟩ : Fin 16384) (⟨64 * g.val + e.val, by omega⟩ : Fin 256)) (by
      rw [Shape.rowMajor_val_four, Shape.rowMajor_val_two]
      show (8192 * b.val + t.val) * 256 + (64 * g.val + e.val) = ((b.val * 8192 + t.val) * 4 + g.val) * 64 + e.val
      omega)]
  exact (rd_eq x _ _).symm

theorem biasV_apply (a : FVec Ideal S2x16x8192x128 .bf16) (b : Fin 2) (g r : Fin 4) (q : Fin 8192) :
    biasV a (ix4 b g r q) = ((a (ix4 b (qh g r) q ⟨64, by decide⟩) : EReal) + a (ix4 b (qh g r) q ⟨65, by decide⟩)) + a (ix4 b (qh g r) q ⟨66, by decide⟩) := by
  rw [← qaV_apply a, ← qaV_apply a, ← qaV_apply a]
  exact congrArg₂ (α := EReal) (β := EReal) (· + ·) (congrArg₂ (α := EReal) (β := EReal) (· + ·)
    (slice1_apply (qaV a) 64 (by decide) _ b g r q) (slice1_apply (qaV a) 65 (by decide) _ b g r q)) (slice1_apply (qaV a) 66 (by decide) _ b g r q)

theorem dotZ_apply (a : FVec Ideal S2x16x8192x128 .bf16) (x : FVec Ideal S16384x256 .f32) (b : Fin 2) (g r : Fin 4) (q t : Fin 8192) :
    (Host.dotGeneral dot_S2x4x4x8192x64_S2x8192x4x64_S2x4x4x8192x8192_4_3_23_1_01_02 none
      (extractStridedSlice S2x4x4x8192x64 ![0, 0, 0, 0, 0] (qaV a) slices_S2x4x4x8192x128_S2x4x4x8192x64_0_0_0_0_0)
      (shapeCast _ x shapeCasts_S16384x256_S2x8192x4x64) : FVec Ideal S2x4x4x8192x8192 .f32) (ix5 b g r q t)
      = ∑ e : Fin 64, (a (ix4 b (qh g r) q ⟨e.val, by omega⟩) : EReal) * rd x (8192 * b.val + t.val) (64 * g.val + e.val) := by
  show FloatOps.matmul (F := Ideal) _ none _ _ (fun _ => 0) (ix5 b g r q t) = _
  rw [Ideal.matmul_apply]
  show (0 : EReal) + _ = _
  rw [zero_add, ← (contrEquiv1 dot_S2x4x4x8192x64_S2x8192x4x64_S2x4x4x8192x8192_4_3_23_1_01_02 64 rfl rfl).symm.sum_comp]
  refine Finset.sum_congr rfl fun e _ => ?_
  rw [dot1_lhs, dot1_rhs, rows_apply]
  refine congrArg (· * _) ?_
  rw [← qaV_apply a]
  exact extractStridedSlice_apply _ _ _ _ _ (fun a => by
    match a with
    | ⟨0, _⟩ => exact (Nat.zero_add _).symm | ⟨1, _⟩ => exact (Nat.zero_add _).symm | ⟨2, _⟩ => exact (Nat.zero_add _).symm
    | ⟨3, _⟩ => exact (Nat.zero_add _).symm | ⟨4, _⟩ => exact (Nat.zero_add _).symm)

/-- The logit of the 128 lanes: the product of 64 of them and three biases. -/
theorem lgG_eq (a : QArr.Idx → EReal) (x : KArr.Idx → EReal) (b : Fin 2) (g r : Fin 4) (q : Fin 8192) (t : ℕ) :
    lgG a x b g r q t = (∑ e : Fin 64, (a (ix4 b (qh g r) q ⟨e.val, by omega⟩) : EReal) * rd x (8192 * b.val + t) (64 * g.val + e.val))
      + ((a (ix4 b (qh g r) q ⟨64, by decide⟩) + a (ix4 b (qh g r) q ⟨65, by decide⟩)) + a (ix4 b (qh g r) q ⟨66, by decide⟩)) := by
  have h1 := Fin.sum_univ_add (a := 64) (b := 64) (fun e : Fin 128 => augK x b.val g.val t e * a (ix4 b (qh g r) q e))
  have h2 := Fin.sum_univ_add (a := 3) (b := 61) (fun e : Fin 64 => augK x b.val g.val t (Fin.natAdd 64 e) * a (ix4 b (qh g r) q (Fin.natAdd 64 e)))
  unfold lgG
  refine h1.trans (congrArg₂ (· + ·) (Finset.sum_congr rfl fun e _ => ?_) (h2.trans ?_))
  · unfold augK
    rw [if_pos (show (Fin.castAdd 64 e).val < 64 from e.isLt), mul_comm]; rfl
  · rw [Finset.sum_eq_zero (s := (univ : Finset (Fin 61))) (fun e _ => by
      unfold augK
      rw [if_neg (by show ¬ 64 + (3 + e.val) < 64; omega), if_neg (by show ¬ 64 + (3 + e.val) < 67; omega), zero_mul]), add_zero]
    rw [Fin.sum_univ_three]
    unfold augK
    simp only [Fin.val_natAdd, Fin.val_castAdd]
    norm_num
    rfl

theorem zV_apply (a : FVec Ideal S2x16x8192x128 .bf16) (x : FVec Ideal S16384x256 .f32) (b : Fin 2) (g r : Fin 4) (q t : Fin 8192) :
    zV a x (ix5 b g r q t) = lgG a x b g r q t.val := by
  rw [lgG_eq, ← dotZ_apply, ← biasV_apply]
  refine congrArg₂ (α := EReal) (β := EReal) (· + ·) rfl ?_
  rw [broadcastInDim_apply _ _ _ _ (ix5 b g r q (0 : Fin 1)) (fun a => by
      match a with | ⟨0, _⟩ => rfl | ⟨1, _⟩ => rfl | ⟨2, _⟩ => rfl | ⟨3, _⟩ => rfl | ⟨4, _⟩ => rfl),
    broadcastInDim_apply _ _ _ _ (ix4 b g r q) (fun a => by
      match a with | ⟨0, _⟩ => rfl | ⟨1, _⟩ => rfl | ⟨2, _⟩ => rfl | ⟨3, _⟩ => rfl)]

theorem mV_apply (b : Fin 2) (g r : Fin 4) (q t : Fin 8192) : mV (ix5 b g r q t) = BitVec.ofBool (decide (t.val < q.val)) := by
  unfold mV
  rw [broadcastInDim_apply _ _ _ _ (ix2 q t) (fun a => by match a with | ⟨0, _⟩ => rfl | ⟨1, _⟩ => rfl)]
  have h1 : broadcastInDim S8192x8192 ![0, 1] bcast_S1x8192_S8192x8192_0_1 (broadcastInDim S1x8192 ![1] bcast_S8192_S1x8192_1 (iotaInDim S8192 32 0)) (ix2 q t) = BitVec.ofNat 32 t.val := by
    rw [broadcastInDim_apply _ _ _ _ (ix2 (0 : Fin 1) t) (fun a => by match a with | ⟨0, _⟩ => rfl | ⟨1, _⟩ => rfl),
      broadcastInDim_apply _ _ _ _ (ix1 t) (fun a => by match a with | ⟨0, _⟩ => rfl)]
    rfl
  have h2 : broadcastInDim S8192x8192 ![0, 1] bcast_S8192x1_S8192x8192_0_1 (broadcastInDim S8192x1 ![0] bcast_S8192_S8192x1_0 (iotaInDim S8192 32 0)) (ix2 q t) = BitVec.ofNat 32 q.val := by
    rw [broadcastInDim_apply _ _ _ _ (ix2 q (0 : Fin 1)) (fun a => by match a with | ⟨0, _⟩ => rfl | ⟨1, _⟩ => rfl),
      broadcastInDim_apply _ _ _ _ (ix1 q) (fun a => by match a with | ⟨0, _⟩ => rfl)]
    rfl
  show IntOp.cmpi .slt (broadcastInDim S8192x8192 ![0, 1] bcast_S1x8192_S8192x8192_0_1 (broadcastInDim S1x8192 ![1] bcast_S8192_S1x8192_1 (iotaInDim S8192 32 0)) (ix2 q t)) (broadcastInDim S8192x8192 ![0, 1] bcast_S8192x1_S8192x8192_0_1 (broadcastInDim S8192x1 ![0] bcast_S8192_S8192x1_0 (iotaInDim S8192 32 0)) (ix2 q t)) = _
  rw [h1, h2]
  exact WordCmp.cmpi_slt_ofNat (w := 32) (a := t.val) (b := q.val) (by have := t.isLt; norm_num; omega) (by have := q.isLt; norm_num; omega)

theorem oV_apply (i : S2x4x4x8192x8192.Idx) : oV i = (0 : EReal) := Ideal.ofBits_zero_f32

theorem lsV_apply (y : FVec Ideal S2x4x4x8192x8192 .f32) (i : S2x4x4x8192x8192.Idx) (r : ℝ) (h : y i = (r : EReal)) :
    lsV y i = ((-Real.log (1 + Real.exp r) : ℝ) : EReal) := by
  have h0 : (y i : EReal) - oV i = (r : EReal) := by rw [h, oV_apply, sub_zero]
  show -(Scalar.select (Ideal.cmp .une ((y i : EReal) - oV i) ((y i : EReal) - oV i)) ((y i : EReal) + oV i)
    (max (y i : EReal) (oV i) + Ideal.log (1 + Ideal.exp (-(max ((y i : EReal) - oV i) (-((y i : EReal) - oV i))))))) = _
  rw [h0, show Ideal.cmp .une (r : EReal) (r : EReal) = 0#1 by simp [Ideal.cmp], h, oV_apply]
  show -(max (r : EReal) 0 + Ideal.log (1 + Ideal.exp (-(max (r : EReal) (-(r : EReal)))))) = _
  rw [← EReal.coe_neg r, ← coe_max, ← EReal.coe_neg, Ideal.exp_coe, log_one_add _ (Real.exp_pos _), ← EReal.coe_zero, ← coe_max, ← EReal.coe_add,
    ← EReal.coe_neg, ← abs_eq_max_neg, softplus_real]

theorem lkV_apply (z : FVec Ideal S2x4x4x8192x8192 .f32) (b : Fin 2) (g r : Fin 4) (q t : Fin 8192) (y : ℝ) (h : z (ix5 b g r q t) = (y : EReal)) :
    lkV z (ix5 b g r q t) = ((-sp (if t.val < q.val then (y : EReal) else ⊥) : ℝ) : EReal) := by
  show Scalar.select (mV (ix5 b g r q t)) (lsV (Host.negf (Host.negf z)) (ix5 b g r q t)) (oV (ix5 b g r q t)) = _
  rw [mV_apply]
  by_cases hl : t.val < q.val
  · rw [if_pos hl, sp_coe, decide_eq_true hl]
    exact lsV_apply _ _ y ((congrArg (fun e : EReal => - -e) h).trans (neg_neg _))
  · rw [if_neg hl, sp_bot, decide_eq_false hl, neg_zero]
    exact oV_apply (ix5 b g r q t)

theorem foldl_sum {ι : Type} (f : ι → EReal) : ∀ (l : List ι) (x : EReal), l.foldl (fun r n => r + f n) x = x + (l.map f).sum
  | [], x => by simp
  | n :: l, x => by rw [List.foldl_cons, foldl_sum f l, List.map_cons, List.sum_cons, add_assoc]

/-- The window along the last axis is numbered by its last coordinate. -/
def winEquiv : Fin 8192 ≃ (⟨5, ![1, 1, 1, 1, 8192]⟩ : Shape).Idx where
  toFun n := ix5 (0 : Fin 1) (0 : Fin 1) (0 : Fin 1) (0 : Fin 1) n
  invFun i := i 4
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl

theorem sum_shift (f : ℕ → EReal) (t n : ℕ) (h : t ≤ n) : ∑ k ∈ range n, (if t + k < n then f (t + k) else 0) = ∑ k ∈ Ico t n, f k := by
  rw [Finset.sum_Ico_eq_sum_range, ← Finset.sum_range_add_sum_Ico _ (show n - t ≤ n by omega),
    Finset.sum_eq_zero (s := Ico (n - t) n) (fun k hk => by rw [mem_Ico] at hk; rw [if_neg (by omega)]), add_zero]
  exact Finset.sum_congr rfl fun k hk => by rw [mem_range] at hk; rw [if_pos (by omega)]

/-- A window sum from zero, as a sum over the positions of the window. -/
theorem window_sum {s t : Shape} (window strides lo hi : Fin s.rank → ℕ) (x : s.Idx → EReal) (h : s.ReduceWindows window strides lo hi t) (j : t.Idx)
    (e : EReal) (he : e = 0) :
    Ideal.hostReduceWindowAdd window strides lo hi h x e j = ∑ i : (⟨s.rank, window⟩ : Shape).Idx,
      if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else 0 := by
  subst he
  unfold Ideal.hostReduceWindowAdd Host.reduceWindow
  refine (foldl_sum _ _ _).trans ?_
  rw [zero_add, ← List.ofFn_eq_map, List.sum_ofFn]
  exact (Finset.sum_congr rfl fun n _ => dite_congr rfl (fun _ => rfl) (fun _ => rfl)).trans ((⟨s.rank, window⟩ : Shape).rowMajor.symm.sum_comp (fun i => if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else 0))

theorem sumV_apply (l : FVec Ideal S2x4x4x8192x8192 .f32) (b : Fin 2) (g r : Fin 4) (q t : Fin 8192) (f : ℕ → EReal)
    (hf : ∀ k : Fin 8192, l (ix5 b g r q k) = f k.val) : sumV l (ix5 b g r q t) = ∑ k ∈ Ico t.val 8192, f k := by
  have ht := t.isLt
  have hw := window_sum (s := S2x4x4x8192x8192) (t := S2x4x4x8192x8192) ![1, 1, 1, 1, 8192] ![1, 1, 1, 1, 1] ![0, 0, 0, 0, 0] ![0, 0, 0, 0, 8191] l
    reduceWindows_S2x4x4x8192x8192_S2x4x4x8192x8192_w1s1p0_0_w1s1p0_0_w1s1p0_0_w1s1p0_0_w8192s1p0_8191 (ix5 b g r q t) _ Ideal.ofBits_zero_f32
  unfold sumV Host.reduceWindowAdd
  rw [Ideal.hostReduceWindowAdd_def]
  refine Eq.trans (congrArg (fun e => Ideal.hostReduceWindowAdd _ _ _ _ _ l e (ix5 b g r q t)) ?_) (hw.trans ?_)
  · rfl
  rw [← winEquiv.sum_comp, ← sum_shift f t.val 8192 ht.le, ← Fin.sum_univ_eq_sum_range (fun k => if t.val + k < 8192 then f (t.val + k) else 0) 8192]
  refine Finset.sum_congr rfl fun k _ => ?_
  by_cases hk : t.val + k.val < 8192
  · rw [if_pos hk, dif_pos (fun a => by
      match a with
      | ⟨0, _⟩ => exact ⟨Nat.zero_le _, by show b.val * 1 + 0 - 0 < 2; omega⟩
      | ⟨1, _⟩ => exact ⟨Nat.zero_le _, by show g.val * 1 + 0 - 0 < 4; omega⟩
      | ⟨2, _⟩ => exact ⟨Nat.zero_le _, by show r.val * 1 + 0 - 0 < 4; omega⟩
      | ⟨3, _⟩ => exact ⟨Nat.zero_le _, by show q.val * 1 + 0 - 0 < 8192; omega⟩
      | ⟨4, _⟩ => exact ⟨Nat.zero_le _, by show t.val * 1 + k.val - 0 < 8192; omega⟩)]
    refine Eq.trans (congrArg l (funext fun a => Fin.ext ?_)) (hf ⟨t.val + k.val, hk⟩)
    match a with
    | ⟨0, _⟩ => show b.val * 1 + 0 - 0 = b.val; omega
    | ⟨1, _⟩ => show g.val * 1 + 0 - 0 = g.val; omega
    | ⟨2, _⟩ => show r.val * 1 + 0 - 0 = r.val; omega
    | ⟨3, _⟩ => show q.val * 1 + 0 - 0 = q.val; omega
    | ⟨4, _⟩ => show t.val * 1 + k.val - 0 = t.val + k.val; omega
  · rw [if_neg hk, dif_neg fun hin => hk (by
      have h4 := (hin ⟨4, by decide⟩).2
      change t.val * 1 + k.val - 0 < 8192 at h4
      omega)]

theorem wV_apply (a : FVec Ideal S2x16x8192x128 .bf16) (x : FVec Ideal S16384x256 .f32) (ha : ∀ j, ∃ y : ℝ, (a j : EReal) = y)
    (hx : ∀ j, ∃ y : ℝ, (x j : EReal) = y) (b : Fin 2) (g r : Fin 4) (q t : Fin 8192) :
    wV (zV a x) (ix5 b g r q t)
      = ((wt (xG a x b g r q t.val) (∑ k ∈ Ico t.val 8192, sp (xG a x b g r q k)) : ℝ) : EReal) := by
  have hl : ∀ k : Fin 8192, lkV (zV a x) (ix5 b g r q k) = ((-sp (xG a x b g r q k.val) : ℝ) : EReal) := fun k => by
    obtain ⟨y, hy⟩ := lgG_coe a x ha hx b g r q k.val
    unfold xG
    rw [lkV_apply _ _ _ _ _ _ y ((zV_apply a x b g r q k).trans hy), hy]
  have hs := sumV_apply (lkV (zV a x)) b g r q t (fun k => ((-sp (xG a x b g r q k) : ℝ) : EReal)) hl
  rw [← attn_coe_sum, Finset.sum_neg_distrib] at hs
  obtain ⟨y, hy⟩ := lgG_coe a x ha hx b g r q t.val
  have hls := lsV_apply (Host.negf (zV a x)) (ix5 b g r q t) (-y)
    ((congrArg (fun e : EReal => -e) ((zV_apply a x b g r q t).trans hy)).trans (EReal.coe_neg y).symm)
  show Scalar.select (mV (ix5 b g r q t)) (Ideal.exp ((lsV (Host.negf (zV a x)) (ix5 b g r q t) : EReal)
    + ((sumV (lkV (zV a x)) (ix5 b g r q t) : EReal) - lkV (zV a x) (ix5 b g r q t)))) (oV (ix5 b g r q t)) = _
  rw [mV_apply, hls, hs, hl t]
  by_cases h : t.val < q.val
  · have hxg : xG a x b g r q t.val = (y : EReal) := by unfold xG; rw [if_pos h, hy]
    rw [decide_eq_true h, hxg, wt_coe, sp_coe, ← EReal.coe_sub, ← EReal.coe_add]
    refine (if_pos (by decide)).trans ?_
    rw [Ideal.exp_coe]
    refine congrArg (fun e : ℝ => ((Real.exp e : ℝ) : EReal)) ?_
    have h1 : Real.log (1 + Real.exp y) = y + Real.log (1 + Real.exp (-y)) := by
      rw [← softplus_real y, ← softplus_real (-y), abs_neg]
      rcases le_total 0 y with h | h
      · rw [max_eq_left h, max_eq_right (by linarith)]; ring
      · rw [max_eq_right h, max_eq_left (by linarith)]; ring
    rw [h1]; ring
  · have hxg : xG a x b g r q t.val = ⊥ := by unfold xG; rw [if_neg h]
    rw [decide_eq_false h, hxg, wt_bot]
    exact oV_apply (ix5 b g r q t)

theorem refV_apply (a : FVec Ideal S2x16x8192x128 .bf16) (x v : FVec Ideal S16384x256 .f32) (ha : ∀ j, ∃ y : ℝ, (a j : EReal) = y)
    (hx : ∀ j, ∃ y : ℝ, (x j : EReal) = y) (b : Fin 2) (g r : Fin 4) (q : Fin 8192) (d : Fin 64) (w : Fin 1024) (hw : w.val = 256 * g.val + 64 * r.val + d.val) :
    refV a x v (ix3 b q w) = attG 8192 a x v b g r q d := by
  unfold refV
  rw [shapeCast_apply _ shapeCasts_S2x8192x4x4x64_S2x8192x1024 _ (ix5 b q g r d) (by
      rw [Shape.rowMajor_val_three, Shape.rowMajor_val_five]
      show (((b.val * 8192 + q.val) * 4 + g.val) * 4 + r.val) * 64 + d.val = (b.val * 8192 + q.val) * 1024 + w.val
      omega),
    transpose_apply _ _ transposes_S2x4x64x4x8192_S2x8192x4x4x64_0_4_1_3_2 _ (ix5 b g d r q) (fun a => by
      match a with | ⟨0, _⟩ => rfl | ⟨1, _⟩ => rfl | ⟨2, _⟩ => rfl | ⟨3, _⟩ => rfl | ⟨4, _⟩ => rfl)]
  show FloatOps.matmul (F := Ideal) _ none _ _ (fun _ => 0) (ix5 b g d r q) = _
  rw [Ideal.matmul_apply]
  show (0 : EReal) + _ = _
  rw [zero_add, ← (contrEquiv1 dot_S2x8192x4x64_S2x4x4x8192x8192_S2x4x64x4x8192_1_4_3_23_02_01 8192 rfl rfl).symm.sum_comp]
  unfold attG
  rw [← Fin.sum_univ_eq_sum_range (fun t => rd v (8192 * b.val + t) (64 * g.val + d.val) * ((wt (xG a x b g r q t) (∑ t' ∈ Ico t 8192, sp (xG a x b g r q t')) : ℝ) : EReal)) 8192]
  refine Finset.sum_congr rfl fun t _ => ?_
  rw [dot2_lhs, dot2_rhs, rows_apply, wV_apply a x ha hx]

/-- The reference's run: the attention at every index of the result and the arguments unchanged. -/
theorem run (m : (ℓ : Loc nD τ sig) → Buf (Elt Ideal) ℓ) (ρ : Dev nD → PrngReg)
    (hq : ∀ (c : Dev nD) j, ∃ y : ℝ, m ((c.tc : Thread nD τ).loc main_arg0) j = (y : EReal))
    (hk : ∀ (c : Dev nD) j, ∃ y : ℝ, m ((c.tc : Thread nD τ).loc main_arg1) j = (y : EReal)) :
    θ_run defs (onTc (τ := τ) (main (F := Ideal))) ⟨m, fun _ => 0, ρ⟩ fun r => ∀ c : Dev nD,
      (r.2.mem ((c.tc : Thread nD τ).loc main_v34) = fun j : S2x8192x1024.Idx =>
        attG 8192 (m ((c.tc : Thread nD τ).loc main_arg0)) (m ((c.tc : Thread nD τ).loc main_arg1)) (m ((c.tc : Thread nD τ).loc main_arg2))
          (j 0) ⟨(j 2).val / 256, by have := (j 2).isLt; show _ < 4; have h : (j 2).val < 1024 := this; omega⟩
          ⟨(j 2).val % 256 / 64, by omega⟩ (j 1) ⟨(j 2).val % 64, by omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1.trans (res_eq m c)).trans (funext fun j => by
      have hj : j = ix3 (j 0) (j 1) (j 2) := funext fun a => by
        match a with | ⟨0, _⟩ => rfl | ⟨1, _⟩ => rfl | ⟨2, _⟩ => rfl
      refine (congrArg _ hj).trans (refV_apply _ _ _ (hq c) (hk c) (j 0) _ _ (j 1) _ (j 2) ?_)
      show (j 2).val = 256 * ((j 2).val / 256) + 64 * ((j 2).val % 256 / 64) + (j 2).val % 64
      omega), (h c).2⟩)
    (Value.run (F := Ideal) m ρ)

end Cert.Stick.Ref

end
-- ==== Proof.Finite.lean ====
/- What the precondition says: every query, bias and key is a real number. -/
module

public import proofs.«01_k».proof.Pre_finite_logits
public import Idealize.ShloMosaic.Lib.ReduceAll
public import Idealize.ShloMosaic.Lib.ValueIdx
public import Idealize.ShloMosaic.PureOps.Ideal

@[expose] public section

noncomputable section

namespace Cert.Stick.Finite

open Cert.Pre_finite_logits Idealize.ShloMosaic Idealize.ShloMosaic.ValueIdx

theorem facts : Facts where
  bitsLt_bf16_f32 := by decide
  bcast_S_S2x16x8192x128 := by decide
  reducesTo_S2x16x8192x128_S_d0_1_2_3 := by decide
  h_S_ := by decide
  bcast_S_S16384x256 := by decide
  reducesTo_S16384x256_S_d0_1 := by decide

theorem ofBits_inf : Ideal.ofBits .f32 0x7F800000#32 = ⊤ := by simp [Ideal.ofBits, Ideal.ieee]

/-- An extended real whose absolute value is below infinity is a real. -/
theorem coe_of_cmp (x : EReal) (h : Ideal.cmp .olt (max x (-x)) (Ideal.ofBits .f32 0x7F800000#32) = 1#1) : ∃ y : ℝ, x = (y : EReal) := by
  rw [ofBits_inf] at h
  induction x with
  | bot => simp [Ideal.cmp] at h
  | top => simp [Ideal.cmp] at h
  | coe r => exact ⟨r, rfl⟩

instance : Subsingleton S_.Idx := ⟨fun _ _ => funext fun a => a.elim0⟩

theorem queries [h0 : Facts] (a : FVec Ideal S2x16x8192x128 .bf16) (x v : FVec Ideal S16384x256 .f32) (h : fn a x v ix0 = 1#1) (j : S2x16x8192x128.Idx) :
    ∃ y : ℝ, (a j : EReal) = (y : EReal) :=
  coe_of_cmp (a j) (Host.reduce_andi_all _ _ _ _ _ (IntOp.andi_eq_one.1 h).1 j)

theorem keys [h0 : Facts] (a : FVec Ideal S2x16x8192x128 .bf16) (x v : FVec Ideal S16384x256 .f32) (h : fn a x v ix0 = 1#1) (j : S16384x256.Idx) :
    ∃ y : ℝ, (x j : EReal) = (y : EReal) :=
  coe_of_cmp (x j) (Host.reduce_andi_all _ _ _ _ _ (IntOp.andi_eq_one.1 h).2 j)

end Cert.Stick.Finite

end
-- ==== Proof.ProjValue.lean ====
/- The projection's four results as functions of its arguments, at every index. -/
module

public import proofs.«01_k».proof.Proof.Gen.Reference2Ideal
public import Idealize.ShloMosaic.PureOps.Ideal.Laws
public import Idealize.ShloMosaic.Lib.ValueIdx

@[expose] public section

noncomputable section

namespace Cert.Proj

open Idealize.ShloMosaic
open Idealize.ShloMosaic.ValueIdx Finset

/-- The product of a row of a table and a column of the weights, both given by their entries. -/
def prod (x w : Fin 1024 → EReal) : EReal := ∑ e : Fin 1024, x e * w e

/-- The inputs' rows, the weights, and the table that stands beside the queries. -/
abbrev Rows : Type := (⟨2, ![16384, 1024]⟩ : Shape).Idx → EReal
abbrev Weights : Type := (⟨2, ![1024, 2560]⟩ : Shape).Idx → EReal
abbrev Beside : Type := (⟨2, ![16, 128]⟩ : Shape).Idx → EReal

/-- An entry of the product of the rows and the weights. -/
def entry (x : Rows) (w : Weights) (r : Fin 16384) (n : Fin 2560) : EReal := prod (fun e => x (ix2 r e)) (fun e => w (ix2 e n))

/-- The queries: of a batch, a head, a position and a lane. -/
def query (x : Rows) (w : Weights) (a : Beside) (b : Fin 2) (h : Fin 16) (s : Fin 8192) (l : Fin 128) : EReal :=
  if hl : l.val < 64 then entry x w ⟨8192 * b.val + s.val, by omega⟩ ⟨64 * h.val + l.val, by omega⟩ * (Scalar.ofBits .f32 0x3E000000#32 : Ideal .f32)
  else a (ix2 h l)

def queriesV (x : Rows) (w : Weights) (a : Beside) : (⟨4, ![2, 16, 8192, 128]⟩ : Shape).Idx → EReal := fun j => query x w a (j 0) (j 1) (j 2) (j 3)
def keysV (x : Rows) (w : Weights) : (⟨2, ![16384, 256]⟩ : Shape).Idx → EReal := fun j => entry x w (j 0) ⟨1024 + (j 1).val, by have h : (j 1).val < 256 := (j 1).isLt; omega⟩
def valuesV (x : Rows) (w : Weights) : (⟨2, ![16384, 256]⟩ : Shape).Idx → EReal := fun j => entry x w (j 0) ⟨1280 + (j 1).val, by have h : (j 1).val < 256 := (j 1).isLt; omega⟩
def gateV (x : Rows) (w : Weights) : (⟨2, ![16384, 1024]⟩ : Shape).Idx → EReal := fun j => entry x w (j 0) ⟨1536 + (j 1).val, by have h : (j 1).val < 1024 := (j 1).isLt; omega⟩

end Cert.Proj

end
-- ==== Proof.ProjBlock.lean ====
/- What one grid point of the projection leaves in its four blocks of results: the products of its block of rows
   with the weights, the queries' heads scaled and each beside its row of the second table. -/
module

public import proofs.«01_k».proof.Proof.ProjValue
public import proofs.«01_k».proof.Proof.Gen.Kernel2Ideal.Value
public import Idealize.ShloMosaic.Lib.Pipeline.ValueKit
public import Idealize.ShloMosaic.Lib.ValueLayout
public import Idealize.ShloMosaic.Lib.KernelVsHost
public import Idealize.ShloMosaic.Lib.IdealHost
public import Idealize.ShloMosaic.Lib.WordCmp

@[expose] public section

noncomputable section

namespace Cert.Proj

open Cert.Kernel2Ideal Cert.Kernel2Ideal.Gen
open Idealize.ShloMosaic hiding ix1 ix2 ix3 ix4 ix5 ix6
open Idealize.ShloMosaic.TcCoe Idealize.ShloMosaic.ValueIdx Idealize.SL.Sem Finset

theorem wide_lhs (r : Fin 512) (n e : Fin 1024) :
    (dot_S512x1024_S1024x1024_S512x1024_1_0_0_1_n_n).lhsIdx (ix2 r n)
      ((contrEquiv1 dot_S512x1024_S1024x1024_S512x1024_1_0_0_1_n_n 1024 rfl rfl).symm e) = ix2 r e := by
  funext a; match a with | ⟨0, _⟩ => rfl | ⟨1, _⟩ => rfl

theorem wide_rhs (r : Fin 512) (n e : Fin 1024) :
    (dot_S512x1024_S1024x1024_S512x1024_1_0_0_1_n_n).rhsIdx (ix2 r n)
      ((contrEquiv1 dot_S512x1024_S1024x1024_S512x1024_1_0_0_1_n_n 1024 rfl rfl).symm e) = ix2 e n := by
  funext a; match a with | ⟨0, _⟩ => rfl | ⟨1, _⟩ => rfl

theorem wide_apply (x : FVec Ideal S512x1024 .bf16) (w : FVec Ideal S1024x1024 .bf16) (r : Fin 512) (n : Fin 1024) :
    matmul dot_S512x1024_S1024x1024_S512x1024_1_0_0_1_n_n none x w (constant S512x1024 .f32 0x00000000#32) (ix2 r n)
      = prod (fun e => x (ix2 r e)) (fun e => w (ix2 e n)) := by
  refine (Ideal.matmul_apply ..).trans ?_
  rw [show (constant S512x1024 .f32 0x00000000#32 : FVec Ideal S512x1024 .f32) (ix2 r n) = 0 from Ideal.ofBits_zero_f32, zero_add,
    ← (contrEquiv1 dot_S512x1024_S1024x1024_S512x1024_1_0_0_1_n_n 1024 rfl rfl).symm.sum_comp]
  refine Finset.sum_congr rfl fun e _ => ?_
  rw [wide_lhs, wide_rhs]

theorem narrow_lhs (r : Fin 512) (n : Fin 256) (e : Fin 1024) :
    (dot_S512x1024_S1024x256_S512x256_1_0_0_1_n_n).lhsIdx (ix2 r n)
      ((contrEquiv1 dot_S512x1024_S1024x256_S512x256_1_0_0_1_n_n 1024 rfl rfl).symm e) = ix2 r e := by
  funext a; match a with | ⟨0, _⟩ => rfl | ⟨1, _⟩ => rfl

theorem narrow_rhs (r : Fin 512) (n : Fin 256) (e : Fin 1024) :
    (dot_S512x1024_S1024x256_S512x256_1_0_0_1_n_n).rhsIdx (ix2 r n)
      ((contrEquiv1 dot_S512x1024_S1024x256_S512x256_1_0_0_1_n_n 1024 rfl rfl).symm e) = ix2 e n := by
  funext a; match a with | ⟨0, _⟩ => rfl | ⟨1, _⟩ => rfl

theorem narrow_apply (x : FVec Ideal S512x1024 .bf16) (w : FVec Ideal S1024x256 .bf16) (r : Fin 512) (n : Fin 256) :
    matmul dot_S512x1024_S1024x256_S512x256_1_0_0_1_n_n none x w (constant S512x256 .f32 0x00000000#32) (ix2 r n)
      = prod (fun e => x (ix2 r e)) (fun e => w (ix2 e n)) := by
  refine (Ideal.matmul_apply ..).trans ?_
  rw [show (constant S512x256 .f32 0x00000000#32 : FVec Ideal S512x256 .f32) (ix2 r n) = 0 from Ideal.ofBits_zero_f32, zero_add,
    ← (contrEquiv1 dot_S512x1024_S1024x256_S512x256_1_0_0_1_n_n 1024 rfl rfl).symm.sum_comp]
  refine Finset.sum_congr rfl fun e _ => ?_
  rw [narrow_lhs, narrow_rhs]

/-- A group of the weights' columns, read at an index. -/
theorem cols_apply {d : ℕ} (x1 : FVec Ideal S1024x2560 .bf16) (o : ℕ) (inb) (e : Fin 1024) (n : Fin d) (h : o + n.val < 2560) :
    View.ld (Val := Elt Ideal) (e' := .bf16) x1 (Rect.unit (s := S1024x2560) ![0, o] ![1024, d] inb) (ix2 e n)
      = x1 (ix2 e (⟨o + n.val, h⟩ : Fin 2560)) := by
  refine congrArg x1 ?_
  funext a; apply Fin.ext
  match a with
  | ⟨0, _⟩ => show 0 + 1 * e.val = e.val; omega
  | ⟨1, _⟩ => show o + 1 * n.val = o + n.val; omega

theorem rows_ld (x0 : FVec Ideal S512x1024 .f32) : View.ld (Val := Elt Ideal) (e' := .f32) x0 r0_0 = x0 :=
  funext fun j => congrArg x0 (funext fun a => Fin.ext (by
    match a with
    | ⟨0, _⟩ => show 0 + 1 * (j 0).val = (j 0).val; omega
    | ⟨1, _⟩ => show 0 + 1 * (j 1).val = (j 1).val; omega))

theorem full_apply (x : FVec Ideal S1024x1024 .bf16) (k : S1024x1024.Idx) :
    shapeCast S1024x1024 x shapeCasts_S1024x1024_S1024x1024 k = x k := shapeCast_apply _ _ _ _ rfl

theorem half_apply (x : FVec Ideal S1024x256 .bf16) (k : S1024x256.Idx) :
    shapeCast S1024x256 x shapeCasts_S1024x256_S1024x256 k = x k := shapeCast_apply _ _ _ _ rfl

/-- The keys' block. -/
theorem out4_apply (x0 : FVec Ideal S512x1024 .f32) (x1 : FVec Ideal S1024x2560 .bf16) (x2 : FVec Ideal S16x128 .f32) (r : Fin 512) (n : Fin 256) :
    out0_4 (F := Ideal) x0 x1 x2 (ix2 r n) = prod (fun e => x0 (ix2 r e)) (fun e => x1 (ix2 e (⟨1024 + n.val, by omega⟩ : Fin 2560))) := by
  unfold out0_4
  rw [View.canon_unit_zero (by funext a; match a with | ⟨0, _⟩ => rfl | ⟨1, _⟩ => rfl)]
  refine (narrow_apply _ _ r n).trans ?_
  unfold prod
  refine Finset.sum_congr rfl fun e _ => congrArg₂ (· * ·) (congrFun (rows_ld x0) _) ((half_apply _ _).trans (cols_apply x1 1024 _ e n _))

/-- The values' block. -/
theorem out5_apply (x0 : FVec Ideal S512x1024 .f32) (x1 : FVec Ideal S1024x2560 .bf16) (x2 : FVec Ideal S16x128 .f32) (r : Fin 512) (n : Fin 256) :
    out0_5 (F := Ideal) x0 x1 x2 (ix2 r n) = prod (fun e => x0 (ix2 r e)) (fun e => x1 (ix2 e (⟨1280 + n.val, by omega⟩ : Fin 2560))) := by
  unfold out0_5
  rw [View.canon_unit_zero (by funext a; match a with | ⟨0, _⟩ => rfl | ⟨1, _⟩ => rfl)]
  refine (narrow_apply _ _ r n).trans ?_
  unfold prod
  refine Finset.sum_congr rfl fun e _ => congrArg₂ (· * ·) (congrFun (rows_ld x0) _) ((half_apply _ _).trans (cols_apply x1 1280 _ e n _))

/-- The gate's block. -/
theorem out6_apply (x0 : FVec Ideal S512x1024 .f32) (x1 : FVec Ideal S1024x2560 .bf16) (x2 : FVec Ideal S16x128 .f32) (r : Fin 512) (n : Fin 1024) :
    out0_6 (F := Ideal) x0 x1 x2 (ix2 r n) = prod (fun e => x0 (ix2 r e)) (fun e => x1 (ix2 e (⟨1536 + n.val, by omega⟩ : Fin 2560))) := by
  unfold out0_6
  rw [View.canon_unit_zero (by funext a; match a with | ⟨0, _⟩ => rfl | ⟨1, _⟩ => rfl)]
  refine (wide_apply _ _ r n).trans ?_
  unfold prod
  refine Finset.sum_congr rfl fun e _ => congrArg₂ (· * ·) (congrFun (rows_ld x0) _) ((full_apply _ _).trans (cols_apply x1 1536 _ e n _))

/-- The scaled products of the queries' columns. -/
theorem scaled_apply (x0 : FVec Ideal S512x1024 .f32) (x1 : FVec Ideal S1024x2560 .bf16) (x2 : FVec Ideal S16x128 .f32) (r : Fin 512) (n : Fin 1024) :
    k0_pay35 (F := Ideal) x0 x1 x2 (ix2 r n)
      = prod (fun e => x0 (ix2 r e)) (fun e => x1 (ix2 e (⟨0 + n.val, by omega⟩ : Fin 2560))) * (Scalar.ofBits .f32 0x3E000000#32 : Ideal .f32) := by
  have h := wide_apply (k0_pay2 (View.ld (Val := Elt Ideal) (e' := .f32) x0 r0_0)) (shapeCast S1024x1024 (View.ld (Val := Elt Ideal) (e' := .bf16) x1 r0_1)
    shapeCasts_S1024x1024_S1024x1024) r n
  refine Eq.trans (b := _ * (Scalar.ofBits .f32 0x3E000000#32 : Ideal .f32)) rfl ?_
  rw [h]
  refine congrArg (· * (Scalar.ofBits .f32 0x3E000000#32 : Ideal .f32)) ?_
  unfold prod
  refine Finset.sum_congr rfl fun e _ => congrArg₂ (· * ·) (congrFun (rows_ld x0) _) ((full_apply _ _).trans (cols_apply x1 0 _ e n _))

/-- A head's queries where the mask is set, its row of the second table elsewhere. -/
def besideV (q : FVec Ideal S512x128 .f32) (row : FVec Ideal S1x128 .f32) : FVec Ideal S1x1x512x128 .bf16 :=
  shapeCast S1x1x512x128 (truncf .bf16 (select k0_pay4 q (broadcastTo S512x128 (shapeCast S1x128 row shapeCasts_S1x128_S1x128)
    broadcasts_S1x128_S512x128)) bitsLt_bf16_f32) shapeCasts_S512x128_S1x1x512x128

theorem besideV_apply (q : FVec Ideal S512x128 .f32) (row : FVec Ideal S1x128 .f32) (a b : Fin 1) (r : Fin 512) (l : Fin 128) :
    besideV q row (ix4 a b r l) = if l.val < 64 then q (ix2 r l) else row (ix2 (0 : Fin 1) l) := by
  unfold besideV
  rw [shapeCast_apply _ _ (ix4 a b r l) (ix2 r l) (by
    rw [Shape.rowMajor_val_two, Shape.rowMajor_val_four]
    show r.val * 128 + l.val = ((a.val * 1 + b.val) * 512 + r.val) * 128 + l.val
    omega)]
  have hrow : broadcastTo S512x128 (shapeCast S1x128 row shapeCasts_S1x128_S1x128) broadcasts_S1x128_S512x128 (ix2 r l) = row (ix2 (0 : Fin 1) l) := by
    refine (broadcastTo_apply _ _ (ix2 r l) (ix2 (0 : Fin 1) l) ?_).trans (shapeCast_apply _ _ _ _ rfl)
    intro a; match a with | ⟨0, _⟩ => rfl | ⟨1, _⟩ => rfl
  have hm : k0_pay4 (ix2 r l) = if l.val < 64 then 1#1 else 0#1 := by
    unfold k0_pay4
    show IntOp.cmpi .slt (iota .tc S512x128 32 [1] iota_S512x128_d1_w32 (ix2 r l)) 64#32 = _
    rw [iota_single_apply]
    refine (WordCmp.cmpi_slt_ofNat (w := 32) (a := l.val) (b := 64) (by have := l.isLt; omega) (by decide)).trans ?_
    by_cases h : l.val < 64
    · rw [if_pos h, decide_eq_true h]; rfl
    · rw [if_neg h, decide_eq_false h]; rfl
  show Scalar.select (k0_pay4 (ix2 r l)) (q (ix2 r l)) _ = _
  rw [hrow, hm]
  by_cases h : l.val < 64
  · rw [if_pos h, if_pos h]; exact if_pos rfl
  · rw [if_neg h, if_neg h]; exact if_neg (by decide)

/-- The block of queries, from the scaled products and the second table. -/
def headsG (q : FVec Ideal S512x1024 .f32) (x2 : FVec Ideal S16x128 .f32) : S1x16x512x128.Idx → EReal := fun y =>
  if h : (y 3).val < 64 then q (ix2 (y 2) (⟨64 * (y 1).val + (y 3).val, by have : (y 1).val < 16 := (y 1).isLt; omega⟩ : Fin 1024)) else x2 (ix2 (y 1) (y 3))

theorem row_apply (x2 : FVec Ideal S16x128 .f32) (o : ℕ) (inb) (l : Fin 128) (h : o < 16) :
    View.ld (Val := Elt Ideal) (e' := .f32) x2 (Rect.unit (s := S16x128) ![o, 0] S1x128.size inb) (ix2 (0 : Fin 1) l) = x2 (ix2 (⟨o, h⟩ : Fin 16) l) := by
  refine congrArg x2 ?_
  funext a; apply Fin.ext
  match a with
  | ⟨0, _⟩ => show o + 1 * 0 = o; omega
  | ⟨1, _⟩ => show 0 + 1 * l.val = l.val; omega

theorem emb_apply (o : ℕ) (inb) (a b : Fin 1) (r : Fin 512) (l : Fin 128) (h : o < 16) :
    (Rect.unit (s := S1x16x512x128) ![0, o, 0, 0] S1x1x512x128.size inb).emb (ix4 a b r l) = ix4 (0 : Fin 1) (⟨o, h⟩ : Fin 16) r l := by
  funext c; apply Fin.ext
  match c with
  | ⟨0, _⟩ => show 0 + 1 * a.val = 0; omega
  | ⟨1, _⟩ => show o + 1 * b.val = o; omega
  | ⟨2, _⟩ => show 0 + 1 * r.val = r.val; omega
  | ⟨3, _⟩ => show 0 + 1 * l.val = l.val; omega

/-- The first head of a pair: its columns are the first of the slice. -/
theorem even_piece (q : FVec Ideal S512x1024 .f32) (x2 : FVec Ideal S16x128 .f32) (o : ℕ) (ho : o < 16) (c : ℕ) (hc : c = 64 * o)
    (hs : S512x1024.Slices ![0, c] S512x128) (inb inb') (x : S1x1x512x128.Idx) :
    besideV (extractStridedSlice S512x128 ![0, c] q hs) (View.ld (Val := Elt Ideal) (e' := .f32) x2 (Rect.unit (s := S16x128) ![o, 0] S1x128.size inb)) x
      = headsG q x2 ((Rect.unit (s := S1x16x512x128) ![0, o, 0, 0] S1x1x512x128.size inb').emb x) := by
  obtain ⟨a, b, r, l, rfl⟩ : ∃ (a b : Fin 1) (r : Fin 512) (l : Fin 128), x = ix4 a b r l := ⟨x 0, x 1, x 2, x 3, by
    funext c; match c with | ⟨0, _⟩ => rfl | ⟨1, _⟩ => rfl | ⟨2, _⟩ => rfl | ⟨3, _⟩ => rfl⟩
  rw [besideV_apply, emb_apply o _ a b r l ho]
  subst hc
  unfold headsG
  by_cases h : l.val < 64
  · rw [if_pos h, dif_pos (show ((ix4 (0 : Fin 1) (⟨o, ho⟩ : Fin 16) r l) 3).val < 64 from h)]
    exact extractStridedSlice_apply _ _ _ (ix2 r l) _ fun a => by
      match a with
      | ⟨0, _⟩ => exact (Nat.zero_add _).symm
      | ⟨1, _⟩ => rfl
  · rw [if_neg h, dif_neg (show ¬ ((ix4 (0 : Fin 1) (⟨o, ho⟩ : Fin 16) r l) 3).val < 64 from h)]
    exact row_apply x2 o _ l ho

/-- The second head of a pair: its columns are the last of the slice, rotated to the front. -/
theorem odd_piece (q : FVec Ideal S512x1024 .f32) (x2 : FVec Ideal S16x128 .f32) (o : ℕ) (ho : o < 16) (c : ℕ) (hc : c + 64 = 64 * o)
    (hs : S512x1024.Slices ![0, c] S512x128) (inb inb') (x : S1x1x512x128.Idx) :
    besideV (dynamicRotate 1 64#32 none (extractStridedSlice S512x128 ![0, c] q hs) rotates_S512x128_d1)
        (View.ld (Val := Elt Ideal) (e' := .f32) x2 (Rect.unit (s := S16x128) ![o, 0] S1x128.size inb)) x
      = headsG q x2 ((Rect.unit (s := S1x16x512x128) ![0, o, 0, 0] S1x1x512x128.size inb').emb x) := by
  obtain ⟨a, b, r, l, rfl⟩ : ∃ (a b : Fin 1) (r : Fin 512) (l : Fin 128), x = ix4 a b r l := ⟨x 0, x 1, x 2, x 3, by
    funext c; match c with | ⟨0, _⟩ => rfl | ⟨1, _⟩ => rfl | ⟨2, _⟩ => rfl | ⟨3, _⟩ => rfl⟩
  rw [besideV_apply, emb_apply o _ a b r l ho]
  unfold headsG
  by_cases h : l.val < 64
  · rw [if_pos h, dif_pos (show ((ix4 (0 : Fin 1) (⟨o, ho⟩ : Fin 16) r l) 3).val < 64 from h)]
    refine (dynamicRotate_apply 1 64#32 _ _ (ix2 r l) (ix2 r (⟨l.val + 64, by omega⟩ : Fin 128)) fun a => ?_).trans ?_
    · match a with
      | ⟨0, _⟩ => rfl
      | ⟨1, _⟩ => show l.val + 64 = (l.val + 128 - 64 % 128) % 128; omega
    · exact extractStridedSlice_apply _ _ _ (ix2 r (⟨l.val + 64, by omega⟩ : Fin 128)) _ fun a => by
        match a with
        | ⟨0, _⟩ => exact (Nat.zero_add _).symm
        | ⟨1, _⟩ => show 64 * o + l.val = c + (l.val + 64); omega
  · rw [if_neg h, dif_neg (show ¬ ((ix4 (0 : Fin 1) (⟨o, ho⟩ : Fin 16) r l) 3).val < 64 from h)]
    exact row_apply x2 o _ l ho

/-- The queries' block: the sixteen heads, two to a slice of the products. -/
theorem out3_eq (x0 : FVec Ideal S512x1024 .f32) (x1 : FVec Ideal S1024x2560 .bf16) (x2 : FVec Ideal S16x128 .f32) (y : S1x16x512x128.Idx) :
    out0_3 (F := Ideal) x0 x1 x2 y = headsG (k0_pay35 x0 x1 x2) x2 y := by
  unfold out0_3
  refine View.canon_apply_of_pieces (Val := Elt Ideal) (e := .bf16) (headsG (k0_pay35 x0 x1 x2) x2) _ ?_ y (cover0_3 _ _ _ _ _ _ _ _ _ _ _ _ _ _ _ _ y)
  have even := even_piece (k0_pay35 x0 x1 x2) x2
  have odd := odd_piece (k0_pay35 x0 x1 x2) x2
  simp only [List.forall_mem_cons]
  exact ⟨odd 15 (by decide) 896 rfl slices_S512x1024_o0_896_S512x128 _ _, even 14 (by decide) 896 rfl slices_S512x1024_o0_896_S512x128 _ _, odd 13 (by decide) 768 rfl slices_S512x1024_o0_768_S512x128 _ _, even 12 (by decide) 768 rfl slices_S512x1024_o0_768_S512x128 _ _,
    odd 11 (by decide) 640 rfl slices_S512x1024_o0_640_S512x128 _ _, even 10 (by decide) 640 rfl slices_S512x1024_o0_640_S512x128 _ _, odd 9 (by decide) 512 rfl slices_S512x1024_o0_512_S512x128 _ _, even 8 (by decide) 512 rfl slices_S512x1024_o0_512_S512x128 _ _,
    odd 7 (by decide) 384 rfl slices_S512x1024_o0_384_S512x128 _ _, even 6 (by decide) 384 rfl slices_S512x1024_o0_384_S512x128 _ _, odd 5 (by decide) 256 rfl slices_S512x1024_o0_256_S512x128 _ _, even 4 (by decide) 256 rfl slices_S512x1024_o0_256_S512x128 _ _,
    odd 3 (by decide) 128 rfl slices_S512x1024_o0_128_S512x128 _ _, even 2 (by decide) 128 rfl slices_S512x1024_o0_128_S512x128 _ _, odd 1 (by decide) 0 rfl slices_S512x1024_o0_0_S512x128 _ _, even 0 (by decide) 0 rfl slices_S512x1024_o0_0_S512x128 _ _, fun _ h => absurd h List.not_mem_nil⟩

end Cert.Proj
-- ==== Proof.Proj.lean ====
/- What the projection's call leaves in its four results, at every index. -/
module

public import proofs.«01_k».proof.Proof.ProjBlock

@[expose] public section

noncomputable section

namespace Cert.Proj

open Cert.Kernel2Ideal Cert.Kernel2Ideal.Gen
open Idealize.ShloMosaic hiding ix1 ix2 ix3 ix4 ix5 ix6
open Idealize.ShloMosaic.TcCoe Idealize.ShloMosaic.ValueIdx Idealize.SL.Sem Finset

variable (m : (ℓ : Loc nD τ sig) → Buf (Elt Ideal) ℓ)

theorem ind0 : ∀ t : Fin cfg0.N, win0_0.index t = ![t.val, 0] := by decide +kernel
theorem ind1 : ∀ t : Fin cfg0.N, win0_1.index t = ![0, 0] := by decide +kernel
theorem ind2 : ∀ t : Fin cfg0.N, win0_2.index t = ![0, 0] := by decide +kernel
theorem ind3 : ∀ t : Fin cfg0.N, win0_3.index t = ![t.val / 16, 0, t.val % 16, 0] := by decide +kernel
theorem ind4 : ∀ t : Fin cfg0.N, win0_4.index t = ![t.val, 0] := by decide +kernel
theorem ind5 : ∀ t : Fin cfg0.N, win0_5.index t = ![t.val, 0] := by decide +kernel
theorem ind6 : ∀ t : Fin cfg0.N, win0_6.index t = ![t.val, 0] := by decide +kernel

theorem points (t : Fin cfg0.N) : t.val < 32 := t.isLt

/-- The weights as the call finds them. -/
theorem V_weights (c : Dev nD) : V m c main_v0 = (truncf .bf16 (m ((c : Thread nD τ).loc main_arg1)) bitsLt_bf16_f32 : FVec Ideal S1024x2560 .bf16) := by
  simp only [V, hostOps0]
  after_results_simp

theorem blk0_apply (c : Dev nD) (t : Fin cfg0.N) (r : Fin 512) (e : Fin 1024) :
    iblk m c 0 t (ix2 r e) = m ((c : Thread nD τ).loc main_arg0) (ix2 (⟨512 * t.val + r.val, by have := points t; omega⟩ : Fin 16384) e) := by
  blk_simp [iblk]
  refine (congrFun (V_main_arg0 m c) _).trans (congrArg _ ?_)
  funext a; apply Fin.ext
  match a with
  | ⟨0, _⟩ => blk_simp [ind0]; show t.val * 512 + r.val = 512 * t.val + r.val; omega
  | ⟨1, _⟩ => blk_simp [ind0]

theorem blk1_apply (c : Dev nD) (t : Fin cfg0.N) (e : Fin 1024) (n : Fin 2560) :
    iblk m c 1 t (ix2 e n) = m ((c : Thread nD τ).loc main_arg1) (ix2 e n) := by
  blk_simp [iblk]
  refine (congrFun (V_weights m c) _).trans ?_
  show m ((c : Thread nD τ).loc main_arg1) _ = _
  refine congrArg _ ?_
  funext a; apply Fin.ext
  match a with
  | ⟨0, _⟩ => blk_simp [ind1]
  | ⟨1, _⟩ => blk_simp [ind1]

theorem blk2_apply (c : Dev nD) (t : Fin cfg0.N) (h : Fin 16) (l : Fin 128) :
    iblk m c 2 t (ix2 h l) = m ((c : Thread nD τ).loc main_arg2) (ix2 h l) := by
  blk_simp [iblk]
  refine (congrFun (V_main_arg2 m c) _).trans (congrArg _ ?_)
  funext a; apply Fin.ext
  match a with
  | ⟨0, _⟩ => blk_simp [ind2]
  | ⟨1, _⟩ => blk_simp [ind2]

/-- A product of a point's rows and a column of the weights is an entry of the whole product. -/
theorem entry_blk (c : Dev nD) (t : Fin cfg0.N) (r : Fin 512) (n : Fin 2560) (R : Fin 16384) (hR : R.val = 512 * t.val + r.val) :
    prod (fun e => iblk m c 0 t (ix2 r e)) (fun e => iblk m c 1 t (ix2 e n))
      = entry (m ((c : Thread nD τ).loc main_arg0)) (m ((c : Thread nD τ).loc main_arg1)) R n := by
  rw [show R = (⟨512 * t.val + r.val, by have := points t; omega⟩ : Fin 16384) from Fin.ext hR]
  unfold entry
  exact congrArg₂ prod (funext fun e => blk0_apply m c t r e) (funext fun e => blk1_apply m c t e n)

theorem arr4 (c : Dev nD) : (dats m 0 c).arrAt 4 cfg0.N = keysV (m ((c : Thread nD τ).loc main_arg0)) (m ((c : Thread nD τ).loc main_arg1)) := by
  refine (dats m 0 c).arrAt_eq_of_covers 4 _ (by decide +kernel) fun t hf y => ?_
  blk_simp
  rw [after0_4]
  obtain ⟨r, n, rfl⟩ : ∃ (r : Fin 512) (n : Fin 256), y = ix2 r n := ⟨y 0, y 1, by funext a; match a with | ⟨0, _⟩ => rfl | ⟨1, _⟩ => rfl⟩
  have hk := points t
  refine (out4_apply _ _ _ r n).trans ((entry_blk m c t r _ (⟨512 * t.val + r.val, by omega⟩ : Fin 16384) rfl).trans ?_)
  unfold keysV
  congr 1
  · exact Fin.ext (by blk_simp [ind4]; show 512 * t.val + r.val = t.val * 512 + r.val; omega)
  · exact Fin.ext (by blk_simp [ind4])

theorem arr5 (c : Dev nD) : (dats m 0 c).arrAt 5 cfg0.N = valuesV (m ((c : Thread nD τ).loc main_arg0)) (m ((c : Thread nD τ).loc main_arg1)) := by
  refine (dats m 0 c).arrAt_eq_of_covers 5 _ (by decide +kernel) fun t hf y => ?_
  blk_simp
  rw [after0_5]
  obtain ⟨r, n, rfl⟩ : ∃ (r : Fin 512) (n : Fin 256), y = ix2 r n := ⟨y 0, y 1, by funext a; match a with | ⟨0, _⟩ => rfl | ⟨1, _⟩ => rfl⟩
  have hk := points t
  refine (out5_apply _ _ _ r n).trans ((entry_blk m c t r _ (⟨512 * t.val + r.val, by omega⟩ : Fin 16384) rfl).trans ?_)
  unfold valuesV
  congr 1
  · exact Fin.ext (by blk_simp [ind5]; show 512 * t.val + r.val = t.val * 512 + r.val; omega)
  · exact Fin.ext (by blk_simp [ind5])

theorem arr6 (c : Dev nD) : (dats m 0 c).arrAt 6 cfg0.N = gateV (m ((c : Thread nD τ).loc main_arg0)) (m ((c : Thread nD τ).loc main_arg1)) := by
  refine (dats m 0 c).arrAt_eq_of_covers 6 _ (by decide +kernel) fun t hf y => ?_
  blk_simp
  rw [after0_6]
  obtain ⟨r, n, rfl⟩ : ∃ (r : Fin 512) (n : Fin 1024), y = ix2 r n := ⟨y 0, y 1, by funext a; match a with | ⟨0, _⟩ => rfl | ⟨1, _⟩ => rfl⟩
  have hk := points t
  refine (out6_apply _ _ _ r n).trans ((entry_blk m c t r _ (⟨512 * t.val + r.val, by omega⟩ : Fin 16384) rfl).trans ?_)
  unfold gateV
  congr 1
  · exact Fin.ext (by blk_simp [ind6]; show 512 * t.val + r.val = t.val * 512 + r.val; omega)
  · exact Fin.ext (by blk_simp [ind6])

theorem queriesV_of (x : Rows) (w : Weights) (a : Beside) (j : S2x16x8192x128.Idx) (b : Fin 2) (h : Fin 16) (s : Fin 8192) (l : Fin 128)
    (h0 : (j 0).val = b.val) (h1 : (j 1).val = h.val) (h2 : (j 2).val = s.val) (h3 : (j 3).val = l.val) :
    queriesV x w a j = query x w a b h s l := by
  unfold queriesV
  rw [show j 0 = b from Fin.ext h0, show j 1 = h from Fin.ext h1, show j 2 = s from Fin.ext h2, show j 3 = l from Fin.ext h3]

/-- The queries' block at a grid point. -/
theorem heads_blk (c : Dev nD) (t : Fin cfg0.N) (b : Fin 1) (h : Fin 16) (r : Fin 512) (l : Fin 128) :
    out0_3 (F := Ideal) (iblk m c 0 t) (iblk m c 1 t) (iblk m c 2 t) (ix4 b h r l)
      = query (m ((c : Thread nD τ).loc main_arg0)) (m ((c : Thread nD τ).loc main_arg1)) (m ((c : Thread nD τ).loc main_arg2))
          ⟨t.val / 16, by have := points t; omega⟩ h ⟨512 * (t.val % 16) + r.val, by omega⟩ l := by
  refine (out3_eq _ _ _ _).trans ?_
  unfold headsG query
  by_cases hl : l.val < 64
  · rw [dif_pos (show ((ix4 b h r l) 3).val < 64 from hl), dif_pos hl]
    refine (scaled_apply _ _ _ r ⟨64 * h.val + l.val, by omega⟩).trans (congrArg (· * (Scalar.ofBits .f32 0x3E000000#32 : Ideal .f32)) ?_)
    refine (entry_blk m c t r _ (⟨8192 * (t.val / 16) + (512 * (t.val % 16) + r.val), by have := points t; omega⟩ : Fin 16384)
      (by show 8192 * (t.val / 16) + (512 * (t.val % 16) + r.val) = 512 * t.val + r.val; omega)).trans ?_
    exact congrArg _ (Fin.ext (Nat.zero_add _))
  · rw [dif_neg (show ¬ ((ix4 b h r l) 3).val < 64 from hl), dif_neg hl]
    exact blk2_apply m c t h l

theorem arr3 (c : Dev nD) : (dats m 0 c).arrAt 3 cfg0.N
    = queriesV (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨b, h, r, l, rfl⟩ : ∃ (b : Fin 1) (h : Fin 16) (r : Fin 512) (l : Fin 128), y = ix4 b h r l := ⟨y 0, y 1, y 2, y 3, by
    funext a; match a with | ⟨0, _⟩ => rfl | ⟨1, _⟩ => rfl | ⟨2, _⟩ => rfl | ⟨3, _⟩ => rfl⟩
  refine (heads_blk m c t b h r l).trans (queriesV_of _ _ _ _ _ _ _ _ ?_ ?_ ?_ ?_).symm
  · blk_simp [ind3]
  · blk_simp [ind3]
  · blk_simp [ind3]; show t.val % 16 * 512 + r.val = 512 * (t.val % 16) + r.val; omega
  · blk_simp [ind3]

/-- The kernel's run: the four results and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = queriesV (m ((c.tc : Thread nD τ).loc main_arg0)) (m ((c.tc : Thread nD τ).loc main_arg1)) (m ((c.tc : Thread nD τ).loc main_arg2))
      ∧ r.2.mem ((c.tc : Thread nD τ).loc main_v1_1) = keysV (m ((c.tc : Thread nD τ).loc main_arg0)) (m ((c.tc : Thread nD τ).loc main_arg1))
      ∧ r.2.mem ((c.tc : Thread nD τ).loc main_v1_2) = valuesV (m ((c.tc : Thread nD τ).loc main_arg0)) (m ((c.tc : Thread nD τ).loc main_arg1))
      ∧ r.2.mem ((c.tc : Thread nD τ).loc main_v1_3) = gateV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr3 m c), (h c).2.1.trans (arr4 m c), (h c).2.2.1.trans (arr5 m c),
    (h c).2.2.2.1.trans (arr6 m c), (h c).2.2.2.2⟩) (Value.run_blocks m ρ)

end Cert.Proj

end
-- ==== Proof.ProjRef.lean ====
/- The reference of the projection, at every index. -/
module

public import proofs.«01_k».proof.Proof.ProjValue
public import proofs.«01_k».proof.Proof.Gen.Reference2Ideal.Run
public import Idealize.ShloMosaic.Lib.ValueIdx
public import Idealize.ShloMosaic.Lib.ValueLayout
public import Idealize.ShloMosaic.Lib.Pipeline.ValueKit

@[expose] public section

noncomputable section

namespace Cert.Proj.Ref

open Cert.Reference2Ideal Cert.Reference2Ideal.Gen
open Idealize.ShloMosaic hiding ix1 ix2 ix3 ix4 ix5 ix6
open Idealize.ShloMosaic.TcCoe Idealize.ShloMosaic.ValueIdx Idealize.SL.Sem Finset

theorem dot_lhs (r : Fin 16384) (n : Fin 2560) (e : Fin 1024) :
    dot_S16384x1024_S1024x2560_S16384x2560_1_0_0_1_n_n.lhsIdx (ix2 r n)
      ((contrEquiv1 dot_S16384x1024_S1024x2560_S16384x2560_1_0_0_1_n_n 1024 rfl rfl).symm e) = ix2 r e := by
  funext a; match a with | ⟨0, _⟩ => rfl | ⟨1, _⟩ => rfl

theorem dot_rhs (r : Fin 16384) (n : Fin 2560) (e : Fin 1024) :
    dot_S16384x1024_S1024x2560_S16384x2560_1_0_0_1_n_n.rhsIdx (ix2 r n)
      ((contrEquiv1 dot_S16384x1024_S1024x2560_S16384x2560_1_0_0_1_n_n 1024 rfl rfl).symm e) = ix2 e n := by
  funext a; match a with | ⟨0, _⟩ => rfl | ⟨1, _⟩ => rfl

variable (x : FVec Ideal S16384x1024 .f32) (w : FVec Ideal S1024x2560 .f32) (a : FVec Ideal S16x128 .f32)

/-- The product of the rows and the weights. -/
def dotV : FVec Ideal S16384x2560 .f32 := Host.dotGeneral dot_S16384x1024_S1024x2560_S16384x2560_1_0_0_1_n_n none x w

theorem dotV_apply (r : Fin 16384) (n : Fin 2560) : dotV x w (ix2 r n) = entry x w r n := by
  show FloatOps.matmul (F := Ideal) _ none _ _ (fun _ => 0) (ix2 r n) = _
  rw [Ideal.matmul_apply]
  show (0 : EReal) + _ = _
  rw [zero_add, ← (contrEquiv1 dot_S16384x1024_S1024x2560_S16384x2560_1_0_0_1_n_n 1024 rfl rfl).symm.sum_comp]
  unfold entry prod
  refine Finset.sum_congr rfl fun e _ => ?_
  rw [dot_lhs, dot_rhs]

theorem keys_eq : extractStridedSlice S16384x256 ![0, 1024] (dotV x w) slices_S16384x2560_S16384x256_0_1024 = keysV x w := funext fun j => by
  have h : (j 1).val < 256 := (j 1).isLt
  refine (extractStridedSlice_apply _ _ _ j (ix2 (j 0) (⟨1024 + (j 1).val, by omega⟩ : Fin 2560)) fun a => ?_).trans (dotV_apply x w _ _)
  match a with
  | ⟨0, _⟩ => exact (Nat.zero_add _).symm
  | ⟨1, _⟩ => rfl

theorem values_eq : extractStridedSlice S16384x256 ![0, 1280] (dotV x w) slices_S16384x2560_S16384x256_0_1280 = valuesV x w := funext fun j => by
  have h : (j 1).val < 256 := (j 1).isLt
  refine (extractStridedSlice_apply _ _ _ j (ix2 (j 0) (⟨1280 + (j 1).val, by omega⟩ : Fin 2560)) fun a => ?_).trans (dotV_apply x w _ _)
  match a with
  | ⟨0, _⟩ => exact (Nat.zero_add _).symm
  | ⟨1, _⟩ => rfl

theorem gate_eq : extractStridedSlice S16384x1024 ![0, 1536] (dotV x w) slices_S16384x2560_S16384x1024_0_1536 = gateV x w := funext fun j => by
  have h : (j 1).val < 1024 := (j 1).isLt
  refine (extractStridedSlice_apply _ _ _ j (ix2 (j 0) (⟨1536 + (j 1).val, by omega⟩ : Fin 2560)) fun a => ?_).trans (dotV_apply x w _ _)
  match a with
  | ⟨0, _⟩ => exact (Nat.zero_add _).symm
  | ⟨1, _⟩ => rfl

/-- The queries by head, scaled. -/
def scaledV : FVec Ideal S2x16x8192x64 .f32 :=
  mulf (transpose S2x16x8192x64 [0, 2, 1, 3]
    (shapeCast S2x8192x16x64 (extractStridedSlice S16384x1024 ![0, 0] (dotV x w) slices_S16384x2560_S16384x1024_0_0) shapeCasts_S16384x1024_S2x8192x16x64)
    transposes_S2x8192x16x64_S2x16x8192x64_0_2_1_3) (broadcastInDim S2x16x8192x64 ![] bcast_S_S2x16x8192x64 (constant S_ .f32 0x3E000000#32))

theorem scaledV_apply (b : Fin 2) (h : Fin 16) (s : Fin 8192) (l : Fin 64) :
    scaledV x w (ix4 b h s l) = entry x w ⟨8192 * b.val + s.val, by omega⟩ ⟨64 * h.val + l.val, by omega⟩ * (Scalar.ofBits .f32 0x3E000000#32 : Ideal .f32) := by
  unfold scaledV
  refine Eq.trans (b := _ * (Scalar.ofBits .f32 0x3E000000#32 : Ideal .f32)) rfl ?_
  refine congrArg (· * (Scalar.ofBits .f32 0x3E000000#32 : Ideal .f32)) ?_
  rw [transpose_apply _ _ _ (ix4 b h s l) (ix4 b s h l) (fun a => by match a with | ⟨0, _⟩ => rfl | ⟨1, _⟩ => rfl | ⟨2, _⟩ => rfl | ⟨3, _⟩ => rfl),
    shapeCast_apply _ _ (ix4 b s h l) (ix2 (⟨8192 * b.val + s.val, by omega⟩ : Fin 16384) (⟨64 * h.val + l.val, by omega⟩ : Fin 1024)) (by
      rw [Shape.rowMajor_val_two, Shape.rowMajor_val_four]
      show (8192 * b.val + s.val) * 1024 + (64 * h.val + l.val) = ((b.val * 8192 + s.val) * 16 + h.val) * 64 + l.val
      omega)]
  refine (extractStridedSlice_apply _ _ _ _ (ix2 (⟨8192 * b.val + s.val, by omega⟩ : Fin 16384) (⟨64 * h.val + l.val, by omega⟩ : Fin 2560)) fun a => ?_).trans
    (dotV_apply x w _ _)
  match a with
  | ⟨0, _⟩ => exact (Nat.zero_add _).symm
  | ⟨1, _⟩ => exact (Nat.zero_add _).symm

/-- What stands beside them. -/
def besidesV : FVec Ideal S2x16x8192x64 .f32 :=
  broadcastInDim S2x16x8192x64 ![0, 1, 2, 3] bcast_S1x16x1x64_S2x16x8192x64_0_1_2_3
    (broadcastInDim S1x16x1x64 ![1, 3] bcast_S16x64_S1x16x1x64_1_3 (extractStridedSlice S16x64 ![0, 64] a slices_S16x128_S16x64_0_64))

theorem besidesV_apply (b : Fin 2) (h : Fin 16) (s : Fin 8192) (l : Fin 64) (l' : Fin 128) (hl : 64 + l.val = l'.val) :
    besidesV a (ix4 b h s l) = a (ix2 h l') := by
  unfold besidesV
  rw [broadcastInDim_apply _ _ _ _ (ix4 (0 : Fin 1) h (0 : Fin 1) l) (fun a => by match a with | ⟨0, _⟩ => rfl | ⟨1, _⟩ => rfl | ⟨2, _⟩ => rfl | ⟨3, _⟩ => rfl),
    broadcastInDim_apply _ _ _ _ (ix2 h l) (fun a => by match a with | ⟨0, _⟩ => rfl | ⟨1, _⟩ => rfl)]
  exact extractStridedSlice_apply _ _ _ _ (ix2 h l') fun a => by
    match a with
    | ⟨0, _⟩ => exact (Nat.zero_add _).symm
    | ⟨1, _⟩ => exact hl.symm

theorem queries_eq : truncf .bf16 (concatenate S2x16x8192x128 3 [⟨S2x16x8192x64, scaledV x w⟩, ⟨S2x16x8192x64, besidesV a⟩]
    concatenates_S2x16x8192x64_S2x16x8192x64_S2x16x8192x128_d3) bitsLt_bf16_f32 = queriesV x w a := funext fun j => by
  obtain ⟨b, h, s, l, rfl⟩ : ∃ (b : Fin 2) (h : Fin 16) (s : Fin 8192) (l : Fin 128), j = ix4 b h s l := ⟨j 0, j 1, j 2, j 3, by
    funext c; match c with | ⟨0, _⟩ => rfl | ⟨1, _⟩ => rfl | ⟨2, _⟩ => rfl | ⟨3, _⟩ => rfl⟩
  show concatenate S2x16x8192x128 3 [⟨S2x16x8192x64, scaledV x w⟩, ⟨S2x16x8192x64, besidesV a⟩]
    concatenates_S2x16x8192x64_S2x16x8192x64_S2x16x8192x128_d3 (ix4 b h s l) = query x w a b h s l
  have hl := l.isLt
  unfold query
  by_cases h1 : l.val < 64
  · rw [dif_pos h1]
    refine Eq.trans ?_ (scaledV_apply x w b h s ⟨l.val, h1⟩)
    exact concatenate_apply_piece (t := S2x16x8192x128) 3 _ _ _ 0 (by simp) S2x16x8192x64 (scaledV x w) rfl rfl 0 rfl _
      (fun a ha => by match a with | ⟨0, _⟩ => rfl | ⟨1, _⟩ => rfl | ⟨2, _⟩ => rfl | ⟨3, _⟩ => exact absurd rfl ha) (by show 0 + l.val = l.val; omega)
  · rw [dif_neg h1]
    refine Eq.trans ?_ (besidesV_apply a b h s (⟨l.val - 64, by omega⟩ : Fin 64) l (by show 64 + (l.val - 64) = l.val; omega))
    exact concatenate_apply_piece (t := S2x16x8192x128) 3 _ _ _ 1 (by simp) S2x16x8192x64 (besidesV a) rfl rfl 64 rfl _
      (fun a ha => by match a with | ⟨0, _⟩ => rfl | ⟨1, _⟩ => rfl | ⟨2, _⟩ => rfl | ⟨3, _⟩ => exact absurd rfl ha) (by show 64 + (l.val - 64) = l.val; omega)

/-- The reference's run: the four results and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = queriesV (m ((c.tc : Thread nD τ).loc main_arg0)) (m ((c.tc : Thread nD τ).loc main_arg1)) (m ((c.tc : Thread nD τ).loc main_arg2))
      ∧ r.2.mem ((c.tc : Thread nD τ).loc main_v2) = keysV (m ((c.tc : Thread nD τ).loc main_arg0)) (m ((c.tc : Thread nD τ).loc main_arg1))
      ∧ r.2.mem ((c.tc : Thread nD τ).loc main_v3) = valuesV (m ((c.tc : Thread nD τ).loc main_arg0)) (m ((c.tc : Thread nD τ).loc main_arg1))
      ∧ r.2.mem ((c.tc : Thread nD τ).loc main_v4) = gateV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (queries_eq _ _ _), (h c).2.1.trans (keys_eq _ _), (h c).2.2.1.trans (values_eq _ _),
    (h c).2.2.2.1.trans (gate_eq _ _), (h c).2.2.2.2⟩) (Cert.Reference2Ideal.Value.run (F := Ideal) m ρ)

end Cert.Proj.Ref

end
-- ==== Proof.PostValue.lean ====
/- The layer's last step as a function of its arguments, at every index: the gated attention through the output
   weights, added to the scaled input and normalised along the row. -/
module

public import proofs.«01_k».proof.Proof.ProjValue

@[expose] public section

noncomputable section

namespace Cert.Post

open Idealize.ShloMosaic Idealize.ShloMosaic.ValueIdx Finset

/-- The constants of the step: the weight of the input, the width of a row, and what is added to the variance. -/
def scaleC : EReal := (Scalar.ofBits .f32 0x3FD744FD#32 : Ideal .f32)
def widthC : EReal := (Scalar.ofBits .f32 0x44800000#32 : Ideal .f32)
def epsC : EReal := (Scalar.ofBits .f32 0x3727C5AC#32 : Ideal .f32)

/-- The mean of a row. -/
def mean (f : Fin 1024 → EReal) : EReal := Ideal.div (∑ n : Fin 1024, f n) widthC

/-- A row without its mean. -/
def centred (f : Fin 1024 → EReal) (n : Fin 1024) : EReal := f n - mean f

/-- A row normalised, with a gain and a shift. -/
def normed (f : Fin 1024 → EReal) (n : Fin 1024) (gain shift : EReal) : EReal :=
  centred f n * Ideal.rsqrt (mean (fun k => centred f k * centred f k) + epsC) * gain + shift

/-- The row that is normalised. -/
def hidden (o g x : Fin 1024 → EReal) (w : Fin 1024 → Fin 1024 → EReal) (n : Fin 1024) : EReal :=
  scaleC * x n + Cert.Proj.prod (fun e => o e * (g e * Ideal.logistic (g e))) (fun e => w e n)

abbrev Square : Type := (⟨2, ![1024, 1024]⟩ : Shape).Idx → EReal
abbrev Row : Type := (⟨1, ![1024]⟩ : Shape).Idx → EReal

/-- The whole result. -/
def postV (o g x : Cert.Proj.Rows) (w : Square) (gain shift : Row) : (⟨2, ![16384, 1024]⟩ : Shape).Idx → EReal := fun j =>
  normed (hidden (fun e => o (ix2 (j 0) e)) (fun e => g (ix2 (j 0) e)) (fun e => x (ix2 (j 0) e)) (fun e n => w (ix2 e n)))
    (j 1) (gain (ix1 (j 1))) (shift (ix1 (j 1)))

end Cert.Post

end
-- ==== Proof.PostBlock.lean ====
/- What the last step's call leaves in its result, at every index. -/
module

public import proofs.«01_k».proof.Proof.PostValue
public import proofs.«01_k».proof.Proof.Gen.Kernel3Ideal.Value
public import Idealize.ShloMosaic.Lib.Pipeline.ValueKit
public import Idealize.ShloMosaic.Lib.ValueLayout
public import Idealize.ShloMosaic.Lib.IdealHost

@[expose] public section

noncomputable section

namespace Cert.Post

open Cert.Kernel3Ideal Cert.Kernel3Ideal.Gen
open Idealize.ShloMosaic hiding ix1 ix2 ix3 ix4 ix5 ix6
open Idealize.ShloMosaic.TcCoe Idealize.ShloMosaic.ValueIdx Idealize.SL.Sem Finset

theorem dot_lhs (r : Fin 512) (n e : Fin 1024) :
    (dot_S512x1024_S1024x1024_S512x1024_1_0_0_1_n_n).lhsIdx (ix2 r n)
      ((contrEquiv1 dot_S512x1024_S1024x1024_S512x1024_1_0_0_1_n_n 1024 rfl rfl).symm e) = ix2 r e := by
  funext a; match a with | ⟨0, _⟩ => rfl | ⟨1, _⟩ => rfl

theorem dot_rhs (r : Fin 512) (n e : Fin 1024) :
    (dot_S512x1024_S1024x1024_S512x1024_1_0_0_1_n_n).rhsIdx (ix2 r n)
      ((contrEquiv1 dot_S512x1024_S1024x1024_S512x1024_1_0_0_1_n_n 1024 rfl rfl).symm e) = ix2 e n := by
  funext a; match a with | ⟨0, _⟩ => rfl | ⟨1, _⟩ => rfl

/-- The column of a block's row means. -/
def meanV (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32 : Ideal .f32))

theorem meanV_apply (v : FVec Ideal S512x1024 .f32) (r : Fin 512) (u : Fin 1) : meanV v (ix2 r u) = mean (fun n => v (ix2 r n)) := by
  show Ideal.div (shapeCast S512x1 (multiReduction .add [1] S512 v 0x00000000#32 reduces_S512x1024_S512 (.inl rfl) rfl) shapeCasts_S512_S512x1 (ix2 r u)) widthC = _
  unfold mean
  refine congrArg (Ideal.div · widthC) ?_
  rw [shapeCast_apply _ _ (ix2 r u) (ix1 r) (by
    rw [Shape.rowMajor_val_one, Shape.rowMajor_val_two]
    show r.val = r.val * 1 + u.val
    omega)]
  refine (Ideal.multiReduction_add_single _ _ _ _ _ _).trans ?_
  refine Finset.sum_congr rfl fun n _ => congrArg v ?_
  funext a; match a with | ⟨0, _⟩ => rfl | ⟨1, _⟩ => rfl

/-- A column along the rows. -/
theorem along_apply (v : FVec Ideal S512x1 .f32) (r : Fin 512) (n : Fin 1024) :
    broadcastTo S512x1024 v broadcasts_S512x1_S512x1024 (ix2 r n) = v (ix2 r (0 : Fin 1)) :=
  broadcastTo_apply _ _ (ix2 r n) (ix2 r (0 : Fin 1)) fun a => by match a with | ⟨0, _⟩ => rfl | ⟨1, _⟩ => rfl

theorem down_apply (v : FVec Ideal S1x1024 .f32) (r : Fin 512) (n : Fin 1024) :
    broadcastTo S512x1024 (shapeCast S1x1024 v shapeCasts_S1x1024_S1x1024) broadcasts_S1x1024_S512x1024 (ix2 r n) = v (ix2 (0 : Fin 1) n) :=
  (broadcastTo_apply _ _ (ix2 r n) (ix2 (0 : Fin 1) n) fun a => by match a with | ⟨0, _⟩ => rfl | ⟨1, _⟩ => rfl).trans (shapeCast_apply _ _ _ _ rfl)

def centredV (v : FVec Ideal S512x1024 .f32) : FVec Ideal S512x1024 .f32 := subf v (broadcastTo S512x1024 (meanV v) broadcasts_S512x1_S512x1024)

theorem centredV_apply (v : FVec Ideal S512x1024 .f32) (r : Fin 512) (n : Fin 1024) : centredV v (ix2 r n) = centred (fun k => v (ix2 r k)) n :=
  congrArg (v (ix2 r n) - ·) ((along_apply _ r n).trans (meanV_apply v r 0))

def normedV (v : FVec Ideal S512x1024 .f32) (gain shift : FVec Ideal S1x1024 .f32) : FVec Ideal S512x1024 .f32 :=
  addf (mulf (mulf (centredV v) (broadcastTo S512x1024 (rsqrt (addf (meanV (mulf (centredV v) (centredV v)))
      (broadcast S512x1 (Scalar.ofBits .f32 0x3727C5AC#32 : Ideal .f32)))) broadcasts_S512x1_S512x1024))
    (broadcastTo S512x1024 (shapeCast S1x1024 gain shapeCasts_S1x1024_S1x1024) broadcasts_S1x1024_S512x1024))
    (broadcastTo S512x1024 (shapeCast S1x1024 shift shapeCasts_S1x1024_S1x1024) broadcasts_S1x1024_S512x1024)

theorem normedV_apply (v : FVec Ideal S512x1024 .f32) (gain shift : FVec Ideal S1x1024 .f32) (r : Fin 512) (n : Fin 1024) :
    normedV v gain shift (ix2 r n) = normed (fun k => v (ix2 r k)) n (gain (ix2 (0 : Fin 1) n)) (shift (ix2 (0 : Fin 1) n)) := by
  have hr : broadcastTo S512x1024 (rsqrt (addf (meanV (mulf (centredV v) (centredV v)))
      (broadcast S512x1 (Scalar.ofBits .f32 0x3727C5AC#32 : Ideal .f32)))) broadcasts_S512x1_S512x1024 (ix2 r n)
      = Ideal.rsqrt (mean (fun k => centred (fun k => v (ix2 r k)) k * centred (fun k => v (ix2 r k)) k) + epsC) := by
    refine (along_apply _ r n).trans (congrArg (fun z => Ideal.rsqrt (z + epsC)) ?_)
    refine (meanV_apply _ r 0).trans (congrArg mean (funext fun k => ?_))
    exact congrArg₂ (· * ·) (centredV_apply v r k) (centredV_apply v r k)
  show centredV v (ix2 r n) * _ * _ + _ = _
  rw [hr, centredV_apply, down_apply, down_apply]
  rfl

/-- The block that is normalised. -/
def hiddenV (o g x : FVec Ideal S512x1024 .f32) (w : FVec Ideal S1024x1024 .bf16) : FVec Ideal S512x1024 .f32 :=
  addf (mulf (broadcast S512x1024 (Scalar.ofBits .f32 0x3FD744FD#32 : Ideal .f32)) x)
    (matmul dot_S512x1024_S1024x1024_S512x1024_1_0_0_1_n_n none (truncf .bf16 (mulf o (mulf g (logistic g))) bitsLt_bf16_f32)
      (shapeCast S1024x1024 w shapeCasts_S1024x1024_S1024x1024) (constant S512x1024 .f32 0x00000000#32))

theorem hiddenV_apply (o g x : FVec Ideal S512x1024 .f32) (w : FVec Ideal S1024x1024 .bf16) (r : Fin 512) (n : Fin 1024) :
    hiddenV o g x w (ix2 r n) = hidden (fun e => o (ix2 r e)) (fun e => g (ix2 r e)) (fun e => x (ix2 r e)) (fun e n => w (ix2 e n)) n := by
  refine congrArg (scaleC * x (ix2 r n) + ·) ((Ideal.matmul_apply ..).trans ?_)
  rw [show (constant S512x1024 .f32 0x00000000#32 : FVec Ideal S512x1024 .f32) (ix2 r n) = 0 from Ideal.ofBits_zero_f32, zero_add,
    ← (contrEquiv1 dot_S512x1024_S1024x1024_S512x1024_1_0_0_1_n_n 1024 rfl rfl).symm.sum_comp]
  unfold Cert.Proj.prod
  refine Finset.sum_congr rfl fun e _ => ?_
  rw [dot_lhs, dot_rhs, shapeCast_apply _ _ (ix2 e n) (ix2 e n) rfl]
  rfl

/-- A block read whole. -/
theorem whole_ld (v : FVec Ideal S512x1024 .f32) : View.ld (Val := Elt Ideal) (e' := .f32) v r0_0 = v :=
  funext fun j => congrArg v (funext fun a => Fin.ext (by
    match a with
    | ⟨0, _⟩ => show 0 + 1 * (j 0).val = (j 0).val; omega
    | ⟨1, _⟩ => show 0 + 1 * (j 1).val = (j 1).val; omega))

theorem square_ld (v : FVec Ideal S1024x1024 .bf16) : View.ld (Val := Elt Ideal) (e' := .bf16) v r0_1 = v :=
  funext fun j => congrArg v (funext fun a => Fin.ext (by
    match a with
    | ⟨0, _⟩ => show 0 + 1 * (j 0).val = (j 0).val; omega
    | ⟨1, _⟩ => show 0 + 1 * (j 1).val = (j 1).val; omega))

theorem row_ld (v : FVec Ideal S1x1024 .f32) : View.ld (Val := Elt Ideal) (e' := .f32) v r0_2 = v :=
  funext fun j => congrArg v (funext fun a => Fin.ext (by
    match a with
    | ⟨0, _⟩ => show 0 + 1 * (j 0).val = (j 0).val; omega
    | ⟨1, _⟩ => show 0 + 1 * (j 1).val = (j 1).val; omega))

theorem out_eq (o g x : FVec Ideal S512x1024 .f32) (w : FVec Ideal S1024x1024 .bf16) (gain shift : FVec Ideal S1x1024 .f32) :
    out0_6 (F := Ideal) o g x w gain shift = normedV (hiddenV o g x w) gain shift := by
  unfold out0_6
  rw [View.canon_unit_zero (by funext a; match a with | ⟨0, _⟩ => rfl | ⟨1, _⟩ => rfl), whole_ld, whole_ld, whole_ld, square_ld, row_ld, row_ld]
  rfl

variable (m : (ℓ : Loc nD τ sig) → Buf (Elt Ideal) ℓ)

theorem ind0 : ∀ t : Fin cfg0.N, win0_0.index t = ![t.val, 0] := by decide +kernel
theorem ind1 : ∀ t : Fin cfg0.N, win0_1.index t = ![t.val, 0] := by decide +kernel
theorem ind2 : ∀ t : Fin cfg0.N, win0_2.index t = ![t.val, 0] := by decide +kernel
theorem ind3 : ∀ t : Fin cfg0.N, win0_3.index t = ![0, 0] := by decide +kernel
theorem ind4 : ∀ t : Fin cfg0.N, win0_4.index t = ![0, 0] := by decide +kernel
theorem ind5 : ∀ t : Fin cfg0.N, win0_5.index t = ![0, 0] := by decide +kernel
theorem ind6 : ∀ t : Fin cfg0.N, win0_6.index t = ![t.val, 0] := by decide +kernel

theorem points (t : Fin cfg0.N) : t.val < 32 := t.isLt

/-- The row of the arrays at a row of a grid point's block. -/
def rowAt (t : Fin cfg0.N) (r : Fin 512) : Fin 16384 := ⟨512 * t.val + r.val, by have := points t; omega⟩

theorem V_weights (c : Dev nD) : V m c main_v0 = (truncf .bf16 (m ((c : Thread nD τ).loc main_arg3)) bitsLt_bf16_f32 : FVec Ideal S1024x1024 .bf16) := by
  simp only [V, hostOps0]
  after_results_simp

theorem V_gain (c : Dev nD) : V m c main_v1 = shapeCast S1x1024 (m ((c : Thread nD τ).loc main_arg4)) shapeCasts_S1024_S1x1024 := by
  simp only [V, hostOps0]
  after_results_simp
  all_goals rfl

theorem V_shift (c : Dev nD) : V m c main_v2 = shapeCast S1x1024 (m ((c : Thread nD τ).loc main_arg5)) shapeCasts_S1024_S1x1024 := by
  simp only [V, hostOps0]
  after_results_simp
  all_goals rfl

theorem blk0_apply (c : Dev nD) (t : Fin cfg0.N) (r : Fin 512) (e : Fin 1024) :
    iblk m c 0 t (ix2 r e) = m ((c : Thread nD τ).loc main_arg0) (ix2 (rowAt t r) e) := by
  blk_simp [iblk]
  refine (congrFun (V_main_arg0 m c) _).trans (congrArg _ ?_)
  funext a; apply Fin.ext
  match a with
  | ⟨0, _⟩ => blk_simp [ind0]; show t.val * 512 + r.val = 512 * t.val + r.val; omega
  | ⟨1, _⟩ => blk_simp [ind0]

theorem blk1_apply (c : Dev nD) (t : Fin cfg0.N) (r : Fin 512) (e : Fin 1024) :
    iblk m c 1 t (ix2 r e) = m ((c : Thread nD τ).loc main_arg1) (ix2 (rowAt t r) e) := by
  blk_simp [iblk]
  refine (congrFun (V_main_arg1 m c) _).trans (congrArg _ ?_)
  funext a; apply Fin.ext
  match a with
  | ⟨0, _⟩ => blk_simp [ind1]; show t.val * 512 + r.val = 512 * t.val + r.val; omega
  | ⟨1, _⟩ => blk_simp [ind1]

theorem blk2_apply (c : Dev nD) (t : Fin cfg0.N) (r : Fin 512) (e : Fin 1024) :
    iblk m c 2 t (ix2 r e) = m ((c : Thread nD τ).loc main_arg2) (ix2 (rowAt t r) e) := by
  blk_simp [iblk]
  refine (congrFun (V_main_arg2 m c) _).trans (congrArg _ ?_)
  funext a; apply Fin.ext
  match a with
  | ⟨0, _⟩ => blk_simp [ind2]; show t.val * 512 + r.val = 512 * t.val + r.val; omega
  | ⟨1, _⟩ => blk_simp [ind2]

theorem blk3_apply (c : Dev nD) (t : Fin cfg0.N) (e n : Fin 1024) :
    iblk m c 3 t (ix2 e n) = m ((c : Thread nD τ).loc main_arg3) (ix2 e n) := by
  blk_simp [iblk]
  refine (congrFun (V_weights m c) _).trans ?_
  show m ((c : Thread nD τ).loc main_arg3) _ = _
  refine congrArg _ ?_
  funext a; apply Fin.ext
  match a with
  | ⟨0, _⟩ => blk_simp [ind3]
  | ⟨1, _⟩ => blk_simp [ind3]

theorem blk4_apply (c : Dev nD) (t : Fin cfg0.N) (n : Fin 1024) :
    iblk m c 4 t (ix2 (0 : Fin 1) n) = m ((c : Thread nD τ).loc main_arg4) (ix1 n) := by
  blk_simp [iblk]
  refine (congrFun (V_gain m c) _).trans ((congrArg _ (?_ : _ = ix2 (0 : Fin 1) n)).trans
    (shapeCast_apply _ _ (ix2 (0 : Fin 1) n) (ix1 n) (by
      rw [Shape.rowMajor_val_one, Shape.rowMajor_val_two]
      show n.val = 0 * 1024 + n.val
      omega)))
  funext a; apply Fin.ext
  match a with
  | ⟨0, _⟩ => blk_simp [ind4]
  | ⟨1, _⟩ => blk_simp [ind4]

theorem blk5_apply (c : Dev nD) (t : Fin cfg0.N) (n : Fin 1024) :
    iblk m c 5 t (ix2 (0 : Fin 1) n) = m ((c : Thread nD τ).loc main_arg5) (ix1 n) := by
  blk_simp [iblk]
  refine (congrFun (V_shift m c) _).trans ((congrArg _ (?_ : _ = ix2 (0 : Fin 1) n)).trans
    (shapeCast_apply _ _ (ix2 (0 : Fin 1) n) (ix1 n) (by
      rw [Shape.rowMajor_val_one, Shape.rowMajor_val_two]
      show n.val = 0 * 1024 + n.val
      omega)))
  funext a; apply Fin.ext
  match a with
  | ⟨0, _⟩ => blk_simp [ind5]
  | ⟨1, _⟩ => blk_simp [ind5]

theorem out_blk (c : Dev nD) (t : Fin cfg0.N) (r : Fin 512) (n : Fin 1024) :
    out0_6 (F := Ideal) (iblk m c 0 t) (iblk m c 1 t) (iblk m c 2 t) (iblk m c 3 t) (iblk m c 4 t) (iblk m c 5 t) (ix2 r n)
      = postV (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 (rowAt t r) n) := by
  refine (congrFun (out_eq _ _ _ _ _ _) _).trans ((normedV_apply _ _ _ r n).trans ?_)
  have hh : (fun k => hiddenV (iblk m c 0 t) (iblk m c 1 t) (iblk m c 2 t) (iblk m c 3 t) (ix2 r k))
      = hidden (fun e => m ((c : Thread nD τ).loc main_arg0) (ix2 (rowAt t r) e)) (fun e => m ((c : Thread nD τ).loc main_arg1) (ix2 (rowAt t r) e))
          (fun e => m ((c : Thread nD τ).loc main_arg2) (ix2 (rowAt t r) e)) (fun e n => m ((c : Thread nD τ).loc main_arg3) (ix2 e n)) := funext fun k => by
    refine (hiddenV_apply _ _ _ _ r k).trans ?_
    simp only [blk0_apply, blk1_apply, blk2_apply, blk3_apply]
  rw [hh, blk4_apply, blk5_apply]
  rfl

theorem arr6 (c : Dev nD) : (dats m 0 c).arrAt 6 cfg0.N
    = postV (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  obtain ⟨r, n, rfl⟩ : ∃ (r : Fin 512) (n : Fin 1024), y = ix2 r n := ⟨y 0, y 1, by funext a; match a with | ⟨0, _⟩ => rfl | ⟨1, _⟩ => rfl⟩
  refine (out_blk m c t r n).trans (congrArg _ ?_)
  funext a; apply Fin.ext
  match a with
  | ⟨0, _⟩ => blk_simp [ind6]; show 512 * t.val + r.val = t.val * 512 + r.val; omega
  | ⟨1, _⟩ => blk_simp [ind6]

/-- The kernel's run: the result and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v3) = postV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (arr6 m c), (h c).2⟩) (Value.run_blocks m ρ)

end Cert.Post

end
-- ==== Proof.PostRef.lean ====
/- The reference of the last step, at every index. -/
module

public import proofs.«01_k».proof.Proof.PostValue
public import proofs.«01_k».proof.Proof.Gen.Reference3Ideal.Run
public import Idealize.ShloMosaic.Lib.Pipeline.ValueKit
public import Idealize.ShloMosaic.Lib.ValueLayout
public import Idealize.ShloMosaic.Lib.IdealHost

@[expose] public section

noncomputable section

namespace Cert.Post.Ref

open Cert.Reference3Ideal Cert.Reference3Ideal.Gen
open Idealize.ShloMosaic hiding ix1 ix2 ix3 ix4 ix5 ix6
open Idealize.ShloMosaic.TcCoe Idealize.ShloMosaic.ValueIdx Idealize.SL.Sem Finset

theorem dot_lhs (r : Fin 16384) (n e : Fin 1024) :
    dot_S16384x1024_S1024x1024_S16384x1024_1_0_0_1_n_n.lhsIdx (ix2 r n)
      ((contrEquiv1 dot_S16384x1024_S1024x1024_S16384x1024_1_0_0_1_n_n 1024 rfl rfl).symm e) = ix2 r e := by
  funext a; match a with | ⟨0, _⟩ => rfl | ⟨1, _⟩ => rfl

theorem dot_rhs (r : Fin 16384) (n e : Fin 1024) :
    dot_S16384x1024_S1024x1024_S16384x1024_1_0_0_1_n_n.rhsIdx (ix2 r n)
      ((contrEquiv1 dot_S16384x1024_S1024x1024_S16384x1024_1_0_0_1_n_n 1024 rfl rfl).symm e) = ix2 e n := by
  funext a; match a with | ⟨0, _⟩ => rfl | ⟨1, _⟩ => rfl

/-- The logistic function in the reference's words. -/
def gateV (g : FVec Ideal S16384x1024 .f32) : FVec Ideal S16384x1024 .f32 :=
  mulf g (Host.divf (broadcastInDim S16384x1024 ![] bcast_S_S16384x1024 (constant S_ .f32 0x3F800000#32))
    (addf (broadcastInDim S16384x1024 ![] bcast_S_S16384x1024 (constant S_ .f32 0x3F800000#32)) (Host.exp (Host.negf g))))

theorem gateV_apply (g : FVec Ideal S16384x1024 .f32) (j : S16384x1024.Idx) : gateV g j = g j * Ideal.logistic (g j) := by
  show g j * Ideal.div (Ideal.ofBits .f32 0x3F800000#32) (Ideal.ofBits .f32 0x3F800000#32 + Ideal.exp (-(g j))) = _
  rw [Ideal.ofBits_one_f32]
  rfl

/-- The rows that are normalised. -/
def hiddenV (o g x : FVec Ideal S16384x1024 .f32) (w : FVec Ideal S1024x1024 .f32) : FVec Ideal S16384x1024 .f32 :=
  addf (mulf (broadcastInDim S16384x1024 ![] bcast_S_S16384x1024 (constant S_ .f32 0x3FD744FD#32)) x)
    (Host.dotGeneral dot_S16384x1024_S1024x1024_S16384x1024_1_0_0_1_n_n none (mulf o (gateV g)) w)

theorem hiddenV_apply (o g x : FVec Ideal S16384x1024 .f32) (w : FVec Ideal S1024x1024 .f32) (r : Fin 16384) (n : Fin 1024) :
    hiddenV o g x w (ix2 r n) = hidden (fun e => o (ix2 r e)) (fun e => g (ix2 r e)) (fun e => x (ix2 r e)) (fun e n => w (ix2 e n)) n := by
  refine congrArg (scaleC * x (ix2 r n) + ·) ?_
  show FloatOps.matmul (F := Ideal) dot_S16384x1024_S1024x1024_S16384x1024_1_0_0_1_n_n none _ _ (fun _ => 0) (ix2 r n) = _
  rw [Ideal.matmul_apply]
  show (0 : EReal) + _ = _
  rw [zero_add, ← (contrEquiv1 dot_S16384x1024_S1024x1024_S16384x1024_1_0_0_1_n_n 1024 rfl rfl).symm.sum_comp]
  unfold Cert.Proj.prod
  refine Finset.sum_congr rfl fun e _ => ?_
  rw [dot_lhs, dot_rhs]
  exact congrArg (fun z => o (ix2 r e) * z * w (ix2 e n)) (gateV_apply g (ix2 r e))

/-- The column of the row means. -/
def meanV (v : FVec Ideal S16384x1024 .f32) : FVec Ideal S16384x1 .f32 :=
  Host.divf (broadcastInDim S16384x1 ![0] bcast_S16384_S16384x1_0
    (Host.reduceAdd v (constant S_ .f32 0x00000000#32) reducesTo_S16384x1024_S16384_d1 h_S_))
    (broadcastInDim S16384x1 ![] bcast_S_S16384x1 (constant S_ .f32 0x44800000#32))

theorem meanV_apply (v : FVec Ideal S16384x1024 .f32) (r : Fin 16384) (u : Fin 1) : meanV v (ix2 r u) = mean (fun n => v (ix2 r n)) := by
  show Ideal.div (broadcastInDim S16384x1 ![0] bcast_S16384_S16384x1_0
    (Host.reduceAdd v (constant S_ .f32 0x00000000#32) reducesTo_S16384x1024_S16384_d1 h_S_) (ix2 r u)) widthC = _
  unfold mean
  refine congrArg (Ideal.div · widthC) ?_
  rw [broadcastInDim_apply _ _ _ _ (ix1 r) (fun a => by match a with | ⟨0, _⟩ => rfl), hostReduceAdd_apply,
    Ideal.hostReduceAdd_single _ (by decide : S16384x1024.Reduces [1] S16384)]
  refine (congrArg (· + _) Ideal.ofBits_zero_f32).trans ((zero_add _).trans ?_)
  refine Finset.sum_congr rfl fun n _ => congrArg v ?_
  funext a; match a with | ⟨0, _⟩ => rfl | ⟨1, _⟩ => rfl

theorem along_apply (v : FVec Ideal S16384x1 .f32) (r : Fin 16384) (n : Fin 1024) :
    broadcastInDim S16384x1024 ![0, 1] bcast_S16384x1_S16384x1024_0_1 v (ix2 r n) = v (ix2 r (0 : Fin 1)) :=
  broadcastInDim_apply _ _ _ _ (ix2 r (0 : Fin 1)) fun a => by match a with | ⟨0, _⟩ => rfl | ⟨1, _⟩ => rfl

theorem down_apply (v : FVec Ideal S1024 .f32) (r : Fin 16384) (n : Fin 1024) :
    broadcastInDim S16384x1024 ![0, 1] bcast_S1x1024_S16384x1024_0_1 (broadcastInDim S1x1024 ![1] bcast_S1024_S1x1024_1 v) (ix2 r n) = v (ix1 n) :=
  (broadcastInDim_apply _ _ _ _ (ix2 (0 : Fin 1) n) fun a => by match a with | ⟨0, _⟩ => rfl | ⟨1, _⟩ => rfl).trans
    (broadcastInDim_apply _ _ _ _ (ix1 n) fun a => by match a with | ⟨0, _⟩ => rfl)

def centredV (v : FVec Ideal S16384x1024 .f32) : FVec Ideal S16384x1024 .f32 :=
  subf v (broadcastInDim S16384x1024 ![0, 1] bcast_S16384x1_S16384x1024_0_1 (meanV v))

theorem centredV_apply (v : FVec Ideal S16384x1024 .f32) (r : Fin 16384) (n : Fin 1024) : centredV v (ix2 r n) = centred (fun k => v (ix2 r k)) n :=
  congrArg (v (ix2 r n) - ·) ((along_apply _ r n).trans (meanV_apply v r 0))

def normedV (v : FVec Ideal S16384x1024 .f32) (gain shift : FVec Ideal S1024 .f32) : FVec Ideal S16384x1024 .f32 :=
  addf (mulf (mulf (centredV v) (broadcastInDim S16384x1024 ![0, 1] bcast_S16384x1_S16384x1024_0_1
      (Host.rsqrt (addf (meanV (mulf (centredV v) (centredV v))) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 gain)))
    (broadcastInDim S16384x1024 ![0, 1] bcast_S1x1024_S16384x1024_0_1 (broadcastInDim S1x1024 ![1] bcast_S1024_S1x1024_1 shift))

theorem normedV_apply (v : FVec Ideal S16384x1024 .f32) (gain shift : FVec Ideal S1024 .f32) (r : Fin 16384) (n : Fin 1024) :
    normedV v gain shift (ix2 r n) = normed (fun k => v (ix2 r k)) n (gain (ix1 n)) (shift (ix1 n)) := by
  have hr : broadcastInDim S16384x1024 ![0, 1] bcast_S16384x1_S16384x1024_0_1
      (Host.rsqrt (addf (meanV (mulf (centredV v) (centredV v))) (broadcastInDim S16384x1 ![] bcast_S_S16384x1 (constant S_ .f32 0x3727C5AC#32)))) (ix2 r n)
      = Ideal.rsqrt (mean (fun k => centred (fun k => v (ix2 r k)) k * centred (fun k => v (ix2 r k)) k) + epsC) := by
    refine (along_apply _ r n).trans (congrArg (fun z => Ideal.rsqrt (z + epsC)) ?_)
    refine (meanV_apply _ r 0).trans (congrArg mean (funext fun k => ?_))
    exact congrArg₂ (· * ·) (centredV_apply v r k) (centredV_apply v r k)
  show centredV v (ix2 r n) * _ * _ + _ = _
  rw [hr, centredV_apply, down_apply, down_apply]
  rfl

theorem all_eq (o g x : FVec Ideal S16384x1024 .f32) (w : FVec Ideal S1024x1024 .f32) (gain shift : FVec Ideal S1024 .f32) :
    normedV (hiddenV o g x w) gain shift = postV o g x w gain shift := funext fun j => by
  obtain ⟨r, n, rfl⟩ : ∃ (r : Fin 16384) (n : Fin 1024), j = ix2 r n := ⟨j 0, j 1, by funext a; match a with | ⟨0, _⟩ => rfl | ⟨1, _⟩ => rfl⟩
  refine (normedV_apply _ _ _ r n).trans ?_
  simp only [hiddenV_apply]
  rfl

/-- The reference's run: the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v29) = postV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans ((show Value.res_main_v29 m c = normedV (hiddenV _ _ _ _) _ _ from rfl).trans (all_eq _ _ _ _ _ _)), (h c).2⟩)
    (Cert.Reference3Ideal.Value.run (F := Ideal) m ρ)

end Cert.Post.Ref

end
-- ==== Proof.KvValue.lean ====
/- The shared keys and values as functions of their arguments, at every index: the products of the rows with the
   weights, the keys turned by the angle of their position. -/
module

public import proofs.«01_k».proof.Proof.ProjValue

@[expose] public section

noncomputable section

namespace Cert.Kv

open Idealize.ShloMosaic Idealize.ShloMosaic.ValueIdx Finset

abbrev Rows : Type := (⟨2, ![16384, 1024]⟩ : Shape).Idx → EReal
abbrev Weights : Type := (⟨2, ![1024, 512]⟩ : Shape).Idx → EReal
abbrev Angles : Type := (⟨2, ![8192, 32]⟩ : Shape).Idx → EReal

/-- A row's position in its sequence. -/
def spot (R : Fin 16384) : Fin 8192 := ⟨R.val % 8192, by omega⟩

/-- The angle that turns a column. -/
def lane {d : ℕ} (n : Fin d) : Fin 32 := ⟨n.val % 32, by omega⟩

/-- A product of a row and a column of the weights. -/
def entry (x : Rows) (w : Weights) (R : Fin 16384) (n : Fin 512) : EReal :=
  Cert.Proj.prod (fun e => x (ix2 R e)) (fun e => w (ix2 e n))

/-- A key, turned: `C` and `S` are the cosines and the sines by position and lane. -/
def key (x : Rows) (w : Weights) (C S : Angles) (R : Fin 16384) (n : Fin 256) : EReal :=
  if n.val % 64 < 32 then
    entry x w R ⟨n.val, by omega⟩ * C (ix2 (spot R) (lane n)) - entry x w R ⟨n.val + 32, by omega⟩ * S (ix2 (spot R) (lane n))
  else
    entry x w R ⟨n.val, by omega⟩ * C (ix2 (spot R) (lane n)) + entry x w R ⟨n.val - 32, by omega⟩ * S (ix2 (spot R) (lane n))

def keysV (x : Rows) (w : Weights) (C S : Angles) : (⟨2, ![16384, 256]⟩ : Shape).Idx → EReal := fun j => key x w C S (j 0) (j 1)

def valuesV (x : Rows) (w : Weights) : (⟨2, ![16384, 256]⟩ : Shape).Idx → EReal := fun j =>
  entry x w (j 0) ⟨256 + (j 1).val, by have := (j 1).isLt; change (j 1).val < 256 at this; omega⟩

/-- The product with a negated column of reals is the negated product. -/
theorem prod_neg (x w : Fin 1024 → EReal) (hx : ∀ e, ∃ y : ℝ, x e = (y : EReal)) (hw : ∀ e, ∃ y : ℝ, w e = (y : EReal)) :
    Cert.Proj.prod x (fun e => -w e) = -Cert.Proj.prod x w := by
  obtain ⟨a, ha⟩ := Classical.skolem.1 hx
  obtain ⟨b, hb⟩ := Classical.skolem.1 hw
  have h : ∀ f : Fin 1024 → ℝ, ∑ e, ((f e : ℝ) : EReal) = ((∑ e, f e : ℝ) : EReal) := fun f =>
    (map_sum (⟨⟨Real.toEReal, EReal.coe_zero⟩, EReal.coe_add⟩ : ℝ →+ EReal) f _).symm
  unfold Cert.Proj.prod
  simp only [ha, hb, ← EReal.coe_neg, ← EReal.coe_mul, h]
  simp only [mul_neg, Finset.sum_neg_distrib]

end Cert.Kv

end
-- ==== Proof.KvBlock.lean ====
/- What the shared keys' and values' call leaves in its results, at every index. -/
module

public import proofs.«01_k».proof.Proof.KvValue
public import proofs.«01_k».proof.Proof.Gen.Kernel4Ideal.Value
public import Idealize.ShloMosaic.Lib.Pipeline.ValueKit
public import Idealize.ShloMosaic.Lib.ValueLayout
public import Idealize.ShloMosaic.Lib.IdealHost

@[expose] public section

noncomputable section

namespace Cert.Kv

open Cert.Kernel4Ideal Cert.Kernel4Ideal.Gen
open Idealize.ShloMosaic hiding ix1 ix2 ix3 ix4 ix5 ix6
open Idealize.ShloMosaic.TcCoe Idealize.ShloMosaic.ValueIdx Idealize.SL.Sem Finset

theorem dot_lhs (r : Fin 512) (n : Fin 256) (e : Fin 1024) :
    (dot_S512x1024_S1024x256_S512x256_1_0_0_1_n_n).lhsIdx (ix2 r n)
      ((contrEquiv1 dot_S512x1024_S1024x256_S512x256_1_0_0_1_n_n 1024 rfl rfl).symm e) = ix2 r e := by
  funext a; match a with | ⟨0, _⟩ => rfl | ⟨1, _⟩ => rfl

theorem dot_rhs (r : Fin 512) (n : Fin 256) (e : Fin 1024) :
    (dot_S512x1024_S1024x256_S512x256_1_0_0_1_n_n).rhsIdx (ix2 r n)
      ((contrEquiv1 dot_S512x1024_S1024x256_S512x256_1_0_0_1_n_n 1024 rfl rfl).symm e) = ix2 e n := by
  funext a; match a with | ⟨0, _⟩ => rfl | ⟨1, _⟩ => rfl

/-- The product of a block of rows with a group of columns. -/
def dotV (x : FVec Ideal S512x1024 .f32) (w : FVec Ideal S1024x256 .bf16) : FVec Ideal S512x256 .f32 :=
  matmul dot_S512x1024_S1024x256_S512x256_1_0_0_1_n_n none (truncf .bf16 x bitsLt_bf16_f32)
    (shapeCast S1024x256 w shapeCasts_S1024x256_S1024x256) (constant S512x256 .f32 0x00000000#32)

theorem dotV_apply (x : FVec Ideal S512x1024 .f32) (w : FVec Ideal S1024x256 .bf16) (r : Fin 512) (n : Fin 256) :
    dotV x w (ix2 r n) = Cert.Proj.prod (fun e => x (ix2 r e)) (fun e => w (ix2 e n)) := by
  refine (Ideal.matmul_apply ..).trans ?_
  rw [show (constant S512x256 .f32 0x00000000#32 : FVec Ideal S512x256 .f32) (ix2 r n) = 0 from Ideal.ofBits_zero_f32, zero_add,
    ← (contrEquiv1 dot_S512x1024_S1024x256_S512x256_1_0_0_1_n_n 1024 rfl rfl).symm.sum_comp]
  unfold Cert.Proj.prod
  refine Finset.sum_congr rfl fun e _ => ?_
  rw [dot_lhs, dot_rhs, shapeCast_apply _ _ (ix2 e n) (ix2 e n) rfl]
  rfl

/-- A table of 128 lanes, twice. -/
def twiceV (v : FVec Ideal S512x128 .f32) : FVec Ideal S512x256 .f32 :=
  concatenate S512x256 1 [⟨S512x128, shapeCast S512x128 v shapeCasts_S512x128_S512x128⟩, ⟨S512x128, shapeCast S512x128 v shapeCasts_S512x128_S512x128⟩]
    concatenates_S512x128_S512x128_S512x256_d1

theorem twiceV_apply (v : FVec Ideal S512x128 .f32) (r : Fin 512) (n : Fin 256) :
    twiceV v (ix2 r n) = v (ix2 r (⟨n.val % 128, by omega⟩ : Fin 128)) := by
  refine Eq.trans ?_ (shapeCast_apply v shapeCasts_S512x128_S512x128 (ix2 r (⟨n.val % 128, by omega⟩ : Fin 128)) _ rfl)
  unfold twiceV
  by_cases h : n.val < 128
  · exact concatenate_apply_piece (t := S512x256) 1 _ _ _ 0 (by simp) S512x128 (shapeCast S512x128 v shapeCasts_S512x128_S512x128) rfl rfl 0 rfl _
      (fun a ha => by match a with | ⟨0, _⟩ => rfl | ⟨1, _⟩ => exact absurd rfl ha) (by show 0 + n.val % 128 = n.val; omega)
  · exact concatenate_apply_piece (t := S512x256) 1 _ _ _ 1 (by simp) S512x128 (shapeCast S512x128 v shapeCasts_S512x128_S512x128) rfl rfl 128 rfl _
      (fun a ha => by match a with | ⟨0, _⟩ => rfl | ⟨1, _⟩ => exact absurd rfl ha) (by show 128 + n.val % 128 = n.val; omega)

/-- A group of the weights' columns, read at an index. -/
theorem cols_apply (w : FVec Ideal S1024x768 .bf16) (o : ℕ) (inb) (e : Fin 1024) (n : Fin 256) (h : o + n.val < 768) :
    View.ld (Val := Elt Ideal) (e' := .bf16) w (Rect.unit (s := S1024x768) ![0, o] S1024x256.size inb) (ix2 e n)
      = w (ix2 e (⟨o + n.val, h⟩ : Fin 768)) := by
  refine congrArg w ?_
  funext a; apply Fin.ext
  match a with
  | ⟨0, _⟩ => show 0 + 1 * e.val = e.val; omega
  | ⟨1, _⟩ => show o + 1 * n.val = o + n.val; omega

theorem rows_ld (v : FVec Ideal S512x1024 .f32) : View.ld (Val := Elt Ideal) (e' := .f32) v r0_0 = v :=
  funext fun j => congrArg v (funext fun a => Fin.ext (by
    match a with
    | ⟨0, _⟩ => show 0 + 1 * (j 0).val = (j 0).val; omega
    | ⟨1, _⟩ => show 0 + 1 * (j 1).val = (j 1).val; omega))

theorem table_ld (v : FVec Ideal S512x128 .f32) : View.ld (Val := Elt Ideal) (e' := .f32) v r0_1 = v :=
  funext fun j => congrArg v (funext fun a => Fin.ext (by
    match a with
    | ⟨0, _⟩ => show 0 + 1 * (j 0).val = (j 0).val; omega
    | ⟨1, _⟩ => show 0 + 1 * (j 1).val = (j 1).val; omega))

theorem outKeys_apply (x : FVec Ideal S512x1024 .f32) (w : FVec Ideal S1024x768 .bf16) (C S : FVec Ideal S512x128 .f32) (r : Fin 512) (n : Fin 256) :
    out0_4 (F := Ideal) x w C S (ix2 r n)
      = Cert.Proj.prod (fun e => x (ix2 r e)) (fun e => w (ix2 e (⟨0 + n.val, by omega⟩ : Fin 768))) * C (ix2 r (⟨n.val % 128, by omega⟩ : Fin 128))
        + Cert.Proj.prod (fun e => x (ix2 r e)) (fun e => w (ix2 e (⟨256 + n.val, by omega⟩ : Fin 768))) * S (ix2 r (⟨n.val % 128, by omega⟩ : Fin 128)) := by
  unfold out0_4
  rw [View.canon_unit_zero (by funext a; match a with | ⟨0, _⟩ => rfl | ⟨1, _⟩ => rfl), rows_ld, table_ld, table_ld]
  have h0 := (dotV_apply x (View.ld (Val := Elt Ideal) (e' := .bf16) w r0_2) r n).trans
    (Finset.sum_congr rfl fun e _ => congrArg (x (ix2 r e) * ·) (cols_apply w 0 _ e n (by omega)))
  have h1 := (dotV_apply x (View.ld (Val := Elt Ideal) (e' := .bf16) w r0_3) r n).trans
    (Finset.sum_congr rfl fun e _ => congrArg (x (ix2 r e) * ·) (cols_apply w 256 _ e n (by omega)))
  refine Eq.trans (b := dotV x (View.ld (Val := Elt Ideal) (e' := .bf16) w r0_2) (ix2 r n) * twiceV C (ix2 r n)
    + dotV x (View.ld (Val := Elt Ideal) (e' := .bf16) w r0_3) (ix2 r n) * twiceV S (ix2 r n)) rfl ?_
  rw [h0, h1, twiceV_apply, twiceV_apply]
  rfl

theorem outValues_apply (x : FVec Ideal S512x1024 .f32) (w : FVec Ideal S1024x768 .bf16) (C S : FVec Ideal S512x128 .f32) (r : Fin 512) (n : Fin 256) :
    out0_5 (F := Ideal) x w C S (ix2 r n)
      = Cert.Proj.prod (fun e => x (ix2 r e)) (fun e => w (ix2 e (⟨512 + n.val, by omega⟩ : Fin 768))) := by
  unfold out0_5
  rw [View.canon_unit_zero (by funext a; match a with | ⟨0, _⟩ => rfl | ⟨1, _⟩ => rfl), rows_ld]
  refine (dotV_apply x (View.ld (Val := Elt Ideal) (e' := .bf16) w r0_5) r n).trans ?_
  unfold Cert.Proj.prod
  exact Finset.sum_congr rfl fun e _ => congrArg (x (ix2 r e) * ·) (cols_apply w 512 _ e n _)

/-- The weights of the keys by head and half. -/
def halvesV (w : FVec Ideal S1024x512 .f32) : FVec Ideal S1024x4x2x32 .f32 :=
  shapeCast S1024x4x2x32 (extractStridedSlice S1024x256 ![0, 0] w slices_S1024x512_S1024x256_0_0) shapeCasts_S1024x256_S1024x4x2x32

theorem halvesV_apply (w : FVec Ideal S1024x512 .f32) (e : Fin 1024) (h : Fin 4) (p : Fin 2) (i : Fin 32) (N : Fin 512)
    (hN : N.val = h.val * 64 + p.val * 32 + i.val) : halvesV w (ix4 e h p i) = w (ix2 e N) := by
  unfold halvesV
  rw [shapeCast_apply _ _ (ix4 e h p i) (ix2 e (⟨h.val * 64 + p.val * 32 + i.val, by omega⟩ : Fin 256)) (by
    rw [Shape.rowMajor_val_two, Shape.rowMajor_val_four]
    show e.val * 256 + (h.val * 64 + p.val * 32 + i.val) = ((e.val * 4 + h.val) * 2 + p.val) * 32 + i.val
    omega)]
  exact extractStridedSlice_apply _ _ _ _ (ix2 e N) fun a => by
    match a with
    | ⟨0, _⟩ => show e.val = 0 + e.val; omega
    | ⟨1, _⟩ => show N.val = 0 + (h.val * 64 + p.val * 32 + i.val); omega

/-- The halves exchanged, the second negated. -/
def turnedV (w : FVec Ideal S1024x512 .f32) : FVec Ideal S1024x256 .f32 :=
  shapeCast S1024x256 (concatenate S1024x4x2x32 2
    [⟨S1024x4x1x32, Host.negf (extractStridedSlice S1024x4x1x32 ![0, 0, 1, 0] (halvesV w) slices_S1024x4x2x32_S1024x4x1x32_0_0_1_0)⟩,
     ⟨S1024x4x1x32, extractStridedSlice S1024x4x1x32 ![0, 0, 0, 0] (halvesV w) slices_S1024x4x2x32_S1024x4x1x32_0_0_0_0⟩]
    concatenates_S1024x4x1x32_S1024x4x1x32_S1024x4x2x32_d2) shapeCasts_S1024x4x2x32_S1024x256

theorem turnedV_apply (w : FVec Ideal S1024x512 .f32) (e : Fin 1024) (n : Fin 256) :
    turnedV w (ix2 e n) = if n.val % 64 < 32 then -w (ix2 e (⟨n.val + 32, by omega⟩ : Fin 512)) else w (ix2 e (⟨n.val - 32, by omega⟩ : Fin 512)) := by
  unfold turnedV
  rw [shapeCast_apply _ _ (ix2 e n) (ix4 e (⟨n.val / 64, by omega⟩ : Fin 4) (⟨n.val % 64 / 32, by omega⟩ : Fin 2) (⟨n.val % 32, by omega⟩ : Fin 32)) (by
    rw [Shape.rowMajor_val_two, Shape.rowMajor_val_four]
    show ((e.val * 4 + n.val / 64) * 2 + n.val % 64 / 32) * 32 + n.val % 32 = e.val * 256 + n.val
    omega)]
  by_cases h : n.val % 64 < 32
  · rw [if_pos h]
    refine (concatenate_apply_piece (t := S1024x4x2x32) 2 _ _ _ 0 (by simp) S1024x4x1x32
      (Host.negf (extractStridedSlice S1024x4x1x32 ![0, 0, 1, 0] (halvesV w) slices_S1024x4x2x32_S1024x4x1x32_0_0_1_0)) rfl rfl 0 rfl
      (ix4 e (⟨n.val / 64, by omega⟩ : Fin 4) (0 : Fin 1) (⟨n.val % 32, by omega⟩ : Fin 32))
      (fun a ha => by match a with | ⟨0, _⟩ => rfl | ⟨1, _⟩ => rfl | ⟨2, _⟩ => exact absurd rfl ha | ⟨3, _⟩ => rfl) (by show 0 + 0 = n.val % 64 / 32; omega)).trans ?_
    refine congrArg Neg.neg ((extractStridedSlice_apply _ _ _ _
      (ix4 e (⟨n.val / 64, by omega⟩ : Fin 4) (1 : Fin 2) (⟨n.val % 32, by omega⟩ : Fin 32)) fun a => ?_).trans
      (halvesV_apply w e _ _ _ _ (by show n.val + 32 = n.val / 64 * 64 + 1 * 32 + n.val % 32; omega)))
    match a with
    | ⟨0, _⟩ => show e.val = 0 + e.val; omega
    | ⟨1, _⟩ => show n.val / 64 = 0 + n.val / 64; omega
    | ⟨2, _⟩ => rfl
    | ⟨3, _⟩ => show n.val % 32 = 0 + n.val % 32; omega
  · rw [if_neg h]
    refine (concatenate_apply_piece (t := S1024x4x2x32) 2 _ _ _ 1 (by simp) S1024x4x1x32
      (extractStridedSlice S1024x4x1x32 ![0, 0, 0, 0] (halvesV w) slices_S1024x4x2x32_S1024x4x1x32_0_0_0_0) rfl rfl 1 rfl
      (ix4 e (⟨n.val / 64, by omega⟩ : Fin 4) (0 : Fin 1) (⟨n.val % 32, by omega⟩ : Fin 32))
      (fun a ha => by match a with | ⟨0, _⟩ => rfl | ⟨1, _⟩ => rfl | ⟨2, _⟩ => exact absurd rfl ha | ⟨3, _⟩ => rfl) (by show 1 + 0 = n.val % 64 / 32; omega)).trans ?_
    refine (extractStridedSlice_apply _ _ _ _
      (ix4 e (⟨n.val / 64, by omega⟩ : Fin 4) (0 : Fin 2) (⟨n.val % 32, by omega⟩ : Fin 32)) fun a => ?_).trans
      (halvesV_apply w e _ _ _ _ (by show n.val - 32 = n.val / 64 * 64 + 0 * 32 + n.val % 32; omega))
    match a with
    | ⟨0, _⟩ => show e.val = 0 + e.val; omega
    | ⟨1, _⟩ => show n.val / 64 = 0 + n.val / 64; omega
    | ⟨2, _⟩ => rfl
    | ⟨3, _⟩ => show n.val % 32 = 0 + n.val % 32; omega

/-- The weights as the call finds them: the keys', the keys' turned, the values'. -/
def wideV (w : FVec Ideal S1024x512 .f32) : FVec Ideal S1024x768 .f32 :=
  concatenate S1024x768 1 [⟨S1024x256, extractStridedSlice S1024x256 ![0, 0] w slices_S1024x512_S1024x256_0_0⟩, ⟨S1024x256, turnedV w⟩,
    ⟨S1024x256, extractStridedSlice S1024x256 ![0, 256] w slices_S1024x512_S1024x256_0_256⟩] concatenates_S1024x256_S1024x256_S1024x256_S1024x768_d1

theorem wideV_keys (w : FVec Ideal S1024x512 .f32) (e : Fin 1024) (n : Fin 256) :
    wideV w (ix2 e (⟨0 + n.val, by omega⟩ : Fin 768)) = w (ix2 e (⟨n.val, by omega⟩ : Fin 512)) :=
  (concatenate_apply_piece (t := S1024x768) 1 _ _ _ 0 (by simp) S1024x256 (extractStridedSlice S1024x256 ![0, 0] w slices_S1024x512_S1024x256_0_0) rfl rfl 0 rfl
    (ix2 e n) (fun a ha => by match a with | ⟨0, _⟩ => rfl | ⟨1, _⟩ => exact absurd rfl ha) rfl).trans
    (extractStridedSlice_apply _ _ _ _ _ fun a => by
      match a with
      | ⟨0, _⟩ => show e.val = 0 + e.val; omega
      | ⟨1, _⟩ => show n.val = 0 + n.val; omega)

theorem wideV_turned (w : FVec Ideal S1024x512 .f32) (e : Fin 1024) (n : Fin 256) :
    wideV w (ix2 e (⟨256 + n.val, by omega⟩ : Fin 768)) = turnedV w (ix2 e n) :=
  concatenate_apply_piece (t := S1024x768) 1 _ _ _ 1 (by simp) S1024x256 (turnedV w) rfl rfl 256 rfl
    (ix2 e n) (fun a ha => by match a with | ⟨0, _⟩ => rfl | ⟨1, _⟩ => exact absurd rfl ha) rfl

theorem wideV_values (w : FVec Ideal S1024x512 .f32) (e : Fin 1024) (n : Fin 256) :
    wideV w (ix2 e (⟨512 + n.val, by omega⟩ : Fin 768)) = w (ix2 e (⟨256 + n.val, by omega⟩ : Fin 512)) :=
  (concatenate_apply_piece (t := S1024x768) 1 _ _ _ 2 (by simp) S1024x256 (extractStridedSlice S1024x256 ![0, 256] w slices_S1024x512_S1024x256_0_256) rfl rfl 512 rfl
    (ix2 e n) (fun a ha => by match a with | ⟨0, _⟩ => rfl | ⟨1, _⟩ => exact absurd rfl ha) rfl).trans
    (extractStridedSlice_apply _ _ _ _ _ fun a => by
      match a with
      | ⟨0, _⟩ => show e.val = 0 + e.val; omega
      | ⟨1, _⟩ => rfl)

/-- A table of the angles, four times along the lanes and once for each sequence. -/
def tableV (C : FVec Ideal S8192x32 .f32) : FVec Ideal S16384x128 .f32 :=
  shapeCast S16384x128 (broadcastInDim S2x8192x1x128 ![0, 1, 2, 3] bcast_S1x8192x1x128_S2x8192x1x128_0_1_2_3
    (shapeCast S1x8192x1x128 (shapeCast S8192x128 (broadcastInDim S1x8192x4x32 ![0, 1, 2, 3] bcast_S1x8192x1x32_S1x8192x4x32_0_1_2_3
      (shapeCast S1x8192x1x32 C shapeCasts_S8192x32_S1x8192x1x32)) shapeCasts_S1x8192x4x32_S8192x128) shapeCasts_S8192x128_S1x8192x1x128))
    shapeCasts_S2x8192x1x128_S16384x128

theorem tableV_apply (C : FVec Ideal S8192x32 .f32) (R : Fin 16384) (l : Fin 128) : tableV C (ix2 R l) = C (ix2 (spot R) (lane l)) := by
  unfold tableV
  rw [shapeCast_apply _ _ (ix2 R l) (ix4 (⟨R.val / 8192, by omega⟩ : Fin 2) (spot R) (0 : Fin 1) l) (by
      rw [Shape.rowMajor_val_two, Shape.rowMajor_val_four]
      show ((R.val / 8192 * 8192 + R.val % 8192) * 1 + 0) * 128 + l.val = R.val * 128 + l.val
      omega),
    broadcastInDim_apply _ _ _ _ (ix4 (0 : Fin 1) (spot R) (0 : Fin 1) l) (fun a => by match a with | ⟨0, _⟩ => rfl | ⟨1, _⟩ => rfl | ⟨2, _⟩ => rfl | ⟨3, _⟩ => rfl),
    shapeCast_apply _ _ (ix4 (0 : Fin 1) (spot R) (0 : Fin 1) l) (ix2 (spot R) l) (by
      rw [Shape.rowMajor_val_two, Shape.rowMajor_val_four]
      show (spot R).val * 128 + l.val = ((0 * 8192 + (spot R).val) * 1 + 0) * 128 + l.val
      omega),
    shapeCast_apply _ _ (ix2 (spot R) l) (ix4 (0 : Fin 1) (spot R) (⟨l.val / 32, by omega⟩ : Fin 4) (lane l)) (by
      rw [Shape.rowMajor_val_two, Shape.rowMajor_val_four]
      show ((0 * 8192 + (spot R).val) * 4 + l.val / 32) * 32 + l.val % 32 = (spot R).val * 128 + l.val
      omega),
    broadcastInDim_apply _ _ _ _ (ix4 (0 : Fin 1) (spot R) (0 : Fin 1) (lane l)) (fun a => by match a with | ⟨0, _⟩ => rfl | ⟨1, _⟩ => rfl | ⟨2, _⟩ => rfl | ⟨3, _⟩ => rfl)]
  exact shapeCast_apply _ _ _ _ (by
      rw [Shape.rowMajor_val_two, Shape.rowMajor_val_four]
      show (spot R).val * 32 + (lane l).val = ((0 * 8192 + (spot R).val) * 1 + 0) * 32 + (lane l).val
      omega)

/-- The angles: the position times the frequency of the lane. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

variable (m : (ℓ : Loc nD τ sig) → Buf (Elt Ideal) ℓ)

theorem V_weights (c : Dev nD) : V m c main_v38 = (truncf .bf16 (wideV (m ((c : Thread nD τ).loc main_arg1))) bitsLt_bf16_f32 : FVec Ideal S1024x768 .bf16) := by
  simp only [V, hostOps0]
  after_results_simp
  all_goals rfl

theorem V_cos (c : Dev nD) : V m c main_v25 = tableV (Host.cos angles) := by
  simp only [V, hostOps0]
  after_results_simp
  all_goals rfl

theorem V_sin (c : Dev nD) : V m c main_v28 = tableV (Host.sin angles) := by
  simp only [V, hostOps0]
  after_results_simp
  all_goals rfl

theorem ind0 : ∀ t : Fin cfg0.N, win0_0.index t = ![t.val, 0] := by decide +kernel
theorem ind1 : ∀ t : Fin cfg0.N, win0_1.index t = ![0, 0] := by decide +kernel
theorem ind2 : ∀ t : Fin cfg0.N, win0_2.index t = ![t.val, 0] := by decide +kernel
theorem ind3 : ∀ t : Fin cfg0.N, win0_3.index t = ![t.val, 0] := by decide +kernel
theorem ind4 : ∀ t : Fin cfg0.N, win0_4.index t = ![t.val, 0] := by decide +kernel
theorem ind5 : ∀ t : Fin cfg0.N, win0_5.index t = ![t.val, 0] := by decide +kernel

theorem points (t : Fin cfg0.N) : t.val < 32 := t.isLt

/-- The row of the arrays at a row of a grid point's block. -/
def rowAt (t : Fin cfg0.N) (r : Fin 512) : Fin 16384 := ⟨512 * t.val + r.val, by have := points t; omega⟩

theorem blk0_apply (c : Dev nD) (t : Fin cfg0.N) (r : Fin 512) (e : Fin 1024) :
    iblk m c 0 t (ix2 r e) = m ((c : Thread nD τ).loc main_arg0) (ix2 (rowAt t r) e) := by
  blk_simp [iblk]
  refine (congrFun (V_main_arg0 m c) _).trans (congrArg _ ?_)
  funext a; apply Fin.ext
  match a with
  | ⟨0, _⟩ => blk_simp [ind0]; show t.val * 512 + r.val = 512 * t.val + r.val; omega
  | ⟨1, _⟩ => blk_simp [ind0]

theorem blk1_apply (c : Dev nD) (t : Fin cfg0.N) (e : Fin 1024) (n : Fin 768) :
    iblk m c 1 t (ix2 e n) = wideV (m ((c : Thread nD τ).loc main_arg1)) (ix2 e n) := by
  blk_simp [iblk]
  refine (congrFun (V_weights m c) _).trans ?_
  show wideV (m ((c : Thread nD τ).loc main_arg1)) _ = _
  refine congrArg _ ?_
  funext a; apply Fin.ext
  match a with
  | ⟨0, _⟩ => blk_simp [ind1]
  | ⟨1, _⟩ => blk_simp [ind1]

theorem blk2_apply (c : Dev nD) (t : Fin cfg0.N) (r : Fin 512) (l : Fin 128) :
    iblk m c 2 t (ix2 r l) = (Host.cos angles : FVec Ideal S8192x32 .f32) (ix2 (spot (rowAt t r)) (lane l)) := by
  blk_simp [iblk]
  refine (congrFun (V_cos m c) _).trans ((congrArg _ ?_).trans (tableV_apply _ (rowAt t r) l))
  funext a; apply Fin.ext
  match a with
  | ⟨0, _⟩ => blk_simp [ind2]; show t.val * 512 + r.val = 512 * t.val + r.val; omega
  | ⟨1, _⟩ => blk_simp [ind2]

theorem blk3_apply (c : Dev nD) (t : Fin cfg0.N) (r : Fin 512) (l : Fin 128) :
    iblk m c 3 t (ix2 r l) = (Host.sin angles : FVec Ideal S8192x32 .f32) (ix2 (spot (rowAt t r)) (lane l)) := by
  blk_simp [iblk]
  refine (congrFun (V_sin m c) _).trans ((congrArg _ ?_).trans (tableV_apply _ (rowAt t r) l))
  funext a; apply Fin.ext
  match a with
  | ⟨0, _⟩ => blk_simp [ind3]; show t.val * 512 + r.val = 512 * t.val + r.val; omega
  | ⟨1, _⟩ => blk_simp [ind3]

theorem lane_half (n : Fin 256) : lane (⟨n.val % 128, by omega⟩ : Fin 128) = lane n := Fin.ext (by show n.val % 128 % 32 = n.val % 32; omega)

theorem keys_blk (hx : ∀ (c : Dev nD) j, ∃ y : ℝ, m ((c.tc : Thread nD τ).loc main_arg0) j = (y : EReal))
    (hw : ∀ (c : Dev nD) j, ∃ y : ℝ, m ((c.tc : Thread nD τ).loc main_arg1) j = (y : EReal))
    (c : Dev nD) (t : Fin cfg0.N) (r : Fin 512) (n : Fin 256) :
    out0_4 (F := Ideal) (iblk m c 0 t) (iblk m c 1 t) (iblk m c 2 t) (iblk m c 3 t) (ix2 r n)
      = key (m ((c : Thread nD τ).loc main_arg0)) (m ((c : Thread nD τ).loc main_arg1)) (Host.cos angles) (Host.sin angles) (rowAt t r) n := by
  refine (outKeys_apply _ _ _ _ r n).trans ?_
  simp only [blk0_apply, blk1_apply, blk2_apply, blk3_apply, wideV_keys, wideV_turned, turnedV_apply, lane_half]
  unfold key
  by_cases h : n.val % 64 < 32
  · simp only [if_pos h]
    rw [prod_neg _ _ (fun e => hx c _) (fun e => hw c _), EReal.neg_mul, ← sub_eq_add_neg]
    rfl
  · simp only [if_neg h]
    rfl

theorem values_blk (c : Dev nD) (t : Fin cfg0.N) (r : Fin 512) (n : Fin 256) :
    out0_5 (F := Ideal) (iblk m c 0 t) (iblk m c 1 t) (iblk m c 2 t) (iblk m c 3 t) (ix2 r n)
      = valuesV (m ((c : Thread nD τ).loc main_arg0)) (m ((c : Thread nD τ).loc main_arg1)) (ix2 (rowAt t r) n) := by
  refine (outValues_apply _ _ _ _ r n).trans ?_
  simp only [blk0_apply, blk1_apply, wideV_values]
  rfl

theorem arr4 (hx : ∀ (c : Dev nD) j, ∃ y : ℝ, m ((c.tc : Thread nD τ).loc main_arg0) j = (y : EReal))
    (hw : ∀ (c : Dev nD) j, ∃ y : ℝ, m ((c.tc : Thread nD τ).loc main_arg1) j = (y : EReal)) (c : Dev nD) : (dats m 0 c).arrAt 4 cfg0.N
    = keysV (m ((c : Thread nD τ).loc main_arg0)) (m ((c : Thread nD τ).loc main_arg1)) (Host.cos angles) (Host.sin angles) := by
  refine (dats m 0 c).arrAt_eq_of_covers 4 _ (by decide +kernel) fun t hf y => ?_
  blk_simp
  rw [after0_4]
  obtain ⟨r, n, rfl⟩ : ∃ (r : Fin 512) (n : Fin 256), y = ix2 r n := ⟨y 0, y 1, by funext a; match a with | ⟨0, _⟩ => rfl | ⟨1, _⟩ => rfl⟩
  refine (keys_blk m hx hw c t r n).trans (congrArg (keysV (m ((c : Thread nD τ).loc main_arg0)) (m ((c : Thread nD τ).loc main_arg1))
    (Host.cos angles) (Host.sin angles)) (?_ : ix2 (rowAt t r) n = _))
  funext a; apply Fin.ext
  match a with
  | ⟨0, _⟩ => blk_simp [ind4]; show 512 * t.val + r.val = t.val * 512 + r.val; omega
  | ⟨1, _⟩ => blk_simp [ind4]

theorem arr5 (c : Dev nD) : (dats m 0 c).arrAt 5 cfg0.N
    = valuesV (m ((c : Thread nD τ).loc main_arg0)) (m ((c : Thread nD τ).loc main_arg1)) := by
  refine (dats m 0 c).arrAt_eq_of_covers 5 _ (by decide +kernel) fun t hf y => ?_
  blk_simp
  rw [after0_5]
  obtain ⟨r, n, rfl⟩ : ∃ (r : Fin 512) (n : Fin 256), y = ix2 r n := ⟨y 0, y 1, by funext a; match a with | ⟨0, _⟩ => rfl | ⟨1, _⟩ => rfl⟩
  refine (values_blk m c t r n).trans (congrArg _ ?_)
  funext a; apply Fin.ext
  match a with
  | ⟨0, _⟩ => blk_simp [ind5]; show 512 * t.val + r.val = t.val * 512 + r.val; omega
  | ⟨1, _⟩ => blk_simp [ind5]

/-- The kernel's run from real arguments: the two results and the arguments unchanged. -/
theorem run (hx : ∀ (c : Dev nD) j, ∃ y : ℝ, m ((c.tc : Thread nD τ).loc main_arg0) j = (y : EReal))
    (hw : ∀ (c : Dev nD) j, ∃ y : ℝ, m ((c.tc : Thread nD τ).loc main_arg1) j = (y : EReal)) (ρ : Dev nD → PrngReg) :
    θ_run defs (onTc (τ := τ) (main (F := Ideal))) ⟨m, fun _ => 0, ρ⟩ (fun r => ∀ c : Dev nD,
      r.2.mem ((c.tc : Thread nD τ).loc main_v39_0) = keysV (m ((c.tc : Thread nD τ).loc main_arg0)) (m ((c.tc : Thread nD τ).loc main_arg1)) (Host.cos angles) (Host.sin angles)
      ∧ r.2.mem ((c.tc : Thread nD τ).loc main_v39_1) = valuesV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr4 m hx hw c), (h c).2.1.trans (arr5 m c), (h c).2.2⟩) (Value.run_blocks m ρ)

end Cert.Kv

end
-- ==== Proof.KvRef.lean ====
/- The reference of the shared keys and values, at every index. -/
module

public import proofs.«01_k».proof.Proof.KvValue
public import proofs.«01_k».proof.Proof.Gen.Reference4Ideal.Run
public import Idealize.ShloMosaic.Lib.Pipeline.ValueKit
public import Idealize.ShloMosaic.Lib.ValueLayout
public import Idealize.ShloMosaic.Lib.IdealHost

@[expose] public section

noncomputable section

namespace Cert.Kv.Ref

open Cert.Reference4Ideal Cert.Reference4Ideal.Gen
open Idealize.ShloMosaic hiding ix1 ix2 ix3 ix4 ix5 ix6
open Idealize.ShloMosaic.TcCoe Idealize.ShloMosaic.ValueIdx Idealize.SL.Sem Finset

theorem dot_lhs (r : Fin 16384) (n : Fin 512) (e : Fin 1024) :
    dot_S16384x1024_S1024x512_S16384x512_1_0_0_1_n_n.lhsIdx (ix2 r n)
      ((contrEquiv1 dot_S16384x1024_S1024x512_S16384x512_1_0_0_1_n_n 1024 rfl rfl).symm e) = ix2 r e := by
  funext a; match a with | ⟨0, _⟩ => rfl | ⟨1, _⟩ => rfl

theorem dot_rhs (r : Fin 16384) (n : Fin 512) (e : Fin 1024) :
    dot_S16384x1024_S1024x512_S16384x512_1_0_0_1_n_n.rhsIdx (ix2 r n)
      ((contrEquiv1 dot_S16384x1024_S1024x512_S16384x512_1_0_0_1_n_n 1024 rfl rfl).symm e) = ix2 e n := by
  funext a; match a with | ⟨0, _⟩ => rfl | ⟨1, _⟩ => rfl

/-- The rows' products with the whole weights. -/
def allV (x : FVec Ideal S16384x1024 .f32) (w : FVec Ideal S1024x512 .f32) : FVec Ideal S16384x512 .f32 :=
  Host.dotGeneral dot_S16384x1024_S1024x512_S16384x512_1_0_0_1_n_n none x w

theorem allV_apply (x : FVec Ideal S16384x1024 .f32) (w : FVec Ideal S1024x512 .f32) (r : Fin 16384) (n : Fin 512) :
    allV x w (ix2 r n) = entry x w r n := by
  show FloatOps.matmul (F := Ideal) dot_S16384x1024_S1024x512_S16384x512_1_0_0_1_n_n none _ _ (fun _ => 0) (ix2 r n) = _
  rw [Ideal.matmul_apply]
  show (0 : EReal) + _ = _
  rw [zero_add, ← (contrEquiv1 dot_S16384x1024_S1024x512_S16384x512_1_0_0_1_n_n 1024 rfl rfl).symm.sum_comp]
  unfold entry Cert.Proj.prod
  refine Finset.sum_congr rfl fun e _ => ?_
  rw [dot_lhs, dot_rhs]

/-- The keys by head. -/
def headsV (x : FVec Ideal S16384x1024 .f32) (w : FVec Ideal S1024x512 .f32) : FVec Ideal S2x8192x4x64 .f32 :=
  shapeCast _ (extractStridedSlice S16384x256 ![0, 0] (allV x w) slices_S16384x512_S16384x256_0_0) shapeCasts_S16384x256_S2x8192x4x64

theorem headsV_apply (x : FVec Ideal S16384x1024 .f32) (w : FVec Ideal S1024x512 .f32) (R : Fin 16384) (h : Fin 4) (d : Fin 64) (N : Fin 512)
    (hN : N.val = h.val * 64 + d.val) : headsV x w (ix4 (⟨R.val / 8192, by omega⟩ : Fin 2) (spot R) h d) = entry x w R N := by
  unfold headsV
  rw [shapeCast_apply _ _ _ (ix2 R (⟨h.val * 64 + d.val, by omega⟩ : Fin 256)) (by
    rw [Shape.rowMajor_val_two, Shape.rowMajor_val_four]
    show R.val * 256 + (h.val * 64 + d.val) = ((R.val / 8192 * 8192 + R.val % 8192) * 4 + h.val) * 64 + d.val
    omega)]
  refine (extractStridedSlice_apply _ _ _ _ (ix2 R N) fun a => ?_).trans (allV_apply x w R N)
  match a with
  | ⟨0, _⟩ => show R.val = 0 + R.val; omega
  | ⟨1, _⟩ => show N.val = 0 + (h.val * 64 + d.val); omega

/-- A table of the angles at every head. -/
def spreadV (C : FVec Ideal S8192x32 .f32) : FVec Ideal S2x8192x4x32 .f32 :=
  broadcastInDim S2x8192x4x32 ![0, 1, 2, 3] bcast_S1x8192x1x32_S2x8192x4x32_0_1_2_3 (broadcastInDim S1x8192x1x32 ![1, 3] bcast_S8192x32_S1x8192x1x32_1_3 C)

theorem spreadV_apply (C : FVec Ideal S8192x32 .f32) (b : Fin 2) (s : Fin 8192) (h : Fin 4) (i : Fin 32) : spreadV C (ix4 b s h i) = C (ix2 s i) :=
  (broadcastInDim_apply _ _ _ _ (ix4 (0 : Fin 1) s (0 : Fin 1) i) fun a => by match a with | ⟨0, _⟩ => rfl | ⟨1, _⟩ => rfl | ⟨2, _⟩ => rfl | ⟨3, _⟩ => rfl).trans
    (broadcastInDim_apply _ _ _ _ (ix2 s i) fun a => by match a with | ⟨0, _⟩ => rfl | ⟨1, _⟩ => rfl)

def firstV (z : FVec Ideal S2x8192x4x64 .f32) : FVec Ideal S2x8192x4x32 .f32 :=
  extractStridedSlice S2x8192x4x32 ![0, 0, 0, 0] z slices_S2x8192x4x64_S2x8192x4x32_0_0_0_0

def secondV (z : FVec Ideal S2x8192x4x64 .f32) : FVec Ideal S2x8192x4x32 .f32 :=
  extractStridedSlice S2x8192x4x32 ![0, 0, 0, 32] z slices_S2x8192x4x64_S2x8192x4x32_0_0_0_32

theorem firstV_apply (z : FVec Ideal S2x8192x4x64 .f32) (b : Fin 2) (s : Fin 8192) (h : Fin 4) (i : Fin 32) :
    firstV z (ix4 b s h i) = z (ix4 b s h (⟨i.val, by omega⟩ : Fin 64)) :=
  extractStridedSlice_apply _ _ _ _ _ fun a => by
    match a with
    | ⟨0, _⟩ => show b.val = 0 + b.val; omega
    | ⟨1, _⟩ => show s.val = 0 + s.val; omega
    | ⟨2, _⟩ => show h.val = 0 + h.val; omega
    | ⟨3, _⟩ => show i.val = 0 + i.val; omega

theorem secondV_apply (z : FVec Ideal S2x8192x4x64 .f32) (b : Fin 2) (s : Fin 8192) (h : Fin 4) (i : Fin 32) :
    secondV z (ix4 b s h i) = z (ix4 b s h (⟨32 + i.val, by omega⟩ : Fin 64)) :=
  extractStridedSlice_apply _ _ _ _ _ fun a => by
    match a with
    | ⟨0, _⟩ => show b.val = 0 + b.val; omega
    | ⟨1, _⟩ => show s.val = 0 + s.val; omega
    | ⟨2, _⟩ => show h.val = 0 + h.val; omega
    | ⟨3, _⟩ => rfl

def lowV (z : FVec Ideal S2x8192x4x64 .f32) (C S : FVec Ideal S8192x32 .f32) : FVec Ideal S2x8192x4x32 .f32 :=
  subf (mulf (firstV z) (spreadV C)) (mulf (secondV z) (spreadV S))

def highV (z : FVec Ideal S2x8192x4x64 .f32) (C S : FVec Ideal S8192x32 .f32) : FVec Ideal S2x8192x4x32 .f32 :=
  addf (mulf (secondV z) (spreadV C)) (mulf (firstV z) (spreadV S))

/-- The heads turned, as rows again. -/
def turnV (z : FVec Ideal S2x8192x4x64 .f32) (C S : FVec Ideal S8192x32 .f32) : FVec Ideal S16384x256 .f32 :=
  shapeCast _ (concatenate S2x8192x4x64 3 [⟨S2x8192x4x32, lowV z C S⟩, ⟨S2x8192x4x32, highV z C S⟩]
    concatenates_S2x8192x4x32_S2x8192x4x32_S2x8192x4x64_d3) shapeCasts_S2x8192x4x64_S16384x256

theorem turnV_apply (x : FVec Ideal S16384x1024 .f32) (w : FVec Ideal S1024x512 .f32) (C S : FVec Ideal S8192x32 .f32) (R : Fin 16384) (n : Fin 256) :
    turnV (headsV x w) C S (ix2 R n) = key x w C S R n := by
  unfold turnV key
  rw [shapeCast_apply _ _ (ix2 R n) (ix4 (⟨R.val / 8192, by omega⟩ : Fin 2) (spot R) (⟨n.val / 64, by omega⟩ : Fin 4) (⟨n.val % 64, by omega⟩ : Fin 64)) (by
    rw [Shape.rowMajor_val_two, Shape.rowMajor_val_four]
    show ((R.val / 8192 * 8192 + R.val % 8192) * 4 + n.val / 64) * 64 + n.val % 64 = R.val * 256 + n.val
    omega)]
  by_cases h : n.val % 64 < 32
  · rw [if_pos h]
    refine (concatenate_apply_piece (t := S2x8192x4x64) 3 _ _ _ 0 (by simp) S2x8192x4x32 (lowV (headsV x w) C S) rfl rfl 0 rfl
      (ix4 (⟨R.val / 8192, by omega⟩ : Fin 2) (spot R) (⟨n.val / 64, by omega⟩ : Fin 4) (lane n))
      (fun a ha => by match a with | ⟨0, _⟩ => rfl | ⟨1, _⟩ => rfl | ⟨2, _⟩ => rfl | ⟨3, _⟩ => exact absurd rfl ha)
      (by show 0 + n.val % 32 = n.val % 64; omega)).trans ?_
    show firstV _ _ * spreadV C _ - secondV _ _ * spreadV S _ = _
    rw [spreadV_apply, spreadV_apply, firstV_apply, secondV_apply,
      headsV_apply x w R _ _ ⟨n.val, by omega⟩ (by show n.val = n.val / 64 * 64 + n.val % 32; omega),
      headsV_apply x w R _ _ ⟨n.val + 32, by omega⟩ (by show n.val + 32 = n.val / 64 * 64 + (32 + n.val % 32); omega)]
  · rw [if_neg h]
    refine (concatenate_apply_piece (t := S2x8192x4x64) 3 _ _ _ 1 (by simp) S2x8192x4x32 (highV (headsV x w) C S) rfl rfl 32 rfl
      (ix4 (⟨R.val / 8192, by omega⟩ : Fin 2) (spot R) (⟨n.val / 64, by omega⟩ : Fin 4) (lane n))
      (fun a ha => by match a with | ⟨0, _⟩ => rfl | ⟨1, _⟩ => rfl | ⟨2, _⟩ => rfl | ⟨3, _⟩ => exact absurd rfl ha)
      (by show 32 + n.val % 32 = n.val % 64; omega)).trans ?_
    show secondV _ _ * spreadV C _ + firstV _ _ * spreadV S _ = _
    rw [spreadV_apply, spreadV_apply, firstV_apply, secondV_apply,
      headsV_apply x w R _ _ ⟨n.val, by omega⟩ (by show n.val = n.val / 64 * 64 + (32 + n.val % 32); omega),
      headsV_apply x w R _ _ ⟨n.val - 32, by omega⟩ (by show n.val - 32 = n.val / 64 * 64 + n.val % 32; omega)]

/-- The angles: the position times the frequency of the lane. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

variable (m : (ℓ : Loc nD τ sig) → Buf (Elt Ideal) ℓ)

theorem keys_eq (c : Dev nD) : Value.res_main_v36 m c
    = keysV (m ((c.tc : Thread nD τ).loc main_arg0)) (m ((c.tc : Thread nD τ).loc main_arg1)) (Host.cos angles) (Host.sin angles) := by
  refine (show Value.res_main_v36 m c = turnV (headsV _ _) (Host.cos angles) (Host.sin angles) from rfl).trans (funext fun j => ?_)
  obtain ⟨r, n, rfl⟩ : ∃ (r : Fin 16384) (n : Fin 256), j = ix2 r n := ⟨j 0, j 1, by funext a; match a with | ⟨0, _⟩ => rfl | ⟨1, _⟩ => rfl⟩
  exact turnV_apply _ _ _ _ r n

theorem values_eq (x : FVec Ideal S16384x1024 .f32) (w : FVec Ideal S1024x512 .f32) :
    extractStridedSlice S16384x256 ![0, 256] (Host.dotGeneral dot_S16384x1024_S1024x512_S16384x512_1_0_0_1_n_n none x w) slices_S16384x512_S16384x256_0_256
      = valuesV x w := funext fun j => by
  obtain ⟨r, n, rfl⟩ : ∃ (r : Fin 16384) (n : Fin 256), j = ix2 r n := ⟨j 0, j 1, by funext a; match a with | ⟨0, _⟩ => rfl | ⟨1, _⟩ => rfl⟩
  refine (extractStridedSlice_apply _ _ _ _ (ix2 r (⟨256 + n.val, by omega⟩ : Fin 512)) fun a => ?_).trans (allV_apply x w r _)
  match a with
  | ⟨0, _⟩ => show r.val = 0 + r.val; omega
  | ⟨1, _⟩ => rfl

/-- The reference's run: the two results and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v36) = keysV (m ((c.tc : Thread nD τ).loc main_arg0)) (m ((c.tc : Thread nD τ).loc main_arg1)) (Host.cos angles) (Host.sin angles)
      ∧ r.2.mem ((c.tc : Thread nD τ).loc main_v2) = valuesV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (keys_eq m c), (h c).2.1.trans (values_eq _ _), (h c).2.2⟩)
    (Cert.Reference4Ideal.Value.run (F := Ideal) m ρ)

end Cert.Kv.Ref

end
-- ==== Proof.KvFinite.lean ====
/- What the precondition on the shared keys says: every row's entry and every weight is a real number. -/
module

public import proofs.«01_k».proof.Pre_finite4
public import proofs.«01_k».proof.Proof.Finite

@[expose] public section

noncomputable section

namespace Cert.Kv.Finite

open Cert.Pre_finite4 Idealize.ShloMosaic Idealize.ShloMosaic.ValueIdx

theorem facts : Facts where
  bcast_S_S16384x1024 := by decide
  reducesTo_S16384x1024_S_d0_1 := by decide
  h_S_ := by decide
  bcast_S_S1024x512 := by decide
  reducesTo_S1024x512_S_d0_1 := by decide

instance : Subsingleton S_.Idx := ⟨fun _ _ => funext fun a => a.elim0⟩

theorem rows [h0 : Facts] (x : FVec Ideal S16384x1024 .f32) (w : FVec Ideal S1024x512 .f32) (h : fn x w ix0 = 1#1) (j : S16384x1024.Idx) :
    ∃ y : ℝ, (x j : EReal) = (y : EReal) :=
  Cert.Stick.Finite.coe_of_cmp (x j) (Host.reduce_andi_all _ _ _ _ _ (IntOp.andi_eq_one.1 h).1 j)

theorem weights [h0 : Facts] (x : FVec Ideal S16384x1024 .f32) (w : FVec Ideal S1024x512 .f32) (h : fn x w ix0 = 1#1) (j : S1024x512.Idx) :
    ∃ y : ℝ, (w j : EReal) = (y : EReal) :=
  Cert.Stick.Finite.coe_of_cmp (w j) (Host.reduce_andi_all _ _ _ _ _ (IntOp.andi_eq_one.1 h).2 j)

end Cert.Kv.Finite

end
-- ==== Proof.TurnValue.lean ====
/- The queries of a layer with positions, and its gate, as functions of their arguments, at every index. -/
module

public import proofs.«01_k».proof.Proof.KvValue

@[expose] public section

noncomputable section

namespace Cert.Turn

open Idealize.ShloMosaic Idealize.ShloMosaic.ValueIdx Finset
open Cert.Kv (Rows Angles spot lane)

abbrev Weights : Type := (⟨2, ![1024, 2048]⟩ : Shape).Idx → EReal

def entry (x : Rows) (w : Weights) (R : Fin 16384) (n : Fin 2048) : EReal :=
  Cert.Proj.prod (fun e => x (ix2 R e)) (fun e => w (ix2 e n))

/-- A column of the queries, turned: `C` and `S` are the cosines and the sines by position and lane. -/
def turned (x : Rows) (w : Weights) (C S : Angles) (R : Fin 16384) (n : Fin 1024) : EReal :=
  if n.val % 64 < 32 then
    entry x w R ⟨n.val, by omega⟩ * C (ix2 (spot R) (lane n)) - entry x w R ⟨n.val + 32, by omega⟩ * S (ix2 (spot R) (lane n))
  else
    entry x w R ⟨n.val, by omega⟩ * C (ix2 (spot R) (lane n)) + entry x w R ⟨n.val - 32, by omega⟩ * S (ix2 (spot R) (lane n))

/-- A query: of a batch, a head, a position and a lane. The last 64 lanes are zero. -/
def query (x : Rows) (w : Weights) (C S : Angles) (b : Fin 2) (h : Fin 16) (s : Fin 8192) (l : Fin 128) : EReal :=
  if hl : l.val < 64 then
    turned x w C S ⟨8192 * b.val + s.val, by omega⟩ ⟨64 * h.val + l.val, by omega⟩ * (Scalar.ofBits .f32 0x3E000000#32 : Ideal .f32)
  else (Scalar.ofBits .f32 0x00000000#32 : Ideal .f32)

def queriesV (x : Rows) (w : Weights) (C S : Angles) : (⟨4, ![2, 16, 8192, 128]⟩ : Shape).Idx → EReal := fun j =>
  query x w C S (j 0) (j 1) (j 2) (j 3)

def gateV (x : Rows) (w : Weights) : (⟨2, ![16384, 1024]⟩ : Shape).Idx → EReal := fun j =>
  entry x w (j 0) ⟨1024 + (j 1).val, by have h : (j 1).val < 1024 := (j 1).isLt; omega⟩

end Cert.Turn

end
-- ==== Proof.TurnBlock.lean ====
/- What the call for the queries with positions leaves in its results, at every index. -/
module

public import proofs.«01_k».proof.Proof.TurnValue
public import proofs.«01_k».proof.Proof.KvBlock
public import proofs.«01_k».proof.Proof.ProjBlock
public import proofs.«01_k».proof.Proof.Gen.Kernel5Ideal.Value
public import Idealize.ShloMosaic.Lib.Pipeline.ValueKit
public import Idealize.ShloMosaic.Lib.ValueLayout
public import Idealize.ShloMosaic.Lib.IdealHost

@[expose] public section

noncomputable section

namespace Cert.Turn

open Cert.Kernel5Ideal Cert.Kernel5Ideal.Gen
open Idealize.ShloMosaic hiding ix1 ix2 ix3 ix4 ix5 ix6
open Idealize.ShloMosaic.TcCoe Idealize.ShloMosaic.ValueIdx Idealize.SL.Sem Finset
open Cert.Kv (spot lane angles tableV)

/-- The product of a block of rows with a group of columns. -/
def dotV (x : FVec Ideal S512x1024 .f32) (w : FVec Ideal S1024x1024 .bf16) : FVec Ideal S512x1024 .f32 :=
  matmul dot_S512x1024_S1024x1024_S512x1024_1_0_0_1_n_n none (truncf .bf16 x bitsLt_bf16_f32)
    (shapeCast S1024x1024 w shapeCasts_S1024x1024_S1024x1024) (constant S512x1024 .f32 0x00000000#32)

theorem dotV_apply (x : FVec Ideal S512x1024 .f32) (w : FVec Ideal S1024x1024 .bf16) (r : Fin 512) (n : Fin 1024) :
    dotV x w (ix2 r n) = Cert.Proj.prod (fun e => x (ix2 r e)) (fun e => w (ix2 e n)) := by
  refine (Cert.Proj.wide_apply (truncf .bf16 x bitsLt_bf16_f32) (shapeCast S1024x1024 w shapeCasts_S1024x1024_S1024x1024) r n).trans ?_
  unfold Cert.Proj.prod
  refine Finset.sum_congr rfl fun e _ => ?_
  exact congrArg (x (ix2 r e) * ·) (shapeCast_apply _ _ (ix2 e n) (ix2 e n) rfl)

/-- A table of 128 lanes, eight times. -/
def timesV (v : FVec Ideal S512x128 .f32) : List ((s : Shape) × (s.Idx → Ideal .f32)) :=
  List.replicate 8 ⟨S512x128, shapeCast S512x128 v shapeCasts_S512x128_S512x128⟩

def eightV (v : FVec Ideal S512x128 .f32) : FVec Ideal S512x1024 .f32 :=
  concatenate S512x1024 1 (timesV v) concatenates_S512x128_S512x128_S512x128_S512x128_S512x128_S512x128_S512x128_S512x128_S512x1024_d1

theorem before (v : FVec Ideal S512x128 .f32) (k : ℕ) (hk : k < 8) :
    ((((timesV v).take k).map (·.1)).map fun s => if h : s.rank = S512x1024.rank then s.size ((1 : Fin S512x1024.rank).cast h.symm) else 0).sum = 128 * k := by
  interval_cases k <;> rfl

theorem eightV_apply (v : FVec Ideal S512x128 .f32) (r : Fin 512) (n : Fin 1024) :
    eightV v (ix2 r n) = v (ix2 r (⟨n.val % 128, by omega⟩ : Fin 128)) := by
  refine Eq.trans ?_ (shapeCast_apply v shapeCasts_S512x128_S512x128 (ix2 r (⟨n.val % 128, by omega⟩ : Fin 128)) _ rfl)
  have hn := n.isLt
  exact concatenate_apply_piece (t := S512x1024) 1 (timesV v) concatenates_S512x128_S512x128_S512x128_S512x128_S512x128_S512x128_S512x128_S512x128_S512x1024_d1 _ (n.val / 128) (by unfold timesV; rw [List.length_replicate]; omega)
    S512x128 (shapeCast S512x128 v shapeCasts_S512x128_S512x128) (List.getElem_replicate _) rfl (128 * (n.val / 128)) (before v _ (by omega)) _
    (fun a ha => by match a with | ⟨0, _⟩ => rfl | ⟨1, _⟩ => exact absurd rfl ha) (by show 128 * (n.val / 128) + n.val % 128 = n.val; omega)

/-- A group of the weights' columns, read at an index. -/
theorem cols_apply (w : FVec Ideal S1024x3072 .bf16) (o : ℕ) (inb) (e : Fin 1024) (n : Fin 1024) (h : o + n.val < 3072) :
    View.ld (Val := Elt Ideal) (e' := .bf16) w (Rect.unit (s := S1024x3072) ![0, o] S1024x1024.size inb) (ix2 e n)
      = w (ix2 e (⟨o + n.val, h⟩ : Fin 3072)) := by
  refine congrArg w ?_
  funext a; apply Fin.ext
  match a with
  | ⟨0, _⟩ => show 0 + 1 * e.val = e.val; omega
  | ⟨1, _⟩ => show o + 1 * n.val = o + n.val; omega

theorem rows_ld (v : FVec Ideal S512x1024 .f32) : View.ld (Val := Elt Ideal) (e' := .f32) v r0_0 = v := Cert.Kv.rows_ld v

theorem table_ld (v : FVec Ideal S512x128 .f32) : View.ld (Val := Elt Ideal) (e' := .f32) v r0_1 = v := Cert.Kv.table_ld v

theorem outGate_apply (x : FVec Ideal S512x1024 .f32) (w : FVec Ideal S1024x3072 .bf16) (C S : FVec Ideal S512x128 .f32) (z : FVec Ideal S16x128 .f32)
    (r : Fin 512) (n : Fin 1024) :
    out0_6 (F := Ideal) x w C S z (ix2 r n)
      = Cert.Proj.prod (fun e => x (ix2 r e)) (fun e => w (ix2 e (⟨2048 + n.val, by omega⟩ : Fin 3072))) := by
  unfold out0_6
  rw [View.canon_unit_zero (by funext a; match a with | ⟨0, _⟩ => rfl | ⟨1, _⟩ => rfl), rows_ld]
  refine (dotV_apply x (View.ld (Val := Elt Ideal) (e' := .bf16) w r0_36) r n).trans ?_
  unfold Cert.Proj.prod
  exact Finset.sum_congr rfl fun e _ => congrArg (x (ix2 r e) * ·) (cols_apply w 2048 _ e n _)

/-- The turned and scaled products of the queries' columns. -/
def scaledV (x : FVec Ideal S512x1024 .f32) (w : FVec Ideal S1024x3072 .bf16) (C S : FVec Ideal S512x128 .f32) : FVec Ideal S512x1024 .f32 :=
  mulf (addf (mulf (dotV x (View.ld (Val := Elt Ideal) (e' := .bf16) w r0_2)) (eightV C)) (mulf (dotV x (View.ld (Val := Elt Ideal) (e' := .bf16) w r0_3)) (eightV S)))
    (broadcast S512x1024 (Scalar.ofBits .f32 0x3E000000#32))

theorem scaledV_apply (x : FVec Ideal S512x1024 .f32) (w : FVec Ideal S1024x3072 .bf16) (C S : FVec Ideal S512x128 .f32) (r : Fin 512) (n : Fin 1024) :
    scaledV x w C S (ix2 r n)
      = (Cert.Proj.prod (fun e => x (ix2 r e)) (fun e => w (ix2 e (⟨0 + n.val, by omega⟩ : Fin 3072))) * C (ix2 r (⟨n.val % 128, by omega⟩ : Fin 128))
        + Cert.Proj.prod (fun e => x (ix2 r e)) (fun e => w (ix2 e (⟨1024 + n.val, by omega⟩ : Fin 3072))) * S (ix2 r (⟨n.val % 128, by omega⟩ : Fin 128)))
        * (Scalar.ofBits .f32 0x3E000000#32 : Ideal .f32) := by
  have h0 := (dotV_apply x (View.ld (Val := Elt Ideal) (e' := .bf16) w r0_2) r n).trans
    (Finset.sum_congr rfl fun e _ => congrArg (x (ix2 r e) * ·) (cols_apply w 0 _ e n (by omega)))
  have h1 := (dotV_apply x (View.ld (Val := Elt Ideal) (e' := .bf16) w r0_3) r n).trans
    (Finset.sum_congr rfl fun e _ => congrArg (x (ix2 r e) * ·) (cols_apply w 1024 _ e n (by omega)))
  refine Eq.trans (b := (dotV x (View.ld (Val := Elt Ideal) (e' := .bf16) w r0_2) (ix2 r n) * eightV C (ix2 r n)
    + dotV x (View.ld (Val := Elt Ideal) (e' := .bf16) w r0_3) (ix2 r n) * eightV S (ix2 r n)) * (Scalar.ofBits .f32 0x3E000000#32 : Ideal .f32)) rfl ?_
  rw [h0, h1, eightV_apply, eightV_apply]
  rfl

theorem pay_eq (x : FVec Ideal S512x1024 .f32) (w : FVec Ideal S1024x3072 .bf16) (C S : FVec Ideal S512x128 .f32) (z : FVec Ideal S16x128 .f32) :
    k0_pay33 (F := Ideal) x w C S z = scaledV x w C S := by
  have h : scaledV (View.ld (Val := Elt Ideal) (e' := .f32) x r0_0) w (View.ld (Val := Elt Ideal) (e' := .f32) C r0_1) (View.ld (Val := Elt Ideal) (e' := .f32) S r0_1)
      = scaledV x w C S := by rw [rows_ld, table_ld, table_ld]
  exact Eq.trans rfl h

/-- A head's queries where the mask is set, its row of the second table elsewhere. -/
def besideV (q : FVec Ideal S512x128 .f32) (row : FVec Ideal S1x128 .f32) : FVec Ideal S1x1x512x128 .bf16 :=
  shapeCast S1x1x512x128 (truncf .bf16 (select k0_pay5 q (broadcastTo S512x128 (shapeCast S1x128 (shapeCast S1x128 row shapeCasts_S1x128_S1x128)
    shapeCasts_S1x128_S1x128) broadcasts_S1x128_S512x128)) bitsLt_bf16_f32) shapeCasts_S512x128_S1x1x512x128

theorem besideV_eq (q : FVec Ideal S512x128 .f32) (row : FVec Ideal S1x128 .f32) : besideV q row = Cert.Proj.besideV q row := by
  have h : shapeCast S1x128 row shapeCasts_S1x128_S1x128 = row := funext fun j => shapeCast_apply _ _ j j rfl
  unfold besideV
  rw [h]
  rfl

/-- The block of queries, from the scaled products and the second table. -/
def headsV (q : FVec Ideal S512x1024 .f32) (z : FVec Ideal S16x128 .f32) : S1x16x512x128.Idx → EReal := Cert.Proj.headsG q z

theorem even_piece (q : FVec Ideal S512x1024 .f32) (z : FVec Ideal S16x128 .f32) (o : ℕ) (ho : o < 16) (c : ℕ) (hc : c = 64 * o)
    (hs : S512x1024.Slices ![0, c] S512x128) (inb inb') (x : S1x1x512x128.Idx) :
    besideV (extractStridedSlice S512x128 ![0, c] q hs) (View.ld (Val := Elt Ideal) (e' := .f32) z (Rect.unit (s := S16x128) ![o, 0] S1x128.size inb)) x
      = headsV q z ((Rect.unit (s := S1x16x512x128) ![0, o, 0, 0] S1x1x512x128.size inb').emb x) :=
  (congrFun (besideV_eq _ _) x).trans (Cert.Proj.even_piece q z o ho c hc hs inb inb' x)

theorem odd_piece (q : FVec Ideal S512x1024 .f32) (z : FVec Ideal S16x128 .f32) (o : ℕ) (ho : o < 16) (c : ℕ) (hc : c + 64 = 64 * o)
    (hs : S512x1024.Slices ![0, c] S512x128) (inb inb') (x : S1x1x512x128.Idx) :
    besideV (dynamicRotate 1 64#32 none (extractStridedSlice S512x128 ![0, c] q hs) rotates_S512x128_d1)
        (View.ld (Val := Elt Ideal) (e' := .f32) z (Rect.unit (s := S16x128) ![o, 0] S1x128.size inb)) x
      = headsV q z ((Rect.unit (s := S1x16x512x128) ![0, o, 0, 0] S1x1x512x128.size inb').emb x) :=
  (congrFun (besideV_eq _ _) x).trans (Cert.Proj.odd_piece q z o ho c hc hs inb inb' x)

/-- The queries' block: the sixteen heads, two to a slice of the products. -/
theorem out5_eq (x : FVec Ideal S512x1024 .f32) (w : FVec Ideal S1024x3072 .bf16) (C S : FVec Ideal S512x128 .f32) (z : FVec Ideal S16x128 .f32) (y : S1x16x512x128.Idx) :
    out0_5 (F := Ideal) x w C S z y = headsV (scaledV x w C S) z y := by
  unfold out0_5
  rw [← pay_eq x w C S z]
  refine View.canon_apply_of_pieces (Val := Elt Ideal) (e := .bf16) (headsV (k0_pay33 x w C S z) z) _ ?_ y (cover0_5 _ _ _ _ _ _ _ _ _ _ _ _ _ _ _ _ y)
  have even := even_piece (k0_pay33 x w C S z) z
  have odd := odd_piece (k0_pay33 x w C S z) z
  simp only [List.forall_mem_cons]
  exact ⟨odd 15 (by decide) 896 rfl slices_S512x1024_o0_896_S512x128 _ _, even 14 (by decide) 896 rfl slices_S512x1024_o0_896_S512x128 _ _,
    odd 13 (by decide) 768 rfl slices_S512x1024_o0_768_S512x128 _ _, even 12 (by decide) 768 rfl slices_S512x1024_o0_768_S512x128 _ _,
    odd 11 (by decide) 640 rfl slices_S512x1024_o0_640_S512x128 _ _, even 10 (by decide) 640 rfl slices_S512x1024_o0_640_S512x128 _ _,
    odd 9 (by decide) 512 rfl slices_S512x1024_o0_512_S512x128 _ _, even 8 (by decide) 512 rfl slices_S512x1024_o0_512_S512x128 _ _,
    odd 7 (by decide) 384 rfl slices_S512x1024_o0_384_S512x128 _ _, even 6 (by decide) 384 rfl slices_S512x1024_o0_384_S512x128 _ _,
    odd 5 (by decide) 256 rfl slices_S512x1024_o0_256_S512x128 _ _, even 4 (by decide) 256 rfl slices_S512x1024_o0_256_S512x128 _ _,
    odd 3 (by decide) 128 rfl slices_S512x1024_o0_128_S512x128 _ _, even 2 (by decide) 128 rfl slices_S512x1024_o0_128_S512x128 _ _,
    odd 1 (by decide) 0 rfl slices_S512x1024_o0_0_S512x128 _ _, even 0 (by decide) 0 rfl slices_S512x1024_o0_0_S512x128 _ _, fun _ h => absurd h List.not_mem_nil⟩

end Cert.Turn

end
-- ==== Proof.TurnWeights.lean ====
/- The weights of the queries as their call finds them. -/
module

public import proofs.«01_k».proof.Proof.TurnValue
public import proofs.«01_k».proof.Proof.Gen.Kernel5Ideal
public import Idealize.ShloMosaic.Lib.Pipeline.ValueKit
public import Idealize.ShloMosaic.Lib.ValueLayout
public import Idealize.ShloMosaic.Lib.IdealHost

@[expose] public section

noncomputable section

namespace Cert.Turn

open Cert.Kernel5Ideal Cert.Kernel5Ideal.Gen
open Idealize.ShloMosaic hiding ix1 ix2 ix3 ix4 ix5 ix6
open Idealize.ShloMosaic.TcCoe Idealize.ShloMosaic.ValueIdx Idealize.SL.Sem Finset

/-- The weights of the queries by head and half. -/
def halvesV (w : FVec Ideal S1024x2048 .f32) : FVec Ideal S1024x16x2x32 .f32 :=
  shapeCast S1024x16x2x32 (extractStridedSlice S1024x1024 ![0, 0] w slices_S1024x2048_S1024x1024_0_0) shapeCasts_S1024x1024_S1024x16x2x32

theorem halvesV_apply (w : FVec Ideal S1024x2048 .f32) (e : Fin 1024) (h : Fin 16) (p : Fin 2) (i : Fin 32) (N : Fin 2048)
    (hN : N.val = h.val * 64 + p.val * 32 + i.val) : halvesV w (ix4 e h p i) = w (ix2 e N) := by
  unfold halvesV
  rw [shapeCast_apply _ _ (ix4 e h p i) (ix2 e (⟨h.val * 64 + p.val * 32 + i.val, by omega⟩ : Fin 1024)) (by
    rw [Shape.rowMajor_val_two, Shape.rowMajor_val_four]
    show e.val * 1024 + (h.val * 64 + p.val * 32 + i.val) = ((e.val * 16 + h.val) * 2 + p.val) * 32 + i.val
    omega)]
  exact extractStridedSlice_apply _ _ _ _ (ix2 e N) fun a => by
    match a with
    | ⟨0, _⟩ => show e.val = 0 + e.val; omega
    | ⟨1, _⟩ => show N.val = 0 + (h.val * 64 + p.val * 32 + i.val); omega

/-- The halves exchanged, the second negated. -/
def turnedV (w : FVec Ideal S1024x2048 .f32) : FVec Ideal S1024x1024 .f32 :=
  shapeCast S1024x1024 (concatenate S1024x16x2x32 2
    [⟨S1024x16x1x32, Host.negf (extractStridedSlice S1024x16x1x32 ![0, 0, 1, 0] (halvesV w) slices_S1024x16x2x32_S1024x16x1x32_0_0_1_0)⟩,
     ⟨S1024x16x1x32, extractStridedSlice S1024x16x1x32 ![0, 0, 0, 0] (halvesV w) slices_S1024x16x2x32_S1024x16x1x32_0_0_0_0⟩]
    concatenates_S1024x16x1x32_S1024x16x1x32_S1024x16x2x32_d2) shapeCasts_S1024x16x2x32_S1024x1024

theorem turnedV_apply (w : FVec Ideal S1024x2048 .f32) (e : Fin 1024) (n : Fin 1024) :
    turnedV w (ix2 e n) = if n.val % 64 < 32 then -w (ix2 e (⟨n.val + 32, by omega⟩ : Fin 2048)) else w (ix2 e (⟨n.val - 32, by omega⟩ : Fin 2048)) := by
  have hn := n.isLt
  unfold turnedV
  rw [shapeCast_apply _ _ (ix2 e n) (ix4 e (⟨n.val / 64, by omega⟩ : Fin 16) (⟨n.val % 64 / 32, by omega⟩ : Fin 2) (⟨n.val % 32, by omega⟩ : Fin 32)) (by
    rw [Shape.rowMajor_val_two, Shape.rowMajor_val_four]
    show ((e.val * 16 + n.val / 64) * 2 + n.val % 64 / 32) * 32 + n.val % 32 = e.val * 1024 + n.val
    omega)]
  by_cases h : n.val % 64 < 32
  · rw [if_pos h]
    refine (concatenate_apply_piece (t := S1024x16x2x32) 2 _ _ _ 0 (by simp) S1024x16x1x32
      (Host.negf (extractStridedSlice S1024x16x1x32 ![0, 0, 1, 0] (halvesV w) slices_S1024x16x2x32_S1024x16x1x32_0_0_1_0)) rfl rfl 0 rfl
      (ix4 e (⟨n.val / 64, by omega⟩ : Fin 16) (0 : Fin 1) (⟨n.val % 32, by omega⟩ : Fin 32))
      (fun a ha => by match a with | ⟨0, _⟩ => rfl | ⟨1, _⟩ => rfl | ⟨2, _⟩ => exact absurd rfl ha | ⟨3, _⟩ => rfl) (by show 0 + 0 = n.val % 64 / 32; omega)).trans ?_
    refine congrArg Neg.neg ((extractStridedSlice_apply _ _ _ _
      (ix4 e (⟨n.val / 64, by omega⟩ : Fin 16) (1 : Fin 2) (⟨n.val % 32, by omega⟩ : Fin 32)) fun a => ?_).trans
      (halvesV_apply w e _ _ _ _ (by show n.val + 32 = n.val / 64 * 64 + 1 * 32 + n.val % 32; omega)))
    match a with
    | ⟨0, _⟩ => show e.val = 0 + e.val; omega
    | ⟨1, _⟩ => show n.val / 64 = 0 + n.val / 64; omega
    | ⟨2, _⟩ => rfl
    | ⟨3, _⟩ => show n.val % 32 = 0 + n.val % 32; omega
  · rw [if_neg h]
    refine (concatenate_apply_piece (t := S1024x16x2x32) 2 _ _ _ 1 (by simp) S1024x16x1x32
      (extractStridedSlice S1024x16x1x32 ![0, 0, 0, 0] (halvesV w) slices_S1024x16x2x32_S1024x16x1x32_0_0_0_0) rfl rfl 1 rfl
      (ix4 e (⟨n.val / 64, by omega⟩ : Fin 16) (0 : Fin 1) (⟨n.val % 32, by omega⟩ : Fin 32))
      (fun a ha => by match a with | ⟨0, _⟩ => rfl | ⟨1, _⟩ => rfl | ⟨2, _⟩ => exact absurd rfl ha | ⟨3, _⟩ => rfl) (by show 1 + 0 = n.val % 64 / 32; omega)).trans ?_
    refine (extractStridedSlice_apply _ _ _ _
      (ix4 e (⟨n.val / 64, by omega⟩ : Fin 16) (0 : Fin 2) (⟨n.val % 32, by omega⟩ : Fin 32)) fun a => ?_).trans
      (halvesV_apply w e _ _ _ _ (by show n.val - 32 = n.val / 64 * 64 + 0 * 32 + n.val % 32; omega))
    match a with
    | ⟨0, _⟩ => show e.val = 0 + e.val; omega
    | ⟨1, _⟩ => show n.val / 64 = 0 + n.val / 64; omega
    | ⟨2, _⟩ => rfl
    | ⟨3, _⟩ => show n.val % 32 = 0 + n.val % 32; omega

/-- The weights as the call finds them: the queries', the queries' turned, the gate's. -/
def wideV (w : FVec Ideal S1024x2048 .f32) : FVec Ideal S1024x3072 .f32 :=
  concatenate S1024x3072 1 [⟨S1024x1024, extractStridedSlice S1024x1024 ![0, 0] w slices_S1024x2048_S1024x1024_0_0⟩, ⟨S1024x1024, turnedV w⟩,
    ⟨S1024x1024, extractStridedSlice S1024x1024 ![0, 1024] w slices_S1024x2048_S1024x1024_0_1024⟩] concatenates_S1024x1024_S1024x1024_S1024x1024_S1024x3072_d1

theorem wideV_queries (w : FVec Ideal S1024x2048 .f32) (e : Fin 1024) (n : Fin 1024) :
    wideV w (ix2 e (⟨0 + n.val, by omega⟩ : Fin 3072)) = w (ix2 e (⟨n.val, by omega⟩ : Fin 2048)) :=
  (concatenate_apply_piece (t := S1024x3072) 1 _ _ _ 0 (by simp) S1024x1024 (extractStridedSlice S1024x1024 ![0, 0] w slices_S1024x2048_S1024x1024_0_0) rfl rfl 0 rfl
    (ix2 e n) (fun a ha => by match a with | ⟨0, _⟩ => rfl | ⟨1, _⟩ => exact absurd rfl ha) rfl).trans
    (extractStridedSlice_apply _ _ _ _ _ fun a => by
      match a with
      | ⟨0, _⟩ => show e.val = 0 + e.val; omega
      | ⟨1, _⟩ => show n.val = 0 + n.val; omega)

theorem wideV_turned (w : FVec Ideal S1024x2048 .f32) (e : Fin 1024) (n : Fin 1024) :
    wideV w (ix2 e (⟨1024 + n.val, by omega⟩ : Fin 3072)) = turnedV w (ix2 e n) :=
  concatenate_apply_piece (t := S1024x3072) 1 _ _ _ 1 (by simp) S1024x1024 (turnedV w) rfl rfl 1024 rfl
    (ix2 e n) (fun a ha => by match a with | ⟨0, _⟩ => rfl | ⟨1, _⟩ => exact absurd rfl ha) rfl

theorem wideV_gate (w : FVec Ideal S1024x2048 .f32) (e : Fin 1024) (n : Fin 1024) :
    wideV w (ix2 e (⟨2048 + n.val, by omega⟩ : Fin 3072)) = w (ix2 e (⟨1024 + n.val, by omega⟩ : Fin 2048)) :=
  (concatenate_apply_piece (t := S1024x3072) 1 _ _ _ 2 (by simp) S1024x1024 (extractStridedSlice S1024x1024 ![0, 1024] w slices_S1024x2048_S1024x1024_0_1024) rfl rfl 2048 rfl
    (ix2 e n) (fun a ha => by match a with | ⟨0, _⟩ => rfl | ⟨1, _⟩ => exact absurd rfl ha) rfl).trans
    (extractStridedSlice_apply _ _ _ _ _ fun a => by
      match a with
      | ⟨0, _⟩ => show e.val = 0 + e.val; omega
      | ⟨1, _⟩ => rfl)

end Cert.Turn

end
-- ==== Proof.Turn.lean ====
/- The arrays of the queries and the gate after their call, and the run. -/
module

public import proofs.«01_k».proof.Proof.TurnBlock
public import proofs.«01_k».proof.Proof.TurnWeights

@[expose] public section

noncomputable section

namespace Cert.Turn

open Cert.Kernel5Ideal Cert.Kernel5Ideal.Gen
open Idealize.ShloMosaic hiding ix1 ix2 ix3 ix4 ix5 ix6
open Idealize.ShloMosaic.TcCoe Idealize.ShloMosaic.ValueIdx Idealize.SL.Sem Finset
open Cert.Kv (spot lane angles tableV tableV_apply)

variable (m : (ℓ : Loc nD τ sig) → Buf (Elt Ideal) ℓ)

theorem V_weights (c : Dev nD) : V m c main_v38 = (truncf .bf16 (wideV (m ((c : Thread nD τ).loc main_arg1))) bitsLt_bf16_f32 : FVec Ideal S1024x3072 .bf16) := by
  simp only [V, hostOps0]
  after_results_simp
  all_goals rfl

theorem V_cos (c : Dev nD) : V m c main_v25 = tableV (Host.cos angles) := by
  simp only [V, hostOps0]
  after_results_simp
  all_goals rfl

theorem V_sin (c : Dev nD) : V m c main_v28 = tableV (Host.sin angles) := by
  simp only [V, hostOps0]
  after_results_simp
  all_goals rfl

/-- The rows beside the queries are zero. -/
theorem V_zero (c : Dev nD) (h : Fin 16) (l : Fin 128) : V m c main_v39 (ix2 h l) = (Scalar.ofBits .f32 0x00000000#32 : Ideal .f32) := by
  simp only [V, hostOps0]
  after_results_simp
  all_goals rfl

theorem ind0 : ∀ t : Fin cfg0.N, win0_0.index t = ![t.val, 0] := by decide +kernel
theorem ind1 : ∀ t : Fin cfg0.N, win0_1.index t = ![0, 0] := by decide +kernel
theorem ind2 : ∀ t : Fin cfg0.N, win0_2.index t = ![t.val, 0] := by decide +kernel
theorem ind3 : ∀ t : Fin cfg0.N, win0_3.index t = ![t.val, 0] := by decide +kernel
theorem ind4 : ∀ t : Fin cfg0.N, win0_4.index t = ![0, 0] := by decide +kernel
theorem ind5 : ∀ t : Fin cfg0.N, win0_5.index t = ![t.val / 16, 0, t.val % 16, 0] := by decide +kernel
theorem ind6 : ∀ t : Fin cfg0.N, win0_6.index t = ![t.val, 0] := by decide +kernel

theorem points (t : Fin cfg0.N) : t.val < 32 := t.isLt

/-- The row of the arrays at a row of a grid point's block. -/
def rowAt (t : Fin cfg0.N) (r : Fin 512) : Fin 16384 := ⟨512 * t.val + r.val, by have := points t; omega⟩

theorem blk0_apply (c : Dev nD) (t : Fin cfg0.N) (r : Fin 512) (e : Fin 1024) :
    iblk m c 0 t (ix2 r e) = m ((c : Thread nD τ).loc main_arg0) (ix2 (rowAt t r) e) := by
  blk_simp [iblk]
  refine (congrFun (V_main_arg0 m c) _).trans (congrArg _ ?_)
  funext a; apply Fin.ext
  match a with
  | ⟨0, _⟩ => blk_simp [ind0]; show t.val * 512 + r.val = 512 * t.val + r.val; omega
  | ⟨1, _⟩ => blk_simp [ind0]

theorem blk1_apply (c : Dev nD) (t : Fin cfg0.N) (e : Fin 1024) (n : Fin 3072) :
    iblk m c 1 t (ix2 e n) = wideV (m ((c : Thread nD τ).loc main_arg1)) (ix2 e n) := by
  blk_simp [iblk]
  refine (congrFun (V_weights m c) _).trans ?_
  show wideV (m ((c : Thread nD τ).loc main_arg1)) _ = _
  refine congrArg _ ?_
  funext a; apply Fin.ext
  match a with
  | ⟨0, _⟩ => blk_simp [ind1]
  | ⟨1, _⟩ => blk_simp [ind1]

theorem blk2_apply (c : Dev nD) (t : Fin cfg0.N) (r : Fin 512) (l : Fin 128) :
    iblk m c 2 t (ix2 r l) = (Host.cos angles : FVec Ideal S8192x32 .f32) (ix2 (spot (rowAt t r)) (lane l)) := by
  blk_simp [iblk]
  refine (congrFun (V_cos m c) _).trans ((congrArg _ ?_).trans (tableV_apply _ (rowAt t r) l))
  funext a; apply Fin.ext
  match a with
  | ⟨0, _⟩ => blk_simp [ind2]; show t.val * 512 + r.val = 512 * t.val + r.val; omega
  | ⟨1, _⟩ => blk_simp [ind2]

theorem blk3_apply (c : Dev nD) (t : Fin cfg0.N) (r : Fin 512) (l : Fin 128) :
    iblk m c 3 t (ix2 r l) = (Host.sin angles : FVec Ideal S8192x32 .f32) (ix2 (spot (rowAt t r)) (lane l)) := by
  blk_simp [iblk]
  refine (congrFun (V_sin m c) _).trans ((congrArg _ ?_).trans (tableV_apply _ (rowAt t r) l))
  funext a; apply Fin.ext
  match a with
  | ⟨0, _⟩ => blk_simp [ind3]; show t.val * 512 + r.val = 512 * t.val + r.val; omega
  | ⟨1, _⟩ => blk_simp [ind3]

theorem blk4_apply (c : Dev nD) (t : Fin cfg0.N) (h : Fin 16) (l : Fin 128) :
    iblk m c 4 t (ix2 h l) = (Scalar.ofBits .f32 0x00000000#32 : Ideal .f32) := by
  blk_simp [iblk]
  refine (congrArg _ ?_).trans (V_zero m c h l)
  funext a; apply Fin.ext
  match a with
  | ⟨0, _⟩ => blk_simp [ind4]
  | ⟨1, _⟩ => blk_simp [ind4]

theorem lane_part (n : Fin 1024) : lane (⟨n.val % 128, by omega⟩ : Fin 128) = lane n := Fin.ext (by show n.val % 128 % 32 = n.val % 32; omega)

theorem scaled_blk (hx : ∀ (c : Dev nD) j, ∃ y : ℝ, m ((c.tc : Thread nD τ).loc main_arg0) j = (y : EReal))
    (hw : ∀ (c : Dev nD) j, ∃ y : ℝ, m ((c.tc : Thread nD τ).loc main_arg1) j = (y : EReal))
    (c : Dev nD) (t : Fin cfg0.N) (r : Fin 512) (n : Fin 1024) :
    scaledV (iblk m c 0 t) (iblk m c 1 t) (iblk m c 2 t) (iblk m c 3 t) (ix2 r n)
      = turned (m ((c : Thread nD τ).loc main_arg0)) (m ((c : Thread nD τ).loc main_arg1)) (Host.cos angles) (Host.sin angles) (rowAt t r) n
        * (Scalar.ofBits .f32 0x3E000000#32 : Ideal .f32) := by
  refine (scaledV_apply _ _ _ _ r n).trans ?_
  simp only [blk0_apply, blk1_apply, blk2_apply, blk3_apply, wideV_queries, wideV_turned, turnedV_apply, lane_part]
  unfold turned
  by_cases h : n.val % 64 < 32
  · simp only [if_pos h]
    rw [Cert.Kv.prod_neg _ _ (fun e => hx c _) (fun e => hw c _), EReal.neg_mul, ← sub_eq_add_neg]
    rfl
  · simp only [if_neg h]
    rfl

/-- The queries' block at a grid point. -/
theorem heads_blk (hx : ∀ (c : Dev nD) j, ∃ y : ℝ, m ((c.tc : Thread nD τ).loc main_arg0) j = (y : EReal))
    (hw : ∀ (c : Dev nD) j, ∃ y : ℝ, m ((c.tc : Thread nD τ).loc main_arg1) j = (y : EReal))
    (c : Dev nD) (t : Fin cfg0.N) (b : Fin 1) (h : Fin 16) (r : Fin 512) (l : Fin 128) :
    out0_5 (F := Ideal) (iblk m c 0 t) (iblk m c 1 t) (iblk m c 2 t) (iblk m c 3 t) (iblk m c 4 t) (ix4 b h r l)
      = query (m ((c : Thread nD τ).loc main_arg0)) (m ((c : Thread nD τ).loc main_arg1)) (Host.cos angles) (Host.sin angles)
          ⟨t.val / 16, by have := points t; omega⟩ h ⟨512 * (t.val % 16) + r.val, by omega⟩ l := by
  refine (out5_eq _ _ _ _ _ _).trans ?_
  unfold headsV Cert.Proj.headsG query
  by_cases hl : l.val < 64
  · rw [dif_pos (show ((ix4 b h r l) 3).val < 64 from hl), dif_pos hl]
    refine (scaled_blk m hx hw c t r ⟨64 * h.val + l.val, by omega⟩).trans ?_
    rw [show rowAt t r = (⟨8192 * (t.val / 16) + (512 * (t.val % 16) + r.val), by have := points t; omega⟩ : Fin 16384) from
      Fin.ext (by show 512 * t.val + r.val = 8192 * (t.val / 16) + (512 * (t.val % 16) + r.val); omega)]
  · rw [dif_neg (show ¬ ((ix4 b h r l) 3).val < 64 from hl), dif_neg hl]
    exact blk4_apply m c t h l

theorem queriesV_of (x : Cert.Kv.Rows) (w : Weights) (C S : Cert.Kv.Angles) (j : S2x16x8192x128.Idx) (b : Fin 2) (h : Fin 16) (s : Fin 8192) (l : Fin 128)
    (h0 : (j 0).val = b.val) (h1 : (j 1).val = h.val) (h2 : (j 2).val = s.val) (h3 : (j 3).val = l.val) :
    queriesV x w C S j = query x w C S b h s l := by
  unfold queriesV
  rw [show j 0 = b from Fin.ext h0, show j 1 = h from Fin.ext h1, show j 2 = s from Fin.ext h2, show j 3 = l from Fin.ext h3]

theorem arr5 (hx : ∀ (c : Dev nD) j, ∃ y : ℝ, m ((c.tc : Thread nD τ).loc main_arg0) j = (y : EReal))
    (hw : ∀ (c : Dev nD) j, ∃ y : ℝ, m ((c.tc : Thread nD τ).loc main_arg1) j = (y : EReal)) (c : Dev nD) : (dats m 0 c).arrAt 5 cfg0.N
    = queriesV (m ((c : Thread nD τ).loc main_arg0)) (m ((c : Thread nD τ).loc main_arg1)) (Host.cos angles) (Host.sin angles) := by
  refine (dats m 0 c).arrAt_eq_of_covers 5 _ (by decide +kernel) fun t hf y => ?_
  blk_simp
  rw [after0_5]
  obtain ⟨b, h, r, l, rfl⟩ : ∃ (b : Fin 1) (h : Fin 16) (r : Fin 512) (l : Fin 128), y = ix4 b h r l := ⟨y 0, y 1, y 2, y 3, by
    funext a; match a with | ⟨0, _⟩ => rfl | ⟨1, _⟩ => rfl | ⟨2, _⟩ => rfl | ⟨3, _⟩ => rfl⟩
  refine (heads_blk m hx hw c t b h r l).trans (queriesV_of _ _ _ _ _ _ _ _ _ ?_ ?_ ?_ ?_).symm
  · blk_simp [ind5]
  · blk_simp [ind5]
  · blk_simp [ind5]; show t.val % 16 * 512 + r.val = 512 * (t.val % 16) + r.val; omega
  · blk_simp [ind5]

theorem gate_blk (c : Dev nD) (t : Fin cfg0.N) (r : Fin 512) (n : Fin 1024) :
    out0_6 (F := Ideal) (iblk m c 0 t) (iblk m c 1 t) (iblk m c 2 t) (iblk m c 3 t) (iblk m c 4 t) (ix2 r n)
      = gateV (m ((c : Thread nD τ).loc main_arg0)) (m ((c : Thread nD τ).loc main_arg1)) (ix2 (rowAt t r) n) := by
  refine (outGate_apply _ _ _ _ _ r n).trans ?_
  simp only [blk0_apply, blk1_apply, wideV_gate]
  rfl

theorem arr6 (c : Dev nD) : (dats m 0 c).arrAt 6 cfg0.N
    = gateV (m ((c : Thread nD τ).loc main_arg0)) (m ((c : Thread nD τ).loc main_arg1)) := by
  refine (dats m 0 c).arrAt_eq_of_covers 6 _ (by decide +kernel) fun t hf y => ?_
  blk_simp
  rw [after0_6]
  obtain ⟨r, n, rfl⟩ : ∃ (r : Fin 512) (n : Fin 1024), y = ix2 r n := ⟨y 0, y 1, by funext a; match a with | ⟨0, _⟩ => rfl | ⟨1, _⟩ => rfl⟩
  refine (gate_blk m c t r n).trans (congrArg _ ?_)
  funext a; apply Fin.ext
  match a with
  | ⟨0, _⟩ => blk_simp [ind6]; show 512 * t.val + r.val = t.val * 512 + r.val; omega
  | ⟨1, _⟩ => blk_simp [ind6]

/-- The kernel's run from real arguments: the two results and the arguments unchanged. -/
theorem run (hx : ∀ (c : Dev nD) j, ∃ y : ℝ, m ((c.tc : Thread nD τ).loc main_arg0) j = (y : EReal))
    (hw : ∀ (c : Dev nD) j, ∃ y : ℝ, m ((c.tc : Thread nD τ).loc main_arg1) j = (y : EReal)) (ρ : Dev nD → PrngReg) :
    θ_run defs (onTc (τ := τ) (main (F := Ideal))) ⟨m, fun _ => 0, ρ⟩ (fun r => ∀ c : Dev nD,
      r.2.mem ((c.tc : Thread nD τ).loc main_v40_0) = queriesV (m ((c.tc : Thread nD τ).loc main_arg0)) (m ((c.tc : Thread nD τ).loc main_arg1)) (Host.cos angles) (Host.sin angles)
      ∧ r.2.mem ((c.tc : Thread nD τ).loc main_v40_1) = gateV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr5 m hx hw c), (h c).2.1.trans (arr6 m c), (h c).2.2⟩) (Value.run_blocks m ρ)

end Cert.Turn

end
-- ==== Proof.TurnRef.lean ====
/- The reference of the queries with positions, at every index. -/
module

public import proofs.«01_k».proof.Proof.TurnValue
public import proofs.«01_k».proof.Proof.KvRef
public import proofs.«01_k».proof.Proof.Gen.Reference5Ideal.Run
public import Idealize.ShloMosaic.Lib.Pipeline.ValueKit
public import Idealize.ShloMosaic.Lib.ValueLayout
public import Idealize.ShloMosaic.Lib.IdealHost

@[expose] public section

noncomputable section

namespace Cert.Turn.Ref

open Cert.Reference5Ideal Cert.Reference5Ideal.Gen
open Idealize.ShloMosaic hiding ix1 ix2 ix3 ix4 ix5 ix6
open Idealize.ShloMosaic.TcCoe Idealize.ShloMosaic.ValueIdx Idealize.SL.Sem Finset
open Cert.Kv (spot lane)

theorem dot_lhs (r : Fin 16384) (n : Fin 2048) (e : Fin 1024) :
    dot_S16384x1024_S1024x2048_S16384x2048_1_0_0_1_n_n.lhsIdx (ix2 r n)
      ((contrEquiv1 dot_S16384x1024_S1024x2048_S16384x2048_1_0_0_1_n_n 1024 rfl rfl).symm e) = ix2 r e := by
  funext a; match a with | ⟨0, _⟩ => rfl | ⟨1, _⟩ => rfl

theorem dot_rhs (r : Fin 16384) (n : Fin 2048) (e : Fin 1024) :
    dot_S16384x1024_S1024x2048_S16384x2048_1_0_0_1_n_n.rhsIdx (ix2 r n)
      ((contrEquiv1 dot_S16384x1024_S1024x2048_S16384x2048_1_0_0_1_n_n 1024 rfl rfl).symm e) = ix2 e n := by
  funext a; match a with | ⟨0, _⟩ => rfl | ⟨1, _⟩ => rfl

/-- The rows' products with the whole weights. -/
def allV (x : FVec Ideal S16384x1024 .f32) (w : FVec Ideal S1024x2048 .f32) : FVec Ideal S16384x2048 .f32 :=
  Host.dotGeneral dot_S16384x1024_S1024x2048_S16384x2048_1_0_0_1_n_n none x w

theorem allV_apply (x : FVec Ideal S16384x1024 .f32) (w : FVec Ideal S1024x2048 .f32) (r : Fin 16384) (n : Fin 2048) :
    allV x w (ix2 r n) = entry x w r n := by
  show FloatOps.matmul (F := Ideal) dot_S16384x1024_S1024x2048_S16384x2048_1_0_0_1_n_n none _ _ (fun _ => 0) (ix2 r n) = _
  rw [Ideal.matmul_apply]
  show (0 : EReal) + _ = _
  rw [zero_add, ← (contrEquiv1 dot_S16384x1024_S1024x2048_S16384x2048_1_0_0_1_n_n 1024 rfl rfl).symm.sum_comp]
  unfold entry Cert.Proj.prod
  refine Finset.sum_congr rfl fun e _ => ?_
  rw [dot_lhs, dot_rhs]

/-- The queries by head. -/
def headsV (x : FVec Ideal S16384x1024 .f32) (w : FVec Ideal S1024x2048 .f32) : FVec Ideal S2x8192x16x64 .f32 :=
  shapeCast _ (extractStridedSlice S16384x1024 ![0, 0] (allV x w) slices_S16384x2048_S16384x1024_0_0) shapeCasts_S16384x1024_S2x8192x16x64

theorem headsV_apply (x : FVec Ideal S16384x1024 .f32) (w : FVec Ideal S1024x2048 .f32) (b : Fin 2) (s : Fin 8192) (h : Fin 16) (d : Fin 64) (N : Fin 2048)
    (hN : N.val = 64 * h.val + d.val) : headsV x w (ix4 b s h d) = entry x w ⟨8192 * b.val + s.val, by omega⟩ N := by
  unfold headsV
  rw [shapeCast_apply _ _ _ (ix2 (⟨8192 * b.val + s.val, by omega⟩ : Fin 16384) (⟨64 * h.val + d.val, by omega⟩ : Fin 1024)) (by
    rw [Shape.rowMajor_val_two, Shape.rowMajor_val_four]
    show (8192 * b.val + s.val) * 1024 + (64 * h.val + d.val) = ((b.val * 8192 + s.val) * 16 + h.val) * 64 + d.val
    omega)]
  refine (extractStridedSlice_apply _ _ _ _ (ix2 (⟨8192 * b.val + s.val, by omega⟩ : Fin 16384) N) fun a => ?_).trans (allV_apply x w _ N)
  match a with
  | ⟨0, _⟩ => exact (Nat.zero_add _).symm
  | ⟨1, _⟩ => exact hN.trans (Nat.zero_add _).symm

/-- A table of the angles at every head. -/
def spreadV (C : FVec Ideal S8192x32 .f32) : FVec Ideal S2x8192x16x32 .f32 :=
  broadcastInDim S2x8192x16x32 ![0, 1, 2, 3] bcast_S1x8192x1x32_S2x8192x16x32_0_1_2_3 (broadcastInDim S1x8192x1x32 ![1, 3] bcast_S8192x32_S1x8192x1x32_1_3 C)

theorem spreadV_apply (C : FVec Ideal S8192x32 .f32) (b : Fin 2) (s : Fin 8192) (h : Fin 16) (i : Fin 32) : spreadV C (ix4 b s h i) = C (ix2 s i) :=
  (broadcastInDim_apply _ _ _ _ (ix4 (0 : Fin 1) s (0 : Fin 1) i) fun a => by match a with | ⟨0, _⟩ => rfl | ⟨1, _⟩ => rfl | ⟨2, _⟩ => rfl | ⟨3, _⟩ => rfl).trans
    (broadcastInDim_apply _ _ _ _ (ix2 s i) fun a => by match a with | ⟨0, _⟩ => rfl | ⟨1, _⟩ => rfl)

def firstV (z : FVec Ideal S2x8192x16x64 .f32) : FVec Ideal S2x8192x16x32 .f32 :=
  extractStridedSlice S2x8192x16x32 ![0, 0, 0, 0] z slices_S2x8192x16x64_S2x8192x16x32_0_0_0_0

def secondV (z : FVec Ideal S2x8192x16x64 .f32) : FVec Ideal S2x8192x16x32 .f32 :=
  extractStridedSlice S2x8192x16x32 ![0, 0, 0, 32] z slices_S2x8192x16x64_S2x8192x16x32_0_0_0_32

theorem firstV_apply (z : FVec Ideal S2x8192x16x64 .f32) (b : Fin 2) (s : Fin 8192) (h : Fin 16) (i : Fin 32) :
    firstV z (ix4 b s h i) = z (ix4 b s h (⟨i.val, by omega⟩ : Fin 64)) :=
  extractStridedSlice_apply _ _ _ _ _ fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm

theorem secondV_apply (z : FVec Ideal S2x8192x16x64 .f32) (b : Fin 2) (s : Fin 8192) (h : Fin 16) (i : Fin 32) :
    secondV z (ix4 b s h i) = z (ix4 b s h (⟨32 + i.val, by omega⟩ : Fin 64)) :=
  extractStridedSlice_apply _ _ _ _ _ fun a => by
    match a with
    | ⟨0, _⟩ => exact (Nat.zero_add _).symm
    | ⟨1, _⟩ => exact (Nat.zero_add _).symm
    | ⟨2, _⟩ => exact (Nat.zero_add _).symm
    | ⟨3, _⟩ => rfl

def lowV (z : FVec Ideal S2x8192x16x64 .f32) (C S : FVec Ideal S8192x32 .f32) : FVec Ideal S2x8192x16x32 .f32 :=
  subf (mulf (firstV z) (spreadV C)) (mulf (secondV z) (spreadV S))

def highV (z : FVec Ideal S2x8192x16x64 .f32) (C S : FVec Ideal S8192x32 .f32) : FVec Ideal S2x8192x16x32 .f32 :=
  addf (mulf (secondV z) (spreadV C)) (mulf (firstV z) (spreadV S))

/-- The heads turned. -/
def turnV (z : FVec Ideal S2x8192x16x64 .f32) (C S : FVec Ideal S8192x32 .f32) : FVec Ideal S2x8192x16x64 .f32 :=
  concatenate S2x8192x16x64 3 [⟨S2x8192x16x32, lowV z C S⟩, ⟨S2x8192x16x32, highV z C S⟩]
    concatenates_S2x8192x16x32_S2x8192x16x32_S2x8192x16x64_d3

theorem turnV_apply (x : FVec Ideal S16384x1024 .f32) (w : FVec Ideal S1024x2048 .f32) (C S : FVec Ideal S8192x32 .f32)
    (b : Fin 2) (s : Fin 8192) (h : Fin 16) (d : Fin 64) :
    turnV (headsV x w) C S (ix4 b s h d) = turned x w C S ⟨8192 * b.val + s.val, by omega⟩ ⟨64 * h.val + d.val, by omega⟩ := by
  have hs : spot ⟨8192 * b.val + s.val, by omega⟩ = s := Fin.ext (by show (8192 * b.val + s.val) % 8192 = s.val; omega)
  have hd : lane (⟨64 * h.val + d.val, by omega⟩ : Fin 1024) = lane d := Fin.ext (by show (64 * h.val + d.val) % 32 = d.val % 32; omega)
  unfold turnV turned
  rw [hs, hd]
  by_cases h1 : d.val < 32
  · rw [if_pos (show (64 * h.val + d.val) % 64 < 32 by omega)]
    refine (concatenate_apply_piece (t := S2x8192x16x64) 3 _ _ _ 0 (by simp) S2x8192x16x32 (lowV (headsV x w) C S) rfl rfl 0 rfl
      (ix4 b s h (lane d))
      (fun a ha => by match a with | ⟨0, _⟩ => rfl | ⟨1, _⟩ => rfl | ⟨2, _⟩ => rfl | ⟨3, _⟩ => exact absurd rfl ha)
      (by show 0 + d.val % 32 = d.val; omega)).trans ?_
    show firstV _ _ * spreadV C _ - secondV _ _ * spreadV S _ = _
    rw [spreadV_apply, spreadV_apply, firstV_apply, secondV_apply,
      headsV_apply x w b s h _ ⟨64 * h.val + d.val, by omega⟩ (by show 64 * h.val + d.val = 64 * h.val + d.val % 32; omega),
      headsV_apply x w b s h _ ⟨64 * h.val + d.val + 32, by omega⟩ (by show 64 * h.val + d.val + 32 = 64 * h.val + (32 + d.val % 32); omega)]
  · rw [if_neg (show ¬ (64 * h.val + d.val) % 64 < 32 by omega)]
    refine (concatenate_apply_piece (t := S2x8192x16x64) 3 _ _ _ 1 (by simp) S2x8192x16x32 (highV (headsV x w) C S) rfl rfl 32 rfl
      (ix4 b s h (lane d))
      (fun a ha => by match a with | ⟨0, _⟩ => rfl | ⟨1, _⟩ => rfl | ⟨2, _⟩ => rfl | ⟨3, _⟩ => exact absurd rfl ha)
      (by show 32 + d.val % 32 = d.val; omega)).trans ?_
    show secondV _ _ * spreadV C _ + firstV _ _ * spreadV S _ = _
    rw [spreadV_apply, spreadV_apply, firstV_apply, secondV_apply,
      headsV_apply x w b s h _ ⟨64 * h.val + d.val, by omega⟩ (by show 64 * h.val + d.val = 64 * h.val + (32 + d.val % 32); omega),
      headsV_apply x w b s h _ ⟨64 * h.val + d.val - 32, by omega⟩ (by show 64 * h.val + d.val - 32 = 64 * h.val + d.val % 32; omega)]

/-- The turned heads first, scaled. -/
def scaledV (z : FVec Ideal S2x8192x16x64 .f32) : FVec Ideal S2x16x8192x64 .f32 :=
  mulf (transpose S2x16x8192x64 [0, 2, 1, 3] z transposes_S2x8192x16x64_S2x16x8192x64_0_2_1_3)
    (broadcastInDim S2x16x8192x64 ![] bcast_S_S2x16x8192x64 (constant S_ .f32 0x3E000000#32))

theorem scaledV_apply (z : FVec Ideal S2x8192x16x64 .f32) (b : Fin 2) (h : Fin 16) (s : Fin 8192) (d : Fin 64) :
    scaledV z (ix4 b h s d) = z (ix4 b s h d) * (Scalar.ofBits .f32 0x3E000000#32 : Ideal .f32) := by
  unfold scaledV
  refine Eq.trans (b := _ * (Scalar.ofBits .f32 0x3E000000#32 : Ideal .f32)) rfl ?_
  refine congrArg (· * (Scalar.ofBits .f32 0x3E000000#32 : Ideal .f32)) ?_
  exact transpose_apply _ _ _ (ix4 b h s d) (ix4 b s h d) (fun a => by match a with | ⟨0, _⟩ => rfl | ⟨1, _⟩ => rfl | ⟨2, _⟩ => rfl | ⟨3, _⟩ => rfl)

/-- The zeros beside them. -/
def zerosV : FVec Ideal S2x16x8192x64 .f32 := broadcastInDim S2x16x8192x64 ![] bcast_S_S2x16x8192x64 (constant S_ .f32 0x00000000#32)

theorem queries_eq (x : FVec Ideal S16384x1024 .f32) (w : FVec Ideal S1024x2048 .f32) (C S : FVec Ideal S8192x32 .f32) :
    truncf .bf16 (concatenate S2x16x8192x128 3 [⟨S2x16x8192x64, scaledV (turnV (headsV x w) C S)⟩, ⟨S2x16x8192x64, zerosV⟩]
      concatenates_S2x16x8192x64_S2x16x8192x64_S2x16x8192x128_d3) bitsLt_bf16_f32 = queriesV x w C S := funext fun j => by
  obtain ⟨b, h, s, l, rfl⟩ : ∃ (b : Fin 2) (h : Fin 16) (s : Fin 8192) (l : Fin 128), j = ix4 b h s l := ⟨j 0, j 1, j 2, j 3, by
    funext c; match c with | ⟨0, _⟩ => rfl | ⟨1, _⟩ => rfl | ⟨2, _⟩ => rfl | ⟨3, _⟩ => rfl⟩
  show concatenate S2x16x8192x128 3 [⟨S2x16x8192x64, scaledV (turnV (headsV x w) C S)⟩, ⟨S2x16x8192x64, zerosV⟩]
    concatenates_S2x16x8192x64_S2x16x8192x64_S2x16x8192x128_d3 (ix4 b h s l) = query x w C S b h s l
  have hl := l.isLt
  unfold query
  by_cases h1 : l.val < 64
  · rw [dif_pos h1]
    refine Eq.trans ?_ ((scaledV_apply _ b h s ⟨l.val, h1⟩).trans (congrArg (· * (Scalar.ofBits .f32 0x3E000000#32 : Ideal .f32)) (turnV_apply x w C S b s h ⟨l.val, h1⟩)))
    exact concatenate_apply_piece (t := S2x16x8192x128) 3 _ _ _ 0 (by simp) S2x16x8192x64 (scaledV (turnV (headsV x w) C S)) rfl rfl 0 rfl _
      (fun a ha => by match a with | ⟨0, _⟩ => rfl | ⟨1, _⟩ => rfl | ⟨2, _⟩ => rfl | ⟨3, _⟩ => exact absurd rfl ha) (by show 0 + l.val = l.val; omega)
  · rw [dif_neg h1]
    exact (concatenate_apply_piece (t := S2x16x8192x128) 3 _ _ _ 1 (by simp) S2x16x8192x64 zerosV rfl rfl 64 rfl (ix4 b h s (⟨l.val - 64, by omega⟩ : Fin 64))
      (fun a ha => by match a with | ⟨0, _⟩ => rfl | ⟨1, _⟩ => rfl | ⟨2, _⟩ => rfl | ⟨3, _⟩ => exact absurd rfl ha) (by show 64 + (l.val - 64) = l.val; omega)).trans rfl

theorem gate_eq (x : FVec Ideal S16384x1024 .f32) (w : FVec Ideal S1024x2048 .f32) :
    extractStridedSlice S16384x1024 ![0, 1024] (Host.dotGeneral dot_S16384x1024_S1024x2048_S16384x2048_1_0_0_1_n_n none x w) slices_S16384x2048_S16384x1024_0_1024
      = gateV x w := funext fun j => by
  obtain ⟨r, n, rfl⟩ : ∃ (r : Fin 16384) (n : Fin 1024), j = ix2 r n := ⟨j 0, j 1, by funext a; match a with | ⟨0, _⟩ => rfl | ⟨1, _⟩ => rfl⟩
  refine (extractStridedSlice_apply _ _ _ _ (ix2 r (⟨1024 + n.val, by omega⟩ : Fin 2048)) fun a => ?_).trans (allV_apply x w r _)
  match a with
  | ⟨0, _⟩ => exact (Nat.zero_add _).symm
  | ⟨1, _⟩ => rfl

variable (m : (ℓ : Loc nD τ sig) → Buf (Elt Ideal) ℓ)

/-- The reference's run: the two results and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v41) = queriesV (m ((c.tc : Thread nD τ).loc main_arg0)) (m ((c.tc : Thread nD τ).loc main_arg1)) (Host.cos Cert.Kv.Ref.angles) (Host.sin Cert.Kv.Ref.angles)
      ∧ r.2.mem ((c.tc : Thread nD τ).loc main_v2) = gateV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((show Value.res_main_v41 m c = truncf .bf16 (concatenate S2x16x8192x128 3
      [⟨S2x16x8192x64, scaledV (turnV (headsV _ _) (Host.cos Cert.Kv.Ref.angles) (Host.sin Cert.Kv.Ref.angles))⟩, ⟨S2x16x8192x64, zerosV⟩]
      concatenates_S2x16x8192x64_S2x16x8192x64_S2x16x8192x128_d3) bitsLt_bf16_f32 from rfl).trans (queries_eq _ _ _ _)), (h c).2.1.trans (gate_eq _ _), (h c).2.2⟩)
    (Cert.Reference5Ideal.Value.run (F := Ideal) m ρ)

end Cert.Turn.Ref

end
-- ==== Proof.TurnFinite.lean ====
/- What the precondition on the queries with positions says: every row's entry and every weight is a real number. -/
module

public import proofs.«01_k».proof.Pre_finite5
public import proofs.«01_k».proof.Proof.Finite

@[expose] public section

noncomputable section

namespace Cert.Turn.Finite

open Cert.Pre_finite5 Idealize.ShloMosaic Idealize.ShloMosaic.ValueIdx

theorem facts : Facts where
  bcast_S_S16384x1024 := by decide
  reducesTo_S16384x1024_S_d0_1 := by decide
  h_S_ := by decide
  bcast_S_S1024x2048 := by decide
  reducesTo_S1024x2048_S_d0_1 := by decide

instance : Subsingleton S_.Idx := ⟨fun _ _ => funext fun a => a.elim0⟩

theorem rows [h0 : Facts] (x : FVec Ideal S16384x1024 .f32) (w : FVec Ideal S1024x2048 .f32) (h : fn x w ix0 = 1#1) (j : S16384x1024.Idx) :
    ∃ y : ℝ, (x j : EReal) = (y : EReal) :=
  Cert.Stick.Finite.coe_of_cmp (x j) (Host.reduce_andi_all _ _ _ _ _ (IntOp.andi_eq_one.1 h).1 j)

theorem weights [h0 : Facts] (x : FVec Ideal S16384x1024 .f32) (w : FVec Ideal S1024x2048 .f32) (h : fn x w ix0 = 1#1) (j : S1024x2048.Idx) :
    ∃ y : ℝ, (w j : EReal) = (y : EReal) :=
  Cert.Stick.Finite.coe_of_cmp (w j) (Host.reduce_andi_all _ _ _ _ _ (IntOp.andi_eq_one.1 h).2 j)

end Cert.Turn.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Result
public import proofs.«01_k».proof.Proof.Reference
public import proofs.«01_k».proof.Proof.Finite
public import proofs.«01_k».proof.Proof.Proj
public import proofs.«01_k».proof.Proof.ProjRef
public import proofs.«01_k».proof.Proof.PostBlock
public import proofs.«01_k».proof.Proof.PostRef
public import proofs.«01_k».proof.Proof.KvBlock
public import proofs.«01_k».proof.Proof.KvRef
public import proofs.«01_k».proof.Proof.KvFinite
public import proofs.«01_k».proof.Proof.Turn
public import proofs.«01_k».proof.Proof.TurnRef
public import proofs.«01_k».proof.Proof.TurnFinite
public import Idealize.ShloMosaic.Adequacy
public import Idealize.ShloMosaic.Init

@[expose] public section

noncomputable section

namespace Cert.Proof

open Idealize.ShloMosaic Idealize.SL.Sem

/-- The reference leaves its arguments unchanged and has no semaphore at all. -/
theorem frame_reference : Cert.quiescent_ReferenceIdeal := fun m ρ _ =>
  (θ_run Cert.ReferenceIdeal.defs _ _).mono (fun _ h => ⟨fun c => (h c).2, funext fun s => by
    rcases s with ⟨_, s | s⟩ <;> exact s.elim0⟩)
    (Cert.ReferenceIdeal.Value.run (F := Ideal) m ρ)

/-- The two constants that are given their exact values: minus and plus the reciprocal of the logarithm of two. -/
theorem preserves : Cert.preserves_Kernel_KernelIdeal :=
  ⟨IdealRules.named_const.statement Cert.KernelIdeal.κ "neg_log2e" .f32 0xBFB8AA3B#32 _ rfl,
   IdealRules.named_const.statement Cert.KernelIdeal.κ "log2e" .f32 0x3FB8AA3B#32 _ rfl⟩

/-- Both runs end with the attention of the arguments. -/
theorem attention : Cert.algebraic_KernelIdeal_ReferenceIdeal_pre_finite_logits (hPre_finite_logits := Cert.Stick.Finite.facts) := fun m g m' g' hpre hm => by
  have hq : ∀ (c : Dev Cert.KernelIdeal.nD) j, ∃ y : ℝ,
      m ((c.tc : Thread Cert.KernelIdeal.nD Cert.KernelIdeal.τ).loc Cert.KernelIdeal.main_arg0) j = (y : EReal) :=
    fun c => Cert.Stick.Finite.queries (h0 := Cert.Stick.Finite.facts) _ _ _ (congrFun (hpre c) ValueIdx.ix0)
  have hk : ∀ (c : Dev Cert.KernelIdeal.nD) j, ∃ y : ℝ,
      m ((c.tc : Thread Cert.KernelIdeal.nD Cert.KernelIdeal.τ).loc Cert.KernelIdeal.main_arg1) j = (y : EReal) :=
    fun c => Cert.Stick.Finite.keys (h0 := Cert.Stick.Finite.facts) _ _ _ (congrFun (hpre c) ValueIdx.ix0)
  refine ⟨Cert.Stick.Result.attV m, Cert.Stick.Result.run m hq hk g, ?_⟩
  refine (θ_run Cert.ReferenceIdeal.defs _ _).mono (fun _ h c => ⟨(h c).1.trans ?_, (h c).2⟩)
    (Cert.Stick.Ref.run m' g' (fun c j => (hm c).1 ▸ hq c j) (fun c j => (hm c).2.1 ▸ hk c j))
  rw [(hm c).1, (hm c).2.1, (hm c).2.2]
  rfl

/-- The reference of the projection leaves its arguments unchanged and has no semaphore at all. -/
theorem frame_reference2 : Cert.quiescent_Reference2Ideal := fun m ρ _ =>
  (θ_run Cert.Reference2Ideal.defs _ _).mono (fun _ h => ⟨fun c => (h c).2.2.2.2, funext fun s => by
    rcases s with ⟨_, s | s⟩ <;> exact s.elim0⟩)
    (Cert.Reference2Ideal.Value.run (F := Ideal) m ρ)

/-- Both runs end with the projections of the arguments. -/
theorem projections : Cert.algebraic_Kernel2Ideal_Reference2Ideal := fun m g m' g' _ hm => by
  refine ⟨_, _, _, _, Cert.Proj.run m g, (θ_run Cert.Reference2Ideal.defs _ _).mono (fun _ h c => ?_) (Cert.Proj.Ref.run m' g')⟩
  obtain ⟨h0, h1, h2⟩ := hm c
  have h := h c
  refine ⟨h.1.trans ?_, h.2.1.trans ?_, h.2.2.1.trans ?_, h.2.2.2.1.trans ?_, h.2.2.2.2⟩
  · rw [h0, h1, h2]
  · rw [h0, h1]
  · rw [h0, h1]
  · rw [h0, h1]

/-- The reference of the last step leaves its arguments unchanged and has no semaphore at all. -/
theorem frame_reference3 : Cert.quiescent_Reference3Ideal := fun m ρ _ =>
  (θ_run Cert.Reference3Ideal.defs _ _).mono (fun _ h => ⟨fun c => (h c).2, funext fun s => by
    rcases s with ⟨_, s | s⟩ <;> exact s.elim0⟩)
    (Cert.Reference3Ideal.Value.run (F := Ideal) m ρ)

/-- Both runs end with the normalised rows of the arguments. -/
theorem last_step : Cert.algebraic_Kernel3Ideal_Reference3Ideal := fun m g m' g' _ hm => by
  refine ⟨_, Cert.Post.run m g, (θ_run Cert.Reference3Ideal.defs _ _).mono (fun _ h c => ?_) (Cert.Post.Ref.run m' g')⟩
  obtain ⟨h0, h1, h2, h3, h4, h5⟩ := hm c
  refine ⟨(h c).1.trans ?_, (h c).2⟩
  rw [h0, h1, h2, h3, h4, h5]

/-- The reference of the shared keys and values leaves its arguments unchanged and has no semaphore at all. -/
theorem frame_reference4 : Cert.quiescent_Reference4Ideal := fun m ρ _ =>
  (θ_run Cert.Reference4Ideal.defs _ _).mono (fun _ h => ⟨fun c => (h c).2.2, funext fun s => by
    rcases s with ⟨_, s | s⟩ <;> exact s.elim0⟩)
    (Cert.Reference4Ideal.Value.run (F := Ideal) m ρ)

/-- The reference of the queries with positions leaves its arguments unchanged and has no semaphore at all. -/
theorem frame_reference5 : Cert.quiescent_Reference5Ideal := fun m ρ _ =>
  (θ_run Cert.Reference5Ideal.defs _ _).mono (fun _ h => ⟨fun c => (h c).2.2, funext fun s => by
    rcases s with ⟨_, s | s⟩ <;> exact s.elim0⟩)
    (Cert.Reference5Ideal.Value.run (F := Ideal) m ρ)

/-- Both sides turn the keys by the same angles. -/
theorem angles_eq : Cert.Kv.Ref.angles = Cert.Kv.angles := rfl

/-- Both runs end with the keys and the values of the arguments. -/
theorem shared_keys : Cert.algebraic_Kernel4Ideal_Reference4Ideal_pre_finite4 (hPre_finite4 := Cert.Kv.Finite.facts) := fun m g m' g' hpre hm => by
  have hx : ∀ (c : Dev Cert.Kernel4Ideal.nD) j, ∃ y : ℝ,
      m ((c.tc : Thread Cert.Kernel4Ideal.nD Cert.Kernel4Ideal.τ).loc Cert.Kernel4Ideal.main_arg0) j = (y : EReal) :=
    fun c => Cert.Kv.Finite.rows (h0 := Cert.Kv.Finite.facts) _ _ (congrFun (hpre c) ValueIdx.ix0)
  have hw : ∀ (c : Dev Cert.Kernel4Ideal.nD) j, ∃ y : ℝ,
      m ((c.tc : Thread Cert.Kernel4Ideal.nD Cert.Kernel4Ideal.τ).loc Cert.Kernel4Ideal.main_arg1) j = (y : EReal) :=
    fun c => Cert.Kv.Finite.weights (h0 := Cert.Kv.Finite.facts) _ _ (congrFun (hpre c) ValueIdx.ix0)
  refine ⟨_, _, Cert.Kv.run m hx hw g, (θ_run Cert.Reference4Ideal.defs _ _).mono (fun _ h c => ?_) (Cert.Kv.Ref.run m' g')⟩
  obtain ⟨h0, h1⟩ := hm c
  refine ⟨(h c).1.trans ?_, (h c).2.1.trans ?_, (h c).2.2⟩
  · rw [h0, h1, angles_eq]
  · rw [h0, h1]

/-- Both runs end with the queries and the gate of the arguments. -/
theorem turned_queries : Cert.algebraic_Kernel5Ideal_Reference5Ideal_pre_finite5 (hPre_finite5 := Cert.Turn.Finite.facts) := fun m g m' g' hpre hm => by
  have hx : ∀ (c : Dev Cert.Kernel5Ideal.nD) j, ∃ y : ℝ,
      m ((c.tc : Thread Cert.Kernel5Ideal.nD Cert.Kernel5Ideal.τ).loc Cert.Kernel5Ideal.main_arg0) j = (y : EReal) :=
    fun c => Cert.Turn.Finite.rows (h0 := Cert.Turn.Finite.facts) _ _ (congrFun (hpre c) ValueIdx.ix0)
  have hw : ∀ (c : Dev Cert.Kernel5Ideal.nD) j, ∃ y : ℝ,
      m ((c.tc : Thread Cert.Kernel5Ideal.nD Cert.Kernel5Ideal.τ).loc Cert.Kernel5Ideal.main_arg1) j = (y : EReal) :=
    fun c => Cert.Turn.Finite.weights (h0 := Cert.Turn.Finite.facts) _ _ (congrFun (hpre c) ValueIdx.ix0)
  refine ⟨_, _, Cert.Turn.run m hx hw g, (θ_run Cert.Reference5Ideal.defs _ _).mono (fun _ h c => ?_) (Cert.Turn.Ref.run m' g')⟩
  obtain ⟨h0, h1⟩ := hm c
  refine ⟨(h c).1.trans ?_, (h c).2.1.trans ?_, (h c).2.2⟩
  · rw [h0, h1, angles_eq]
  · rw [h0, h1]

theorem claim : Cert.Claim :=
  ⟨Cert.Kernel.Gen.facts, Cert.KernelIdeal.Gen.facts, Cert.ReferenceIdeal.Gen.facts, Cert.Kernel2.Gen.facts, Cert.Kernel2Ideal.Gen.facts,
   Cert.Reference2Ideal.Gen.facts, Cert.Kernel3.Gen.facts, Cert.Kernel3Ideal.Gen.facts, Cert.Reference3Ideal.Gen.facts,
   Cert.Kernel4.Gen.facts, Cert.Kernel4Ideal.Gen.facts, Cert.Reference4Ideal.Gen.facts, Cert.Kernel5.Gen.facts, Cert.Kernel5Ideal.Gen.facts, Cert.Reference5Ideal.Gen.facts,
   Cert.Stick.Finite.facts, Cert.Kv.Finite.facts, Cert.Turn.Finite.facts,
   fun m ρ _ => Cert.Kernel.Gen.frame m ρ, fun m ρ _ => Cert.KernelIdeal.Gen.frame m ρ, fun m ρ _ => Cert.KernelIdeal.Gen.frame m ρ,
   frame_reference, fun m ρ _ => frame_reference m ρ trivial,
   fun m ρ _ => Cert.Kernel2.Gen.frame m ρ, fun m ρ _ => Cert.Kernel2Ideal.Gen.frame m ρ, frame_reference2,
   fun m ρ _ => Cert.Kernel3.Gen.frame m ρ, fun m ρ _ => Cert.Kernel3Ideal.Gen.frame m ρ, frame_reference3,
   fun m ρ _ => Cert.Kernel4.Gen.frame m ρ, fun m ρ _ => Cert.Kernel4Ideal.Gen.frame m ρ, fun m ρ _ => Cert.Kernel4Ideal.Gen.frame m ρ,
   frame_reference4, fun m ρ _ => frame_reference4 m ρ trivial,
   fun m ρ _ => Cert.Kernel5.Gen.frame m ρ, fun m ρ _ => Cert.Kernel5Ideal.Gen.frame m ρ, fun m ρ _ => Cert.Kernel5Ideal.Gen.frame m ρ,
   frame_reference5, fun m ρ _ => frame_reference5 m ρ trivial,
   preserves, attention, trivial, projections, trivial, last_step, trivial, shared_keys, trivial, turned_queries⟩

end Cert.Proof

end
